-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite34 [hPre_finite34 : Cert.Pre_finite34.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))).1 = (fun _ => 1#1)
    ∧ (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))).2.1 = (fun _ => 1#1)
    ∧ (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))).2.2 = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite34 [hPre_finite34 : Cert.Pre_finite34.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2))).1 = (fun _ => 1#1)
    ∧ (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2))).2.1 = (fun _ => 1#1)
    ∧ (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Kernel34Ideal_pre_finite34 [hKernel34Ideal : Cert.Kernel34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite34 m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Reference34Ideal_pre_finite34 [hReference34Ideal : Cert.Reference34Ideal.Facts] [hPre_finite34 : Cert.Pre_finite34.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite34 m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v83) = v1 c
          ∧ r.2.mem ((c.tc : Thread Cert.Reference4Ideal.nD Cert.Reference4Ideal.τ).loc Cert.Reference4Ideal.main_v60) = v2 c
          ∧ r.2.mem ((c.tc : Thread Cert.Reference4Ideal.nD Cert.Reference4Ideal.τ).loc Cert.Reference4Ideal.main_v63) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v21) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v17) = v1 c
          ∧ r.2.mem ((c.tc : Thread Cert.Reference18Ideal.nD Cert.Reference18Ideal.τ).loc Cert.Reference18Ideal.main_v32) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v2_0)) (v1 : (c : Dev Cert.Kernel28Ideal.nD) → Buf (Elt Ideal) ((c.tc : Thread Cert.Kernel28Ideal.nD Cert.Kernel28Ideal.τ).loc Cert.Kernel28Ideal.main_v2_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2_0) = v0 c
          ∧ r.2.mem ((c.tc : Thread Cert.Kernel28Ideal.nD Cert.Kernel28Ideal.τ).loc Cert.Kernel28Ideal.main_v2_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v39) = v0 c
          ∧ r.2.mem ((c.tc : Thread Cert.Reference28Ideal.nD Cert.Reference28Ideal.τ).loc Cert.Reference28Ideal.main_v22) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v2_0)) (v1 : (c : Dev Cert.Kernel29Ideal.nD) → Buf (Elt Ideal) ((c.tc : Thread Cert.Kernel29Ideal.nD Cert.Kernel29Ideal.τ).loc Cert.Kernel29Ideal.main_v2_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2_0) = v0 c
          ∧ r.2.mem ((c.tc : Thread Cert.Kernel29Ideal.nD Cert.Kernel29Ideal.τ).loc Cert.Kernel29Ideal.main_v2_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v42) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v3) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v20) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  IdealRules.named_const.Statement Cert.Kernel34Ideal.κ "mask" .f32 0xF149F2CA#32 ⊥

def algebraic_Kernel34Ideal_Reference34Ideal_pre_finite34 [hKernel34Ideal : Cert.Kernel34Ideal.Facts] [hReference34Ideal : Cert.Reference34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite34 m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v3_0)) (v1 : (c : Dev Cert.Kernel34Ideal.nD) → Buf (Elt Ideal) ((c.tc : Thread Cert.Kernel34Ideal.nD Cert.Kernel34Ideal.τ).loc Cert.Kernel34Ideal.main_v3_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v3_0) = v0 c
          ∧ r.2.mem ((c.tc : Thread Cert.Kernel34Ideal.nD Cert.Kernel34Ideal.τ).loc Cert.Kernel34Ideal.main_v3_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v36) = v0 c
          ∧ r.2.mem ((c.tc : Thread Cert.Reference34Ideal.nD Cert.Reference34Ideal.τ).loc Cert.Reference34Ideal.main_v39) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts) (hPre_finite34 : Cert.Pre_finite34.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Kernel34Ideal_pre_finite34 (hKernel34Ideal := hKernel34Ideal) (hPre_finite34 := hPre_finite34)
    ∧ quiescent_Reference34Ideal (hReference34Ideal := hReference34Ideal)
    ∧ quiescent_Reference34Ideal_pre_finite34 (hReference34Ideal := hReference34Ideal) (hPre_finite34 := hPre_finite34)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal_pre_finite34 (hKernel34Ideal := hKernel34Ideal) (hReference34Ideal := hReference34Ideal) (hPre_finite34 := hPre_finite34)
-- ==== Pre_finite.lean ====
abbrev S2048x1024 : Shape := ⟨2, ![2048, 1024]⟩
abbrev S256x1024 : Shape := ⟨2, ![256, 1024]⟩
abbrev S_ : Shape := ⟨0, ![]⟩

class Facts : Prop where
  bcast_S_S2048x1024 : S_.BroadcastsInDim S2048x1024 (![] : Fin 0 → Fin S2048x1024.rank)
  bcast_S_S256x1024 : S_.BroadcastsInDim S256x1024 (![] : Fin 0 → Fin S256x1024.rank)

variable [Facts]

def fn {F : FTy → Type} [FloatOps F] (main_arg0 : FVec F S2048x1024 .f32) (main_arg1 : FVec F S256x1024 .f32) (main_arg2 : FVec F S256x1024 .f32) (main_arg3 : FVec F S2048x1024 .f32) : IVec S2048x1024 1 × IVec S256x1024 1 × IVec S256x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_finite34.lean ====
abbrev S2048x2048 : Shape := ⟨2, ![2048, 2048]⟩
abbrev S2048x1024 : Shape := ⟨2, ![2048, 1024]⟩
abbrev S_ : Shape := ⟨0, ![]⟩

class Facts : Prop where
  bcast_S_S2048x2048 : S_.BroadcastsInDim S2048x2048 (![] : Fin 0 → Fin S2048x2048.rank)
  bcast_S_S2048x1024 : S_.BroadcastsInDim S2048x1024 (![] : Fin 0 → Fin S2048x1024.rank)

variable [Facts]

def fn {F : FTy → Type} [FloatOps F] (main_arg0 : FVec F S2048x2048 .f32) (main_arg1 : FVec F S2048x2048 .f32) (main_arg2 : FVec F S2048x1024 .f32) : IVec S2048x2048 1 × IVec S2048x2048 1 × IVec S2048x1024 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Kernel.lean ====
abbrev S2048x1024 : Shape := ⟨2, ![2048, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .f32⟩
  | .hbm, ⟨3, _⟩ => ⟨S2048x1024, .f32⟩
  | .hbm, ⟨4, _⟩ => ⟨S2048x1024, .bf16⟩
  | .hbm, ⟨5, _⟩ => ⟨S256x1024, .bf16⟩
  | .hbm, ⟨6, _⟩ => ⟨S256x1024, .bf16⟩
  | .hbm, ⟨7, _⟩ => ⟨S2048x1024, .bf16⟩
  | .hbm, ⟨8, _⟩ => ⟨S2048x1024, .bf16⟩
  | .hbm, ⟨9, _⟩ => ⟨S256x1024, .f32⟩
  | .hbm, ⟨10, _⟩ => ⟨S256x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x1024 : Shape := ⟨2, ![2048, 1024]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .f32⟩
  | .hbm, ⟨3, _⟩ => ⟨S2048x1024, .f32⟩
  | .hbm, ⟨4, _⟩ => ⟨S2048x4x256, .f32⟩
  | .hbm, ⟨5, _⟩ => ⟨S256x4x256, .f32⟩
  | .hbm, ⟨6, _⟩ => ⟨S256x4x256, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S4x2048x256, .f32⟩
  | .hbm, ⟨15, _⟩ => ⟨S4x2048x256, .i1⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .i1⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x256x2048, .f32⟩
  | .hbm, ⟨50, _⟩ => ⟨S2048x4x256, .f32⟩
  | .hbm, ⟨51, _⟩ => ⟨S2048x1024, .f32⟩
  | .hbm, ⟨52, _⟩ => ⟨S2048x4x256, .f32⟩
  | .hbm, ⟨53, _⟩ => ⟨S4x256x2048, .f32⟩
  | .hbm, ⟨54, _⟩ => ⟨S4x2048x256, .f32⟩
  | .hbm, ⟨55, _⟩ => ⟨S4x256x256, .f32⟩
  | .hbm, ⟨56, _⟩ => ⟨S256x4x256, .f32⟩
  | .hbm, ⟨57, _⟩ => ⟨S4x2048x256, .f32⟩
  | .hbm, ⟨58, _⟩ => ⟨S4x2048x256, .f32⟩
  | .hbm, ⟨59, _⟩ => ⟨S4x2048x256, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S4x2048x1, .f32⟩
  | .hbm, ⟨64, _⟩ => ⟨S4x2048x256, .f32⟩
  | .hbm, ⟨65, _⟩ => ⟨S4x2048x256, .f32⟩
  | .hbm, ⟨66, _⟩ => ⟨S_, .f32⟩
  | .hbm, ⟨67, _⟩ => ⟨S4x2048, .f32⟩
  | .hbm, ⟨68, _⟩ => ⟨S4x2048x256, .f32⟩
  | .hbm, ⟨69, _⟩ => ⟨S4x2048x256, .f32⟩
  | .hbm, ⟨70, _⟩ => ⟨S4x2048x256, .f32⟩
  | .hbm, ⟨71, _⟩ => ⟨S_, .f32⟩
  | .hbm, ⟨72, _⟩ => ⟨S4x2048x256, .f32⟩
  | .hbm, ⟨73, _⟩ => ⟨S4x2048x256, .f32⟩
  | .hbm, ⟨74, _⟩ => ⟨S4x256x256, .f32⟩
  | .hbm, ⟨75, _⟩ => ⟨S256x4x256, .f32⟩
  | .hbm, ⟨76, _⟩ => ⟨S4x2048x256, .f32⟩
  | .hbm, ⟨77, _⟩ => ⟨S2048x4x256, .f32⟩
  | .hbm, ⟨78, _⟩ => ⟨S256x1024, .f32⟩
  | .hbm, ⟨79, _⟩ => ⟨S256x1024, .f32⟩
  | .hbm, ⟨80, _⟩ => ⟨S2048x1024, .f32⟩
  | .hbm, ⟨81, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel2.lean ====
abbrev S2048x2816 : Shape := ⟨2, ![2048, 2816]⟩
abbrev S1024x2816 : Shape := ⟨2, ![1024, 2816]⟩
abbrev S2048x1024 : Shape := ⟨2, ![2048, 1024]⟩
abbrev S4x1x1024 : Shape := ⟨3, ![4, 1, 1024]⟩
abbrev S1x1024 : Shape := ⟨2, ![1, 1024]⟩
abbrev S256x2816 : Shape := ⟨2, ![256, 2816]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S4x1x1024, .f32⟩
  | .hbm, ⟨7, _⟩ => ⟨S2048x2816, .bf16⟩
  | .hbm, ⟨8, _⟩ => ⟨S2048x2816, .bf16⟩
  | .hbm, ⟨9, _⟩ => ⟨S1024x2816, .bf16⟩
  | .hbm, ⟨10, _⟩ => ⟨S1024x2816, .bf16⟩
  | .hbm, ⟨11, _⟩ => ⟨S2048x1024, .f32⟩
  | .hbm, ⟨12, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S1024x2816, .bf16⟩
  | .local _ .vmem, ⟨3, _⟩ => ⟨S256x2816, .bf16⟩
  | .local _ .vmem, ⟨4, _⟩ => ⟨S256x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference2Ideal.lean ====
abbrev S2048x2816 : Shape := ⟨2, ![2048, 2816]⟩
abbrev S1024x2816 : Shape := ⟨2, ![1024, 2816]⟩
abbrev S2048x1024 : Shape := ⟨2, ![2048, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S4x1x1024, .f32⟩
  | .hbm, ⟨7, _⟩ => ⟨S1x1x1024, .f32⟩
  | .hbm, ⟨8, _⟩ => ⟨S1x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x2816, .f32⟩
  | .hbm, ⟨29, _⟩ => ⟨S2048x2816, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel3.lean ====
abbrev S2048x1024 : Shape := ⟨2, ![2048, 1024]⟩
abbrev S2048x2048 : Shape := ⟨2, ![2048, 2048]⟩
abbrev S2048x384 : Shape := ⟨2, ![2048, 384]⟩
abbrev S2048x128 : Shape := ⟨2, ![2048, 128]⟩
abbrev S2048x256 : Shape := ⟨2, ![2048, 256]⟩
abbrev S1024x3840 : Shape := ⟨2, ![1024, 3840]⟩
abbrev S4x1x1024 : Shape := ⟨3, ![4, 1, 1024]⟩
abbrev S1x1024 : Shape := ⟨2, ![1, 1024]⟩
abbrev S256x1024 : Shape := ⟨2, ![256, 1024]⟩
abbrev S1024x1024 : Shape := ⟨2, ![1024, 1024]⟩
abbrev S256x384 : Shape := ⟨2, ![256, 384]⟩
abbrev S1024x384 : Shape := ⟨2, ![1024, 384]⟩
abbrev S256x128 : Shape := ⟨2, ![256, 128]⟩
abbrev S1024x128 : Shape := ⟨2, ![1024, 128]⟩
abbrev S256x256 : Shape := ⟨2, ![256, 256]⟩
abbrev S1024x256 : Shape := ⟨2, ![1024, 256]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x384, .f32⟩
  | .hbm, ⟨3, _⟩ => ⟨S2048x128, .f32⟩
  | .hbm, ⟨4, _⟩ => ⟨S2048x256, .f32⟩
  | .hbm, ⟨5, _⟩ => ⟨S1024x3840, .f32⟩
  | .hbm, ⟨6, _⟩ => ⟨S2048x1024, .f32⟩
  | .hbm, ⟨7, _⟩ => ⟨S2048x1024, .f32⟩
  | .hbm, ⟨8, _⟩ => ⟨S4x1x1024, .f32⟩
  | .hbm, ⟨9, _⟩ => ⟨S2048x1024, .bf16⟩
  | .hbm, ⟨10, _⟩ => ⟨S2048x2048, .bf16⟩
  | .hbm, ⟨11, _⟩ => ⟨S2048x384, .bf16⟩
  | .hbm, ⟨12, _⟩ => ⟨S2048x128, .bf16⟩
  | .hbm, ⟨13, _⟩ => ⟨S2048x256, .bf16⟩
  | .hbm, ⟨14, _⟩ => ⟨S1024x3840, .bf16⟩
  | .hbm, ⟨15, _⟩ => ⟨S2048x1024, .f32⟩
  | .hbm, ⟨16, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S256x384, .bf16⟩
  | .local _ .vmem, ⟨10, _⟩ => ⟨S256x384, .bf16⟩
  | .local _ .vmem, ⟨11, _⟩ => ⟨S1024x384, .bf16⟩
  | .local _ .vmem, ⟨12, _⟩ => ⟨S256x128, .bf16⟩
  | .local _ .vmem, ⟨13, _⟩ => ⟨S256x128, .bf16⟩
  | .local _ .vmem, ⟨14, _⟩ => ⟨S1024x128, .bf16⟩
  | .local _ .vmem, ⟨15, _⟩ => ⟨S256x256, .bf16⟩
  | .local _ .vmem, ⟨16, _⟩ => ⟨S256x256, .bf16⟩
  | .local _ .vmem, ⟨17, _⟩ => ⟨S1024x256, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  ![v0.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c8_i32 : BitVec 32 := 8#32
  let c0_i32_0 : BitVec 32 := 0#32
  ![v0.toNat, c8_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c27_i32 : BitVec 32 := 27#32
  let c0_i32_0 : BitVec 32 := 0#32
  ![v0.toNat, c27_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c14_i32 : BitVec 32 := 14#32
  let c0_i32_0 : BitVec 32 := 0#32
  ![v0.toNat, c14_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Reference3Ideal.lean ====
abbrev S2048x1024 : Shape := ⟨2, ![2048, 1024]⟩
abbrev S2048x2048 : Shape := ⟨2, ![2048, 2048]⟩
abbrev S2048x384 : Shape := ⟨2, ![2048, 384]⟩
abbrev S2048x128 : Shape := ⟨2, ![2048, 128]⟩
abbrev S2048x256 : Shape := ⟨2, ![2048, 256]⟩
abbrev S1024x3840 : Shape := ⟨2, ![1024, 3840]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x3840 : Shape := ⟨2, ![2048, 3840]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x384, .f32⟩
  | .hbm, ⟨3, _⟩ => ⟨S2048x128, .f32⟩
  | .hbm, ⟨4, _⟩ => ⟨S2048x256, .f32⟩
  | .hbm, ⟨5, _⟩ => ⟨S1024x3840, .f32⟩
  | .hbm, ⟨6, _⟩ => ⟨S2048x1024, .f32⟩
  | .hbm, ⟨7, _⟩ => ⟨S2048x1024, .f32⟩
  | .hbm, ⟨8, _⟩ => ⟨S4x1x1024, .f32⟩
  | .hbm, ⟨9, _⟩ => ⟨S1x1x1024, .f32⟩
  | .hbm, ⟨10, _⟩ => ⟨S1x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x3840, .f32⟩
  | .hbm, ⟨31, _⟩ => ⟨S2048x3840, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Kernel4.lean ====
abbrev S2048x1024 : Shape := ⟨2, ![2048, 1024]⟩
abbrev S2048x3840 : Shape := ⟨2, ![2048, 3840]⟩
abbrev S4x1x1024 : Shape := ⟨3, ![4, 1, 1024]⟩
abbrev S1x1024 : Shape := ⟨2, ![1, 1024]⟩
abbrev S256x1024 : Shape := ⟨2, ![256, 1024]⟩
abbrev S1x1x1024 : Shape := ⟨3, ![1, 1, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x3840, .f32⟩
  | .hbm, ⟨4, _⟩ => ⟨S2048x1024, .f32⟩
  | .hbm, ⟨5, _⟩ => ⟨S4x1x1024, .f32⟩
  | .hbm, ⟨6, _⟩ => ⟨S4x1x1024, .f32⟩
  | .hbm, ⟨7, _⟩ => ⟨S2048x1024, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1x1024, .f32⟩
  | .local _ .vmem, ⟨10, _⟩ => ⟨S1x1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference4Ideal.lean ====
abbrev S2048x1024 : Shape := ⟨2, ![2048, 1024]⟩
abbrev S2048x3840 : Shape := ⟨2, ![2048, 3840]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S1024 : Shape := ⟨1, ![1024]⟩

abbrev nBuf : Space → Nat
  | .hbm => 122
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x3840, .f32⟩
  | .hbm, ⟨4, _⟩ => ⟨S2048x1024, .f32⟩
  | .hbm, ⟨5, _⟩ => ⟨S4x1x1024, .f32⟩
  | .hbm, ⟨6, _⟩ => ⟨S4x1x1024, .f32⟩
  | .hbm, ⟨7, _⟩ => ⟨S2048x1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x2048, .f32⟩
  | .hbm, ⟨65, _⟩ => ⟨S2048x1024, .f32⟩
  | .hbm, ⟨66, _⟩ => ⟨S2048x2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S_, .f32⟩
  | .hbm, ⟨86, _⟩ => ⟨S2048, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S_, .f32⟩
  | .hbm, ⟨100, _⟩ => ⟨S2048, .f32⟩
  | .hbm, ⟨101, _⟩ => ⟨S2048x1, .f32⟩
  | .hbm, ⟨102, _⟩ => ⟨S2048x1024, .f32⟩
  | .hbm, ⟨103, _⟩ => ⟨S2048x1024, .f32⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | .hbm, ⟨108, _⟩ => ⟨S_, .f32⟩
  | .hbm, ⟨109, _⟩ => ⟨S2048, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x1024, .f32⟩
  | .hbm, ⟨115, _⟩ => ⟨S2048x1024, .f32⟩
  | .hbm, ⟨116, _⟩ => ⟨S2048x1024, .f32⟩
  | .hbm, ⟨117, _⟩ => ⟨S2048x1024, .f32⟩
  | .hbm, ⟨118, _⟩ => ⟨S2048x1024, .f32⟩
  | .hbm, ⟨119, _⟩ => ⟨S2048x1024, .f32⟩
  | .hbm, ⟨120, _⟩ => ⟨S2048x1024, .f32⟩
  | .hbm, ⟨121, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v5_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v5_1 : Ref sig .tc := ⟨.hbm, 23, rfl⟩
abbrev main_v5_0 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v82 : Ref sig .tc := ⟨.hbm, 120, rfl⟩
abbrev main_v83 : Ref sig .tc := ⟨.hbm, 121, rfl⟩

abbrev nD : Nat := 1
abbrev τ : Topo := Topo.v7x

variable {F : FTy → Type} [FloatOps F]
-- ==== Kernel5.lean ====
abbrev S2048x1024 : Shape := ⟨2, ![2048, 1024]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2816x1024, .bf16⟩
  | .hbm, ⟨3, _⟩ => ⟨S2048x2816, .bf16⟩
  | .local _ .vmem, ⟨0, _⟩ => ⟨S2048x1024, .f32⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S_, .f32⟩
  | .hbm, ⟨3, _⟩ => ⟨S2048x2816, .f32⟩
  | .hbm, ⟨4, _⟩ => ⟨S2048x1024, .f32⟩
  | .hbm, ⟨5, _⟩ => ⟨S2048x2816, .f32⟩
  | .hbm, ⟨6, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x1024 : Shape := ⟨2, ![2048, 1024]⟩
abbrev S2048x2816 : Shape := ⟨2, ![2048, 2816]⟩
abbrev S1024x2816 : Shape := ⟨2, ![1024, 2816]⟩
abbrev S2048x1408 : Shape := ⟨2, ![2048, 1408]⟩
abbrev S1024x1408 : Shape := ⟨2, ![1024, 1408]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x1024, .bf16⟩
  | .hbm, ⟨3, _⟩ => ⟨S2048x2816, .bf16⟩
  | .hbm, ⟨4, _⟩ => ⟨S1024x2816, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S_, .f32⟩
  | .hbm, ⟨3, _⟩ => ⟨S1024x2816, .f32⟩
  | .hbm, ⟨4, _⟩ => ⟨S2048x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .bf16⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference10Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S4x1x1024, .f32⟩
  | .hbm, ⟨5, _⟩ => ⟨S2048x1024, .bf16⟩
  | .hbm, ⟨6, _⟩ => ⟨S1024x1024, .bf16⟩
  | .hbm, ⟨7, _⟩ => ⟨S2048x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference13Ideal.lean ====
abbrev S2048x1024 : Shape := ⟨2, ![2048, 1024]⟩
abbrev S1024x1024 : Shape := ⟨2, ![1024, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S4x1x1024, .f32⟩
  | .hbm, ⟨5, _⟩ => ⟨S1x1x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel14.lean ====
abbrev S2048x1024 : Shape := ⟨2, ![2048, 1024]⟩
abbrev S1024x2816 : Shape := ⟨2, ![1024, 2816]⟩
abbrev S2048x2816 : Shape := ⟨2, ![2048, 2816]⟩
abbrev S1024x256 : Shape := ⟨2, ![1024, 256]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x1024, .bf16⟩
  | .hbm, ⟨3, _⟩ => ⟨S1024x2816, .bf16⟩
  | .hbm, ⟨4, _⟩ => ⟨S2048x2816, .f32⟩
  | .local _ .vmem, ⟨0, _⟩ => ⟨S2048x1024, .bf16⟩
  | .local _ .vmem, ⟨1, _⟩ => ⟨S1024x256, .bf16⟩
  | .local _ .vmem, ⟨2, _⟩ => ⟨S1024x256, .bf16⟩
  | .local _ .vmem, ⟨3, _⟩ => ⟨S2048x256, .f32⟩
  | .local _ .vmem, ⟨4, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S1024x2816 : Shape := ⟨2, ![1024, 2816]⟩
abbrev S2048x2816 : Shape := ⟨2, ![2048, 2816]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S2048x2048 : Shape := ⟨2, ![2048, 2048]⟩
abbrev S2048x1024 : Shape := ⟨2, ![2048, 1024]⟩
abbrev S4x1x1024 : Shape := ⟨3, ![4, 1, 1024]⟩
abbrev S512x2048 : Shape := ⟨2, ![512, 2048]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S4x1x1024, .f32⟩
  | .hbm, ⟨4, _⟩ => ⟨S2048x2048, .bf16⟩
  | .hbm, ⟨5, _⟩ => ⟨S2048x1024, .bf16⟩
  | .hbm, ⟨6, _⟩ => ⟨S2048x1024, .f32⟩
  | .hbm, ⟨7, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S2048x2048 : Shape := ⟨2, ![2048, 2048]⟩
abbrev S2048x1024 : Shape := ⟨2, ![2048, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S4x1x1024, .f32⟩
  | .hbm, ⟨4, _⟩ => ⟨S2048x1024, .f32⟩
  | .hbm, ⟨5, _⟩ => ⟨S2048x1024, .f32⟩
  | .hbm, ⟨6, _⟩ => ⟨S1x1x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S4x1x1024, .f32⟩
  | .hbm, ⟨4, _⟩ => ⟨S2048x1024, .bf16⟩
  | .hbm, ⟨5, _⟩ => ⟨S1024x1024, .bf16⟩
  | .hbm, ⟨6, _⟩ => ⟨S2048x1024, .f32⟩
  | .hbm, ⟨7, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference16Ideal.lean ====
abbrev S2048x1024 : Shape := ⟨2, ![2048, 1024]⟩
abbrev S1024x1024 : Shape := ⟨2, ![1024, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S4x1x1024, .f32⟩
  | .hbm, ⟨4, _⟩ => ⟨S2048x1024, .f32⟩
  | .hbm, ⟨5, _⟩ => ⟨S2048x1024, .f32⟩
  | .hbm, ⟨6, _⟩ => ⟨S1x1x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel17.lean ====
abbrev S2048x2816 : Shape := ⟨2, ![2048, 2816]⟩
abbrev S2816x1024 : Shape := ⟨2, ![2816, 1024]⟩
abbrev S2048x1024 : Shape := ⟨2, ![2048, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S4x1x1024, .f32⟩
  | .hbm, ⟨4, _⟩ => ⟨S2048x2816, .bf16⟩
  | .hbm, ⟨5, _⟩ => ⟨S2816x1024, .bf16⟩
  | .hbm, ⟨6, _⟩ => ⟨S2048x1024, .f32⟩
  | .hbm, ⟨7, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference17Ideal.lean ====
abbrev S2048x2816 : Shape := ⟨2, ![2048, 2816]⟩
abbrev S2816x1024 : Shape := ⟨2, ![2816, 1024]⟩
abbrev S2048x1024 : Shape := ⟨2, ![2048, 1024]⟩
abbrev S4x1x1024 : Shape := ⟨3, ![4, 1, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S4x1x1024, .f32⟩
  | .hbm, ⟨4, _⟩ => ⟨S2048x1024, .f32⟩
  | .hbm, ⟨5, _⟩ => ⟨S2048x1024, .f32⟩
  | .hbm, ⟨6, _⟩ => ⟨S1x1x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel18.lean ====
abbrev S2048x1024 : Shape := ⟨2, ![2048, 1024]⟩
abbrev S1024x3840 : Shape := ⟨2, ![1024, 3840]⟩
abbrev S4x1x384 : Shape := ⟨3, ![4, 1, 384]⟩
abbrev S4x1x256 : Shape := ⟨3, ![4, 1, 256]⟩
abbrev S2048x3840 : Shape := ⟨2, ![2048, 3840]⟩
abbrev S2048x384 : Shape := ⟨2, ![2048, 384]⟩
abbrev S2048x256 : Shape := ⟨2, ![2048, 256]⟩
abbrev S1024x768 : Shape := ⟨2, ![1024, 768]⟩
abbrev S1x1x384 : Shape := ⟨3, ![1, 1, 384]⟩
abbrev S1x1x256 : Shape := ⟨3, ![1, 1, 256]⟩
abbrev S2048x768 : Shape := ⟨2, ![2048, 768]⟩
abbrev S1x384 : Shape := ⟨2, ![1, 384]⟩
abbrev S1x256 : Shape := ⟨2, ![1, 256]⟩
abbrev S2048 : Shape := ⟨1, ![2048]⟩
abbrev S2048x1 : Shape := ⟨2, ![2048, 1]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x3840, .f32⟩
  | .hbm, ⟨2, _⟩ => ⟨S4x1x384, .f32⟩
  | .hbm, ⟨3, _⟩ => ⟨S4x1x256, .f32⟩
  | .hbm, ⟨4, _⟩ => ⟨S2048x1024, .bf16⟩
  | .hbm, ⟨5, _⟩ => ⟨S1024x3840, .bf16⟩
  | .hbm, ⟨6, _⟩ => ⟨S2048x3840, .f32⟩
  | .hbm, ⟨7, _⟩ => ⟨S2048x384, .bf16⟩
  | .hbm, ⟨8, _⟩ => ⟨S2048x256, .bf16⟩
  | .local _ .vmem, ⟨0, _⟩ => ⟨S2048x1024, .bf16⟩
  | .local _ .vmem, ⟨1, _⟩ => ⟨S1024x768, .bf16⟩
  | .local _ .vmem, ⟨2, _⟩ => ⟨S1024x768, .bf16⟩
  | .local _ .vmem, ⟨3, _⟩ => ⟨S1x1x384, .f32⟩
  | .local _ .vmem, ⟨4, _⟩ => ⟨S1x1x256, .f32⟩
  | .local _ .vmem, ⟨5, _⟩ => ⟨S2048x768, .f32⟩
  | .local _ .vmem, ⟨6, _⟩ => ⟨S2048x768, .f32⟩
  | .local _ .vmem, ⟨7, _⟩ => ⟨S2048x384, .bf16⟩
  | .local _ .vmem, ⟨8, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c4_i32 : BitVec 32 := 4#32
  let v10 : BitVec 1 := Scalar.cmpi .eq arg1 c4_i32
  let v11 : BitVec 32 := Scalar.extui v10
  let c0_i32 : BitVec 32 := 0#32
  let v12 : BitVec 1 := Scalar.cmpi .ne v11 c0_i32
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference18Ideal.lean ====
abbrev S2048x1024 : Shape := ⟨2, ![2048, 1024]⟩
abbrev S1024x3840 : Shape := ⟨2, ![1024, 3840]⟩
abbrev S4x1x384 : Shape := ⟨3, ![4, 1, 384]⟩
abbrev S4x1x256 : Shape := ⟨3, ![4, 1, 256]⟩
abbrev S2048x3840 : Shape := ⟨2, ![2048, 3840]⟩
abbrev S2048x384 : Shape := ⟨2, ![2048, 384]⟩
abbrev S2048x256 : Shape := ⟨2, ![2048, 256]⟩
abbrev S1x1x384 : Shape := ⟨3, ![1, 1, 384]⟩
abbrev S1x384 : Shape := ⟨2, ![1, 384]⟩
abbrev S_ : Shape := ⟨0, ![]⟩
abbrev S2048 : Shape := ⟨1, ![2048]⟩
abbrev S2048x1 : Shape := ⟨2, ![2048, 1]⟩
abbrev S1x1x256 : Shape := ⟨3, ![1, 1, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3840, .f32⟩
  | .hbm, ⟨2, _⟩ => ⟨S4x1x384, .f32⟩
  | .hbm, ⟨3, _⟩ => ⟨S4x1x256, .f32⟩
  | .hbm, ⟨4, _⟩ => ⟨S2048x3840, .f32⟩
  | .hbm, ⟨5, _⟩ => ⟨S2048x384, .f32⟩
  | .hbm, ⟨6, _⟩ => ⟨S2048x256, .f32⟩
  | .hbm, ⟨7, _⟩ => ⟨S1x1x384, .f32⟩
  | .hbm, ⟨8, _⟩ => ⟨S1x384, .f32⟩
  | .hbm, ⟨9, _⟩ => ⟨S2048x384, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x384, .f32⟩
  | .hbm, ⟨21, _⟩ => ⟨S2048x384, .f32⟩
  | .hbm, ⟨22, _⟩ => ⟨S2048x384, .f32⟩
  | .hbm, ⟨23, _⟩ => ⟨S2048x384, .f32⟩
  | .hbm, ⟨24, _⟩ => ⟨S2048x384, .bf16⟩
  | .hbm, ⟨25, _⟩ => ⟨S1x1x256, .f32⟩
  | .hbm, ⟨26, _⟩ => ⟨S1x256, .f32⟩
  | .hbm, ⟨27, _⟩ => ⟨S2048x256, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S2048x384 : Shape := ⟨2, ![2048, 384]⟩
abbrev S2048x2048 : Shape := ⟨2, ![2048, 2048]⟩
abbrev S384x2048 : Shape := ⟨2, ![384, 2048]⟩
abbrev S2048x1024 : Shape := ⟨2, ![2048, 1024]⟩
abbrev S384x1024 : Shape := ⟨2, ![384, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x384, .f32⟩
  | .hbm, ⟨1, _⟩ => ⟨S2048x2048, .f32⟩
  | .hbm, ⟨2, _⟩ => ⟨S2048x384, .bf16⟩
  | .hbm, ⟨3, _⟩ => ⟨S2048x2048, .bf16⟩
  | .hbm, ⟨4, _⟩ => ⟨S384x2048, .bf16⟩
  | .local _ .vmem, ⟨0, _⟩ => ⟨S2048x384, .bf16⟩
  | .local _ .vmem, ⟨1, _⟩ => ⟨S2048x1024, .bf16⟩
  | .local _ .vmem, ⟨2, _⟩ => ⟨S2048x1024, .bf16⟩
  | .local _ .vmem, ⟨3, _⟩ => ⟨S384x1024, .bf16⟩
  | .local _ .vmem, ⟨4, _⟩ => ⟨S384x1024, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S2048x384 : Shape := ⟨2, ![2048, 384]⟩
abbrev S2048x2048 : Shape := ⟨2, ![2048, 2048]⟩
abbrev S_ : Shape := ⟨0, ![]⟩
abbrev S384x2048 : Shape := ⟨2, ![384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x2048, .f32⟩
  | .hbm, ⟨2, _⟩ => ⟨S_, .f32⟩
  | .hbm, ⟨3, _⟩ => ⟨S384x2048, .f32⟩
  | .hbm, ⟨4, _⟩ => ⟨S2048x2048, .f32⟩
  | .hbm, ⟨5, _⟩ => ⟨S2048x384, .f32⟩
  | .hbm, ⟨6, _⟩ => ⟨S384x2048, .f32⟩
  | .hbm, ⟨7, _⟩ => ⟨S384x2048, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S2048x256 : Shape := ⟨2, ![2048, 256]⟩
abbrev S2048x2048 : Shape := ⟨2, ![2048, 2048]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S256x2048, .bf16⟩
  | .local _ .vmem, ⟨0, _⟩ => ⟨S2048x256, .bf16⟩
  | .local _ .vmem, ⟨1, _⟩ => ⟨S2048x512, .f32⟩
  | .local _ .vmem, ⟨2, _⟩ => ⟨S2048x512, .f32⟩
  | .local _ .vmem, ⟨3, _⟩ => ⟨S256x512, .bf16⟩
  | .local _ .vmem, ⟨4, _⟩ => ⟨S256x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S2048x256 : Shape := ⟨2, ![2048, 256]⟩
abbrev S2048x1024 : Shape := ⟨2, ![2048, 1024]⟩
abbrev S256x1024 : Shape := ⟨2, ![256, 1024]⟩
abbrev S2048x512 : Shape := ⟨2, ![2048, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S2048x256, .bf16⟩
  | .hbm, ⟨3, _⟩ => ⟨S256x1024, .bf16⟩
  | .local _ .vmem, ⟨0, _⟩ => ⟨S2048x256, .bf16⟩
  | .local _ .vmem, ⟨1, _⟩ => ⟨S2048x512, .f32⟩
  | .local _ .vmem, ⟨2, _⟩ => ⟨S2048x512, .f32⟩
  | .local _ .vmem, ⟨3, _⟩ => ⟨S256x512, .bf16⟩
  | .local _ .vmem, ⟨4, _⟩ => ⟨S256x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S2048x1024 : Shape := ⟨2, ![2048, 1024]⟩
abbrev S2048x384 : Shape := ⟨2, ![2048, 384]⟩
abbrev S1024x384 : Shape := ⟨2, ![1024, 384]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x384, .f32⟩
  | .hbm, ⟨2, _⟩ => ⟨S2048x1024, .bf16⟩
  | .hbm, ⟨3, _⟩ => ⟨S2048x384, .bf16⟩
  | .hbm, ⟨4, _⟩ => ⟨S1024x384, .bf16⟩
  | .local _ .vmem, ⟨0, _⟩ => ⟨S2048x1024, .bf16⟩
  | .local _ .vmem, ⟨1, _⟩ => ⟨S2048x384, .bf16⟩
  | .local _ .vmem, ⟨2, _⟩ => ⟨S1024x384, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference23Ideal.lean ====
abbrev S2048x1024 : Shape := ⟨2, ![2048, 1024]⟩
abbrev S2048x384 : Shape := ⟨2, ![2048, 384]⟩
abbrev S_ : Shape := ⟨0, ![]⟩
abbrev S1024x384 : Shape := ⟨2, ![1024, 384]⟩
abbrev S384x1024 : Shape := ⟨2, ![384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x384, .f32⟩
  | .hbm, ⟨2, _⟩ => ⟨S_, .f32⟩
  | .hbm, ⟨3, _⟩ => ⟨S1024x384, .f32⟩
  | .hbm, ⟨4, _⟩ => ⟨S2048x384, .f32⟩
  | .hbm, ⟨5, _⟩ => ⟨S384x1024, .f32⟩
  | .hbm, ⟨6, _⟩ => ⟨S1024x384, .f32⟩
  | .hbm, ⟨7, _⟩ => ⟨S1024x384, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S2048x1024 : Shape := ⟨2, ![2048, 1024]⟩
abbrev S2048x256 : Shape := ⟨2, ![2048, 256]⟩
abbrev S1024x256 : Shape := ⟨2, ![1024, 256]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .bf16⟩
  | .hbm, ⟨3, _⟩ => ⟨S2048x256, .bf16⟩
  | .hbm, ⟨4, _⟩ => ⟨S1024x256, .bf16⟩
  | .local _ .vmem, ⟨0, _⟩ => ⟨S2048x1024, .bf16⟩
  | .local _ .vmem, ⟨1, _⟩ => ⟨S2048x256, .bf16⟩
  | .local _ .vmem, ⟨2, _⟩ => ⟨S1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference24Ideal.lean ====
abbrev S2048x1024 : Shape := ⟨2, ![2048, 1024]⟩
abbrev S2048x256 : Shape := ⟨2, ![2048, 256]⟩
abbrev S_ : Shape := ⟨0, ![]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S_, .f32⟩
  | .hbm, ⟨3, _⟩ => ⟨S1024x256, .f32⟩
  | .hbm, ⟨4, _⟩ => ⟨S2048x256, .f32⟩
  | .hbm, ⟨5, _⟩ => ⟨S256x1024, .f32⟩
  | .hbm, ⟨6, _⟩ => ⟨S1024x256, .f32⟩
  | .hbm, ⟨7, _⟩ => ⟨S1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S2048x1024, .bf16⟩
  | .hbm, ⟨3, _⟩ => ⟨S2048x128, .bf16⟩
  | .hbm, ⟨4, _⟩ => ⟨S1024x128, .bf16⟩
  | .local _ .vmem, ⟨0, _⟩ => ⟨S2048x1024, .bf16⟩
  | .local _ .vmem, ⟨1, _⟩ => ⟨S2048x128, .bf16⟩
  | .local _ .vmem, ⟨2, _⟩ => ⟨S1024x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference25Ideal.lean ====
abbrev S2048x1024 : Shape := ⟨2, ![2048, 1024]⟩
abbrev S2048x128 : Shape := ⟨2, ![2048, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S_, .f32⟩
  | .hbm, ⟨3, _⟩ => ⟨S1024x128, .f32⟩
  | .hbm, ⟨4, _⟩ => ⟨S2048x128, .f32⟩
  | .hbm, ⟨5, _⟩ => ⟨S128x1024, .f32⟩
  | .hbm, ⟨6, _⟩ => ⟨S1024x128, .f32⟩
  | .hbm, ⟨7, _⟩ => ⟨S1024x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .bf16⟩
  | .hbm, ⟨3, _⟩ => ⟨S1024x1024, .bf16⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference26Ideal.lean ====
abbrev S256x1024 : Shape := ⟨2, ![256, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S256x1024 : Shape := ⟨2, ![256, 1024]⟩
abbrev S1024x1024 : Shape := ⟨2, ![1024, 1024]⟩
abbrev S512x1024 : Shape := ⟨2, ![512, 1024]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S256x1024, .bf16⟩
  | .local _ .vmem, ⟨0, _⟩ => ⟨S256x1024, .f32⟩
  | .local _ .vmem, ⟨1, _⟩ => ⟨S512x1024, .bf16⟩
  | .local _ .vmem, ⟨2, _⟩ => ⟨S512x1024, .bf16⟩
  | .local _ .vmem, ⟨3, _⟩ => ⟨S256x1024, .f32⟩
  | .local _ .vmem, ⟨4, _⟩ => ⟨S512x1024, .bf16⟩
  | .local _ .vmem, ⟨5, _⟩ => ⟨S512x1024, .bf16⟩
  | .local _ .vmem, ⟨6, _⟩ => ⟨S256x512, .bf16⟩
  | .local _ .vmem, ⟨7, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference27Ideal.lean ====
abbrev S256x1024 : Shape := ⟨2, ![256, 1024]⟩
abbrev S1024x1024 : Shape := ⟨2, ![1024, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S1024x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel28.lean ====
abbrev S2048x2048 : Shape := ⟨2, ![2048, 2048]⟩
abbrev S384x2048 : Shape := ⟨2, ![384, 2048]⟩
abbrev S2048x3840 : Shape := ⟨2, ![2048, 3840]⟩
abbrev S4x1x384 : Shape := ⟨3, ![4, 1, 384]⟩
abbrev S2048x384 : Shape := ⟨2, ![2048, 384]⟩
abbrev S1x384 : Shape := ⟨2, ![1, 384]⟩
abbrev S1024x2048 : Shape := ⟨2, ![1024, 2048]⟩
abbrev S1024x384 : Shape := ⟨2, ![1024, 384]⟩
abbrev S1x1x384 : Shape := ⟨3, ![1, 1, 384]⟩
abbrev S1024 : Shape := ⟨1, ![1024]⟩
abbrev S1024x1 : Shape := ⟨2, ![1024, 1]⟩
abbrev S384 : Shape := ⟨1, ![384]⟩

abbrev nBuf : Space → Nat
  | .hbm => 8
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S384x2048, .f32⟩
  | .hbm, ⟨2, _⟩ => ⟨S2048x3840, .f32⟩
  | .hbm, ⟨3, _⟩ => ⟨S4x1x384, .f32⟩
  | .hbm, ⟨4, _⟩ => ⟨S2048x2048, .bf16⟩
  | .hbm, ⟨5, _⟩ => ⟨S384x2048, .bf16⟩
  | .hbm, ⟨6, _⟩ => ⟨S2048x384, .bf16⟩
  | .hbm, ⟨7, _⟩ => ⟨S1x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .f32⟩
  | .local _ .vmem, ⟨4, _⟩ => ⟨S1024x384, .f32⟩
  | .local _ .vmem, ⟨5, _⟩ => ⟨S1x1x384, .f32⟩
  | .local _ .vmem, ⟨6, _⟩ => ⟨S1024x384, .bf16⟩
  | .local _ .vmem, ⟨7, _⟩ => ⟨S1024x384, .bf16⟩
  | .local _ .vmem, ⟨8, _⟩ => ⟨S1x384, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference28Ideal.lean ====
abbrev S2048x2048 : Shape := ⟨2, ![2048, 2048]⟩
abbrev S384x2048 : Shape := ⟨2, ![384, 2048]⟩
abbrev S2048x3840 : Shape := ⟨2, ![2048, 3840]⟩
abbrev S4x1x384 : Shape := ⟨3, ![4, 1, 384]⟩
abbrev S2048x384 : Shape := ⟨2, ![2048, 384]⟩
abbrev S1x1x384 : Shape := ⟨3, ![1, 1, 384]⟩
abbrev S1x384 : Shape := ⟨2, ![1, 384]⟩
abbrev S_ : Shape := ⟨0, ![]⟩
abbrev S2048 : Shape := ⟨1, ![2048]⟩
abbrev S2048x1 : Shape := ⟨2, ![2048, 1]⟩
abbrev S384 : Shape := ⟨1, ![384]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S384x2048, .f32⟩
  | .hbm, ⟨2, _⟩ => ⟨S2048x3840, .f32⟩
  | .hbm, ⟨3, _⟩ => ⟨S4x1x384, .f32⟩
  | .hbm, ⟨4, _⟩ => ⟨S2048x384, .f32⟩
  | .hbm, ⟨5, _⟩ => ⟨S1x1x384, .f32⟩
  | .hbm, ⟨6, _⟩ => ⟨S1x384, .f32⟩
  | .hbm, ⟨7, _⟩ => ⟨S2048x384, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x384, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S2048x2048, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S384, .f32⟩
  | .hbm, ⟨31, _⟩ => ⟨S1x384, .f32⟩
  | .hbm, ⟨32, _⟩ => ⟨S2048x384, .f32⟩
  | .hbm, ⟨33, _⟩ => ⟨S2048x384, .f32⟩
  | .hbm, ⟨34, _⟩ => ⟨S2048x384, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x384, .f32⟩
  | .hbm, ⟨39, _⟩ => ⟨S2048x384, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x384, .f32⟩
  | .hbm, ⟨47, _⟩ => ⟨S2048x384, .f32⟩
  | .hbm, ⟨48, _⟩ => ⟨S2048x384, .f32⟩
  | .hbm, ⟨49, _⟩ => ⟨S2048x384, .f32⟩
  | .hbm, ⟨50, _⟩ => ⟨S2048x384, .f32⟩
  | .hbm, ⟨51, _⟩ => ⟨S2048x384, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel29.lean ====
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩
abbrev S2048x3840 : Shape := ⟨2, ![2048, 3840]⟩
abbrev S4x1x256 : Shape := ⟨3, ![4, 1, 256]⟩
abbrev S2048x256 : Shape := ⟨2, ![2048, 256]⟩
abbrev S1x256 : Shape := ⟨2, ![1, 256]⟩
abbrev S512x2048 : Shape := ⟨2, ![512, 2048]⟩
abbrev S512x1024 : Shape := ⟨2, ![512, 1024]⟩
abbrev S512x256 : Shape := ⟨2, ![512, 256]⟩
abbrev S1x1x256 : Shape := ⟨3, ![1, 1, 256]⟩
abbrev S512 : Shape := ⟨1, ![512]⟩
abbrev S512x1 : Shape := ⟨2, ![512, 1]⟩
abbrev S256 : Shape := ⟨1, ![256]⟩

abbrev nBuf : Space → Nat
  | .hbm => 10
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x1024, .f32⟩
  | .hbm, ⟨3, _⟩ => ⟨S256x1024, .f32⟩
  | .hbm, ⟨4, _⟩ => ⟨S2048x3840, .f32⟩
  | .hbm, ⟨5, _⟩ => ⟨S4x1x256, .f32⟩
  | .hbm, ⟨6, _⟩ => ⟨S256x2048, .bf16⟩
  | .hbm, ⟨7, _⟩ => ⟨S256x1024, .bf16⟩
  | .hbm, ⟨8, _⟩ => ⟨S2048x256, .bf16⟩
  | .hbm, ⟨9, _⟩ => ⟨S1x256, .f32⟩
  | .local _ .vmem, ⟨0, _⟩ => ⟨S512x2048, .f32⟩
  | .local _ .vmem, ⟨1, _⟩ => ⟨S512x2048, .f32⟩
  | .local _ .vmem, ⟨2, _⟩ => ⟨S256x2048, .bf16⟩
  | .local _ .vmem, ⟨3, _⟩ => ⟨S512x1024, .f32⟩
  | .local _ .vmem, ⟨4, _⟩ => ⟨S512x1024, .f32⟩
  | .local _ .vmem, ⟨5, _⟩ => ⟨S256x1024, .bf16⟩
  | .local _ .vmem, ⟨6, _⟩ => ⟨S512x256, .f32⟩
  | .local _ .vmem, ⟨7, _⟩ => ⟨S512x256, .f32⟩
  | .local _ .vmem, ⟨8, _⟩ => ⟨S1x1x256, .f32⟩
  | .local _ .vmem, ⟨9, _⟩ => ⟨S512x256, .bf16⟩
  | .local _ .vmem, ⟨10, _⟩ => ⟨S512x256, .bf16⟩
  | .local _ .vmem, ⟨11, _⟩ => ⟨S1x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, c14_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference29Ideal.lean ====
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩
abbrev S2048x3840 : Shape := ⟨2, ![2048, 3840]⟩
abbrev S4x1x256 : Shape := ⟨3, ![4, 1, 256]⟩
abbrev S2048x256 : Shape := ⟨2, ![2048, 256]⟩
abbrev S1x1x256 : Shape := ⟨3, ![1, 1, 256]⟩
abbrev S1x256 : Shape := ⟨2, ![1, 256]⟩
abbrev S_ : Shape := ⟨0, ![]⟩
abbrev S2048 : Shape := ⟨1, ![2048]⟩
abbrev S2048x1 : Shape := ⟨2, ![2048, 1]⟩
abbrev S256 : Shape := ⟨1, ![256]⟩

abbrev nBuf : Space → Nat
  | .hbm => 57
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x1024, .f32⟩
  | .hbm, ⟨3, _⟩ => ⟨S256x1024, .f32⟩
  | .hbm, ⟨4, _⟩ => ⟨S2048x3840, .f32⟩
  | .hbm, ⟨5, _⟩ => ⟨S4x1x256, .f32⟩
  | .hbm, ⟨6, _⟩ => ⟨S2048x256, .f32⟩
  | .hbm, ⟨7, _⟩ => ⟨S1x1x256, .f32⟩
  | .hbm, ⟨8, _⟩ => ⟨S1x256, .f32⟩
  | .hbm, ⟨9, _⟩ => ⟨S2048x256, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x2048, .f32⟩
  | .hbm, ⟨29, _⟩ => ⟨S2048x1024, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S256, .f32⟩
  | .hbm, ⟨36, _⟩ => ⟨S1x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x256, .f32⟩
  | .hbm, ⟨44, _⟩ => ⟨S2048x256, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x256, .f32⟩
  | .hbm, ⟨52, _⟩ => ⟨S2048x256, .f32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S2048x256, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel30.lean ====
abbrev S256x1024 : Shape := ⟨2, ![256, 1024]⟩
abbrev S1024x1024 : Shape := ⟨2, ![1024, 1024]⟩
abbrev S1024x512 : Shape := ⟨2, ![1024, 512]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .bf16⟩
  | .hbm, ⟨3, _⟩ => ⟨S1024x1024, .bf16⟩
  | .hbm, ⟨4, _⟩ => ⟨S256x1024, .bf16⟩
  | .local _ .vmem, ⟨0, _⟩ => ⟨S256x1024, .bf16⟩
  | .local _ .vmem, ⟨1, _⟩ => ⟨S1024x512, .bf16⟩
  | .local _ .vmem, ⟨2, _⟩ => ⟨S1024x512, .bf16⟩
  | .local _ .vmem, ⟨3, _⟩ => ⟨S256x512, .bf16⟩
  | .local _ .vmem, ⟨4, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S2048x256 : Shape := ⟨2, ![2048, 256]⟩
abbrev S256x1024 : Shape := ⟨2, ![256, 1024]⟩
abbrev S2048x1024 : Shape := ⟨2, ![2048, 1024]⟩
abbrev S256x512 : Shape := ⟨2, ![256, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x256, .bf16⟩
  | .hbm, ⟨3, _⟩ => ⟨S256x1024, .bf16⟩
  | .hbm, ⟨4, _⟩ => ⟨S2048x1024, .bf16⟩
  | .local _ .vmem, ⟨0, _⟩ => ⟨S2048x256, .bf16⟩
  | .local _ .vmem, ⟨1, _⟩ => ⟨S256x512, .bf16⟩
  | .local _ .vmem, ⟨2, _⟩ => ⟨S256x512, .bf16⟩
  | .local _ .vmem, ⟨3, _⟩ => ⟨S2048x512, .bf16⟩
  | .local _ .vmem, ⟨4, _⟩ => ⟨S2048x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x1024, .f32⟩
  | .hbm, ⟨3, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel32.lean ====
abbrev S2048x1024 : Shape := ⟨2, ![2048, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .f32⟩
  | .hbm, ⟨3, _⟩ => ⟨S2048x1024, .bf16⟩
  | .hbm, ⟨4, _⟩ => ⟨S256x1024, .bf16⟩
  | .hbm, ⟨5, _⟩ => ⟨S256x1024, .bf16⟩
  | .hbm, ⟨6, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S2048x1024 : Shape := ⟨2, ![2048, 1024]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .f32⟩
  | .hbm, ⟨3, _⟩ => ⟨S2048x4x256, .f32⟩
  | .hbm, ⟨4, _⟩ => ⟨S256x4x256, .f32⟩
  | .hbm, ⟨5, _⟩ => ⟨S256x4x256, .f32⟩
  | .hbm, ⟨6, _⟩ => ⟨S4x2048x256, .f32⟩
  | .hbm, ⟨7, _⟩ => ⟨S_, .f32⟩
  | .hbm, ⟨8, _⟩ => ⟨S4x2048x256, .f32⟩
  | .hbm, ⟨9, _⟩ => ⟨S4x2048x256, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S4x2048x1, .f32⟩
  | .hbm, ⟨16, _⟩ => ⟨S4x2048x256, .f32⟩
  | .hbm, ⟨17, _⟩ => ⟨S4x2048x256, .f32⟩
  | .hbm, ⟨18, _⟩ => ⟨S4x2048x256, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S4x2048x256, .f32⟩
  | .hbm, ⟨23, _⟩ => ⟨S4x2048x256, .f32⟩
  | .hbm, ⟨24, _⟩ => ⟨S4x256x2048, .f32⟩
  | .hbm, ⟨25, _⟩ => ⟨S2048x4x256, .f32⟩
  | .hbm, ⟨26, _⟩ => ⟨S2048x1024, .f32⟩
  | .hbm, ⟨27, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel33.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2816x1024, .bf16⟩
  | .hbm, ⟨5, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference33Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel34.lean ====
abbrev S2048x2048 : Shape := ⟨2, ![2048, 2048]⟩
abbrev S2048x1024 : Shape := ⟨2, ![2048, 1024]⟩
abbrev S512x256 : Shape := ⟨2, ![512, 256]⟩
abbrev S2048x256 : Shape := ⟨2, ![2048, 256]⟩
abbrev S2048x128 : Shape := ⟨2, ![2048, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩
abbrev S512x2048 : Shape := ⟨2, ![512, 2048]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x1024, .f32⟩
  | .hbm, ⟨3, _⟩ => ⟨S2048x2048, .bf16⟩
  | .hbm, ⟨4, _⟩ => ⟨S2048x2048, .bf16⟩
  | .hbm, ⟨5, _⟩ => ⟨S2048x1024, .bf16⟩
  | .hbm, ⟨6, _⟩ => ⟨S2048x1024, .f32⟩
  | .hbm, ⟨7, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg1 : BitVec 32 := BitVec.ofNat 32 (i 1).val
  let c1_i32 : BitVec 32 := 1#32
  let v4 : BitVec 1 := Scalar.cmpi .eq arg1 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c2_i32 : BitVec 32 := 2#32
  let v7 : BitVec 1 := Scalar.cmpi .eq arg1 c2_i32
  let v8 : BitVec 32 := Scalar.extui v7
  let c0_i32_2 : BitVec 32 := 0#32
  let v9 : BitVec 1 := Scalar.cmpi .ne v8 c0_i32_2
  v9

def k0_cond4 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel34Ideal.lean ====
variable {F : FTy → Type} [FloatOps F] [Named F]
def κ : String → Option EReal := fun
  | "mask" => some ⊥
  | _ => none
-- ==== Reference34Ideal.lean ====
abbrev S2048x2048 : Shape := ⟨2, ![2048, 2048]⟩
abbrev S2048x1024 : Shape := ⟨2, ![2048, 1024]⟩
abbrev S2048x16x128 : Shape := ⟨3, ![2048, 16, 128]⟩
abbrev S2048x16x64 : Shape := ⟨3, ![2048, 16, 64]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S16x2048 : Shape := ⟨2, ![16, 2048]⟩
abbrev S16x2048x1 : Shape := ⟨3, ![16, 2048, 1]⟩
abbrev S16x64x2048 : Shape := ⟨3, ![16, 64, 2048]⟩
abbrev S2048x16x1 : Shape := ⟨3, ![2048, 16, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x1024, .f32⟩
  | .hbm, ⟨3, _⟩ => ⟨S2048x16x128, .f32⟩
  | .hbm, ⟨4, _⟩ => ⟨S2048x16x128, .f32⟩
  | .hbm, ⟨5, _⟩ => ⟨S2048x16x64, .f32⟩
  | .hbm, ⟨6, _⟩ => ⟨S16x2048x2048, .f32⟩
  | .hbm, ⟨7, _⟩ => ⟨S_, .f32⟩
  | .hbm, ⟨8, _⟩ => ⟨S16x2048x2048, .f32⟩
  | .hbm, ⟨9, _⟩ => ⟨S16x2048x2048, .f32⟩
  | .hbm, ⟨10, _⟩ => ⟨S2048, .i32⟩
  | .hbm, ⟨11, _⟩ => ⟨S2048x1, .i32⟩
  | .hbm, ⟨12, _⟩ => ⟨S2048, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S16x2048x2048, .i1⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S_, .f32⟩
  | .hbm, ⟨25, _⟩ => ⟨S16x2048, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x64x2048, .f32⟩
  | .hbm, ⟨37, _⟩ => ⟨S2048x16x64, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S2048x1024, .f32⟩
  | .hbm, ⟨50, _⟩ => ⟨S2048x16x1, .f32⟩
  | .hbm, ⟨51, _⟩ => ⟨S2048x16x64, .f32⟩
  | .hbm, ⟨52, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.SoftmaxGrad.lean ====
/- Hand-written: the gradient of a softmax over one row of scores, in extended reals. The scores are real numbers
   or `⊥` (a masked entry), at least one of them real; the incoming gradient is real. The two ways of writing the
   gradient — `p * (g - sum (p * g))` and the one that divides by the row sum and by its square — then agree. -/
module

public import Idealize.ShloMosaic.Lib.Pointwise
public import Idealize.ShloMosaic.Lib.IdealHost

@[expose] public section

set_option maxRecDepth 16384

noncomputable section

open Idealize.ShloMosaic
open scoped BigOperators

namespace Cert.Soft

variable {n : ℕ}

/-- A value that is a real number. -/
def Re (x : EReal) : Prop := ∃ r : ℝ, x = (r : EReal)

theorem Re.mul {x y : EReal} (hx : Re x) (hy : Re y) : Re (x * y) := by
  obtain ⟨a, rfl⟩ := hx; obtain ⟨b, rfl⟩ := hy; exact ⟨a * b, (EReal.coe_mul a b).symm⟩

theorem Re.add {x y : EReal} (hx : Re x) (hy : Re y) : Re (x + y) := by
  obtain ⟨a, rfl⟩ := hx; obtain ⟨b, rfl⟩ := hy; exact ⟨a + b, (EReal.coe_add a b).symm⟩

theorem Re.neg {x : EReal} (hx : Re x) : Re (-x) := by
  obtain ⟨a, rfl⟩ := hx; exact ⟨-a, (EReal.coe_neg a).symm⟩

theorem Re.sub {x y : EReal} (hx : Re x) (hy : Re y) : Re (x - y) := by
  obtain ⟨a, rfl⟩ := hx; obtain ⟨b, rfl⟩ := hy; exact ⟨a - b, (EReal.coe_sub a b).symm⟩

theorem Re.zero : Re 0 := ⟨0, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Re.sum {ι : Type} {s : Finset ι} {f : ι → EReal} (hf : ∀ i, Re (f i)) : Re (∑ i ∈ s, f i) := by
  choose g hg using hf
  exact ⟨∑ i ∈ s, g i, by rw [coe_sum]; exact Finset.sum_congr rfl fun i _ => hg i⟩

/-- A value whose magnitude is below infinity is a real number. -/
theorem Re.of_abs {x : EReal} (h : max x (-x) < ⊤) : Re x := by
  induction x with
  | bot => simp at h
  | top => simp at h
  | coe r => exact ⟨r, rfl⟩

theorem ninf : Ideal.ofBits .f32 0xFF800000#32 = (⊥ : EReal) := by
  simp [Ideal.ofBits, Ideal.ieee]

theorem pinf : Ideal.ofBits .f32 0x7F800000#32 = (⊤ : EReal) := by
  simp [Ideal.ofBits, Ideal.ieee]

/-- The row's largest score. -/
def top (s : Fin n → EReal) : EReal := Finset.univ.fold max (Ideal.ofBits .f32 0xFF800000#32) s
/-- The exponentials of a row, its largest score taken off. -/
def ex (s : Fin n → EReal) (j : Fin n) : EReal := Ideal.exp (s j - top s)
/-- Their sum. -/
def tot (s : Fin n → EReal) : EReal := ∑ k, ex s k
/-- The softmax of a row. -/
def prob (s : Fin n → EReal) (j : Fin n) : EReal := Ideal.div (ex s j) (tot s)
/-- The gradient of the scores before scaling, written `p * (g - sum (p * g))`. -/
def grad (s g : Fin n → EReal) (c : EReal) (j : Fin n) : EReal := prob s j * (g j - ∑ k, prob s k * g k) * c
/-- The same, written with the division by the sum and by its square apart. -/
def grad' (s g : Fin n → EReal) (c : EReal) (j : Fin n) : EReal :=
  (Ideal.div (g j) (tot s) + -(∑ k, g k * Ideal.div 1 (tot s * tot s) * ex s k)) * ex s j * c

/-- The scores of a row are real or masked out, not all of them masked. -/
def Row (s : Fin n → EReal) : Prop := (∀ j, s j ≠ ⊤) ∧ ∃ j, s j ≠ ⊥

theorem top_real {s : Fin n → EReal} (h : Row s) : ∃ M : ℝ, top s = (M : EReal) := by
  obtain ⟨h1, j, hj⟩ := h
  have ht : top s ≠ ⊤ := by
    refine ne_of_lt ?_
    unfold top
    rw [ninf, Finset.fold_max_lt]
    exact ⟨bot_lt_top, fun x _ => lt_top_iff_ne_top.mpr (h1 x)⟩
  have hb : top s ≠ ⊥ := by
    refine (bot_lt_iff_ne_bot.mpr hj).trans_le ?_ |>.ne'
    unfold top
    rw [Finset.le_fold_max]
    exact Or.inr ⟨j, Finset.mem_univ j, le_rfl⟩
  exact ⟨(top s).toReal, (EReal.coe_toReal ht hb).symm⟩

theorem ex_real {s : Fin n → EReal} (h : Row s) : ∃ e : Fin n → ℝ, (∀ j, ex s j = (e j : EReal)) ∧ 0 < ∑ j, e j := by
  obtain ⟨M, hM⟩ := top_real h
  obtain ⟨h1, j0, hj0⟩ := h
  have key : ∀ j, ∃ r : ℝ, ex s j = (r : EReal) ∧ 0 ≤ r ∧ (s j ≠ ⊥ → 0 < r) := by
    intro j
    unfold ex
    rw [hM]
    have hj := h1 j
    generalize s j = x at hj ⊢
    induction x with
    | bot => exact ⟨0, by rw [EReal.bot_sub]; rfl, le_rfl, fun h => absurd rfl h⟩
    | top => exact absurd rfl hj
    | coe r => exact ⟨Real.exp (r - M), by rw [← EReal.coe_sub]; rfl, (Real.exp_pos _).le, fun _ => Real.exp_pos _⟩
  choose e he h0 hp using key
  exact ⟨e, he, Finset.sum_pos' (fun j _ => h0 j) ⟨j0, Finset.mem_univ _, hp j0 hj0⟩⟩

theorem div_real (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem prob_real {s : Fin n → EReal} (h : Row s) (j : Fin n) : Re (prob s j) := by
  obtain ⟨e, he, hL⟩ := ex_real h
  unfold prob tot
  simp only [he, ← coe_sum]
  rw [div_real _ hL.ne']
  exact ⟨_, rfl⟩

/-- The two forms of the gradient agree. -/
theorem grad_eq {s g : Fin n → EReal} {c : EReal} (h : Row s) (hg : ∀ j, Re (g j)) (hc : Re c) (j : Fin n) :
    grad' s g c j = grad s g c j := by
  obtain ⟨e, he, hL⟩ := ex_real h
  choose d hd using hg
  obtain ⟨c, rfl⟩ := hc
  have hL' : (∑ k, e k) ≠ 0 := hL.ne'
  unfold grad grad' prob tot
  simp only [he, hd, ← coe_sum]
  generalize hl : (∑ k, e k) = L at *
  have hLL : L * L ≠ 0 := mul_ne_zero hL' hL'
  rw [← EReal.coe_one, ← EReal.coe_mul L L]
  simp only [div_real _ hL', div_real _ hLL]
  simp only [← EReal.coe_mul, ← coe_sum, ← EReal.coe_neg, ← EReal.coe_add, ← EReal.coe_sub]
  congr 1
  have e1 : ∑ k, d k * (1 / (L * L)) * e k = (∑ k, e k * d k) / L / L := by
    rw [Finset.sum_div, Finset.sum_div]
    exact Finset.sum_congr rfl fun k _ => by field_simp
  have e2 : ∑ k, e k / L * d k = (∑ k, e k * d k) / L := by
    rw [Finset.sum_div]
    exact Finset.sum_congr rfl fun k _ => by field_simp
  rw [e1, e2]
  field_simp
  ring

end Cert.Soft

end
-- ==== Proof.MemBody.lean ====
/- Hand-written: what one grid point of the memory attention's backward kernel leaves in each of its three output
   blocks, read at an index. The kernel works one head of 256 lanes at a time. -/
module

public import proofs.«01_k».proof.Proof.SoftmaxGrad
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.Mem

open Cert.Soft

/-- The scale of the scores. -/
abbrev scale : EReal := Ideal.ofBits .f32 0x3D800000#32

/-- One query row's scaled scores against the keys of a head. -/
def score (q : Fin 256 → EReal) (k : Fin 256 → Fin 256 → EReal) (j : Fin 256) : EReal := (∑ d, q d * k j d) * scale
/-- One row of the incoming gradient against the values of a head. -/
def gin (o : Fin 256 → EReal) (v : Fin 256 → Fin 256 → EReal) (j : Fin 256) : EReal := ∑ d, o d * v j d
/-- The gradient of one query row's scores. -/
def ds (q o : Fin 256 → EReal) (k v : Fin 256 → Fin 256 → EReal) : Fin 256 → EReal := grad (score q k) (gin o v) scale
/-- The softmax of one query row's scores. -/
def pr (q : Fin 256 → EReal) (k : Fin 256 → Fin 256 → EReal) : Fin 256 → EReal := prob (score q k)

/-- Column `d` of head `h`. -/
abbrev col (h : Fin 4) (d : Fin 256) : Fin 1024 := ⟨h.val * 256 + d.val, by omega⟩

open Cert.KernelIdeal Cert.KernelIdeal.Gen

/-- Row `r` of head `h` of a block. -/
abbrev row (x : FVec Ideal S256x1024 .bf16) (h : Fin 4) (r : Fin 256) : Fin 256 → EReal := fun d => x (ix2 r (col h d))

/-- What a point adds to the gradient of the values. -/
def dvPart (x0 x1 x3 : FVec Ideal S256x1024 .bf16) (h : Fin 4) (j d : Fin 256) : EReal :=
  ∑ r, pr (row x0 h r) (row x1 h) j * x3 (ix2 r (col h d))
/-- What a point adds to the gradient of the keys. -/
def dkPart (x0 x1 x2 x3 : FVec Ideal S256x1024 .bf16) (h : Fin 4) (j d : Fin 256) : EReal :=
  ∑ r, ds (row x0 h r) (row x3 h r) (row x1 h) (row x2 h) j * x0 (ix2 r (col h d))
/-- What a point leaves for the gradient of its query rows. -/
def dqPart (x0 x1 x2 x3 : FVec Ideal S256x1024 .bf16) (h : Fin 4) (r d : Fin 256) : EReal :=
  ∑ j, ds (row x0 h r) (row x3 h r) (row x1 h) (row x2 h) j * x1 (ix2 j (col h d))

/-- A store that four later stores together cover is not seen. -/
theorem canon_drop4 {Val : EltTy → Type} [∀ e, Nonempty (Val e)] {S : Shape} {e : EltTy} (a b c d f : View.Piece Val S e) (y : S.Idx)
    (sz : Fin S.rank → ℕ) (h : View.Piece.tiled [a, b, c, d] sz = true) : View.canon [a, b, c, d, f] y = View.canon [a, b, c, d] y := by
  have hc := View.cover_of_tiled [a, b, c, d] sz h y
  by_cases ha : y ∈ a.1.set
  · obtain ⟨x, rfl⟩ := a.1.exists_idx_of_mem ha
    rw [show a.1.idx x = a.1.emb x from rfl, View.canon_cons_emb, View.canon_cons_emb]
  rw [View.canon_cons_of_not_mem _ _ ha, View.canon_cons_of_not_mem _ _ ha]
  by_cases hb : y ∈ b.1.set
  · obtain ⟨x, rfl⟩ := b.1.exists_idx_of_mem hb
    rw [show b.1.idx x = b.1.emb x from rfl, View.canon_cons_emb, View.canon_cons_emb]
  rw [View.canon_cons_of_not_mem _ _ hb, View.canon_cons_of_not_mem _ _ hb]
  by_cases hc' : y ∈ c.1.set
  · obtain ⟨x, rfl⟩ := c.1.exists_idx_of_mem hc'
    rw [show c.1.idx x = c.1.emb x from rfl, View.canon_cons_emb, View.canon_cons_emb]
  rw [View.canon_cons_of_not_mem _ _ hc', View.canon_cons_of_not_mem _ _ hc']
  by_cases hd : y ∈ d.1.set
  · obtain ⟨x, rfl⟩ := d.1.exists_idx_of_mem hd
    rw [show d.1.idx x = d.1.emb x from rfl, View.canon_cons_emb, View.canon_cons_emb]
  · simp_all

/-- The lanes of head 0 are the first lanes. -/
theorem col0 (x : Fin 256) : col 0 x = ⟨x.val, by omega⟩ := Fin.ext (by simp [col])

end Cert.Mem
end
-- ==== Proof.MemDv.lean ====
/- Hand-written: what one grid point of the memory attention's backward kernel leaves for the gradient of the values. -/
module

public import proofs.«01_k».proof.Proof.MemBody
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.Mem

open Cert.Soft Cert.KernelIdeal Cert.KernelIdeal.Gen

section
variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .f32) (harg7 : arg7.IsWhole)
  (b0 b1 b2 b3 : FVec Ideal S256x1024 .bf16) (bo5 bo6 : FVec Ideal S256x1024 .f32)

set_option maxHeartbeats 1600000 in
theorem out6_B (hc0) (h : Fin 4) (j d : Fin 256) :
    out0_B_6 (F := Ideal) c i arg1 harg1 arg2 harg2 arg3 harg3 arg4 harg4 arg5 harg5 arg6 harg6 arg7 harg7 hc0 b0 b1 b2 b3 bo5 bo6 (ix2 j (col h d))
      = bo6 (ix2 j (col h d)) + dvPart b0 b1 b3 h j d := by
  frame_out
  canon_tiles x hx <;> idx_vars x
  · obtain rfl : h = 3 := Fin.ext (by omega)
    obtain rfl : j = x0 := Fin.ext (by omega)
    obtain rfl : d = x1 := Fin.ext (by omega)
    open_payloads
    pointwise [dvPart, pr, prob, ex, tot, top, score]
    rfl
  · obtain rfl : h = 2 := Fin.ext (by omega)
    obtain rfl : j = x0 := Fin.ext (by omega)
    obtain rfl : d = x1 := Fin.ext (by omega)
    open_payloads
    pointwise [dvPart, pr, prob, ex, tot, top, score]
    rfl
  · obtain rfl : h = 1 := Fin.ext (by omega)
    obtain rfl : j = x0 := Fin.ext (by omega)
    obtain rfl : d = x1 := Fin.ext (by omega)
    open_payloads
    pointwise [dvPart, pr, prob, ex, tot, top, score]
    rfl
  · obtain rfl : h = 0 := Fin.ext (by omega)
    obtain rfl : j = x0 := Fin.ext (by omega)
    obtain rfl : d = x1 := Fin.ext (by omega)
    open_payloads
    pointwise [dvPart, pr, prob, ex, tot, top, score]
    simp only [row, col0]

set_option maxHeartbeats 1600000 in
theorem out6_A (hc0) (h : Fin 4) (j d : Fin 256) :
    out0_A_6 (F := Ideal) c i arg1 harg1 arg2 harg2 arg3 harg3 arg4 harg4 arg5 harg5 arg6 harg6 arg7 harg7 hc0 b0 b1 b2 b3 (ix2 j (col h d))
      = 0 + dvPart b0 b1 b3 h j d := by
  frame_open
  simp (disch := decide) only [↓ View.readCov_skip, ↓ View.readCov_cons_toLoadRect, ↓ View.readCov_fill]
  frame_out
  refine (canon_drop4 _ _ _ _ _ _ ![256, 256] (by rfl)).trans ?_
  canon_tiles x hx <;> idx_vars x
  · obtain rfl : h = 3 := Fin.ext (by omega)
    obtain rfl : j = x0 := Fin.ext (by omega)
    obtain rfl : d = x1 := Fin.ext (by omega)
    open_payloads
    pointwise [dvPart, pr, prob, ex, tot, top, score]
    rfl
  · obtain rfl : h = 2 := Fin.ext (by omega)
    obtain rfl : j = x0 := Fin.ext (by omega)
    obtain rfl : d = x1 := Fin.ext (by omega)
    open_payloads
    pointwise [dvPart, pr, prob, ex, tot, top, score]
    rfl
  · obtain rfl : h = 1 := Fin.ext (by omega)
    obtain rfl : j = x0 := Fin.ext (by omega)
    obtain rfl : d = x1 := Fin.ext (by omega)
    open_payloads
    pointwise [dvPart, pr, prob, ex, tot, top, score]
    rfl
  · obtain rfl : h = 0 := Fin.ext (by omega)
    obtain rfl : j = x0 := Fin.ext (by omega)
    obtain rfl : d = x1 := Fin.ext (by omega)
    open_payloads
    pointwise [dvPart, pr, prob, ex, tot, top, score]
    simp only [row, col0]

end
end Cert.Mem
end
-- ==== Proof.MemDk.lean ====
/- Hand-written: what one grid point of the memory attention's backward kernel leaves for the gradient of the keys. -/
module

public import proofs.«01_k».proof.Proof.MemBody
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.Mem

open Cert.Soft Cert.KernelIdeal Cert.KernelIdeal.Gen

section
variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .f32) (harg7 : arg7.IsWhole)
  (b0 b1 b2 b3 : FVec Ideal S256x1024 .bf16) (bo5 bo6 : FVec Ideal S256x1024 .f32)

set_option maxHeartbeats 1600000 in
theorem out5_B (hc0) (h : Fin 4) (j d : Fin 256) :
    out0_B_5 (F := Ideal) c i arg1 harg1 arg2 harg2 arg3 harg3 arg4 harg4 arg5 harg5 arg6 harg6 arg7 harg7 hc0 b0 b1 b2 b3 bo5 bo6 (ix2 j (col h d))
      = bo5 (ix2 j (col h d)) + dkPart b0 b1 b2 b3 h j d := by
  frame_out
  canon_tiles x hx <;> idx_vars x
  · obtain rfl : h = 3 := Fin.ext (by omega)
    obtain rfl : j = x0 := Fin.ext (by omega)
    obtain rfl : d = x1 := Fin.ext (by omega)
    open_payloads
    pointwise [dkPart, ds, grad, gin, prob, ex, tot, top, score]
    rfl
  · obtain rfl : h = 2 := Fin.ext (by omega)
    obtain rfl : j = x0 := Fin.ext (by omega)
    obtain rfl : d = x1 := Fin.ext (by omega)
    open_payloads
    pointwise [dkPart, ds, grad, gin, prob, ex, tot, top, score]
    rfl
  · obtain rfl : h = 1 := Fin.ext (by omega)
    obtain rfl : j = x0 := Fin.ext (by omega)
    obtain rfl : d = x1 := Fin.ext (by omega)
    open_payloads
    pointwise [dkPart, ds, grad, gin, prob, ex, tot, top, score]
    rfl
  · obtain rfl : h = 0 := Fin.ext (by omega)
    obtain rfl : j = x0 := Fin.ext (by omega)
    obtain rfl : d = x1 := Fin.ext (by omega)
    open_payloads
    pointwise [dkPart, ds, grad, gin, prob, ex, tot, top, score]
    simp only [row, col0]

set_option maxHeartbeats 1600000 in
theorem out5_A (hc0) (h : Fin 4) (j d : Fin 256) :
    out0_A_5 (F := Ideal) c i arg1 harg1 arg2 harg2 arg3 harg3 arg4 harg4 arg5 harg5 arg6 harg6 arg7 harg7 hc0 b0 b1 b2 b3 (ix2 j (col h d))
      = 0 + dkPart b0 b1 b2 b3 h j d := by
  frame_open
  simp (disch := decide) only [↓ View.readCov_skip, ↓ View.readCov_cons_toLoadRect, ↓ View.readCov_fill]
  frame_out
  refine (canon_drop4 _ _ _ _ _ _ ![256, 256] (by rfl)).trans ?_
  canon_tiles x hx <;> idx_vars x
  · obtain rfl : h = 3 := Fin.ext (by omega)
    obtain rfl : j = x0 := Fin.ext (by omega)
    obtain rfl : d = x1 := Fin.ext (by omega)
    open_payloads
    pointwise [dkPart, ds, grad, gin, prob, ex, tot, top, score]
    rfl
  · obtain rfl : h = 2 := Fin.ext (by omega)
    obtain rfl : j = x0 := Fin.ext (by omega)
    obtain rfl : d = x1 := Fin.ext (by omega)
    open_payloads
    pointwise [dkPart, ds, grad, gin, prob, ex, tot, top, score]
    rfl
  · obtain rfl : h = 1 := Fin.ext (by omega)
    obtain rfl : j = x0 := Fin.ext (by omega)
    obtain rfl : d = x1 := Fin.ext (by omega)
    open_payloads
    pointwise [dkPart, ds, grad, gin, prob, ex, tot, top, score]
    rfl
  · obtain rfl : h = 0 := Fin.ext (by omega)
    obtain rfl : j = x0 := Fin.ext (by omega)
    obtain rfl : d = x1 := Fin.ext (by omega)
    open_payloads
    pointwise [dkPart, ds, grad, gin, prob, ex, tot, top, score]
    simp only [row, col0]

end
end Cert.Mem
end
-- ==== Proof.MemDq.lean ====
/- Hand-written: what one grid point of the memory attention's backward kernel leaves for the gradient of the queries. -/
module

public import proofs.«01_k».proof.Proof.MemBody
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.Mem

open Cert.Soft Cert.KernelIdeal Cert.KernelIdeal.Gen

section
variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .f32) (harg6 : arg6.IsWhole) (arg7 : Memref sig .tc .vmem S256x1024 .f32) (harg7 : arg7.IsWhole)
  (b0 b1 b2 b3 : FVec Ideal S256x1024 .bf16) (bo5 bo6 : FVec Ideal S256x1024 .f32)

set_option maxHeartbeats 1600000 in
theorem out4_B (hc0) (h : Fin 4) (j d : Fin 256) :
    out0_B_4 (F := Ideal) c i arg1 harg1 arg2 harg2 arg3 harg3 arg4 harg4 arg5 harg5 arg6 harg6 arg7 harg7 hc0 b0 b1 b2 b3 bo5 bo6 (ix2 j (col h d))
      = dqPart b0 b1 b2 b3 h j d := by
  frame_out
  canon_tiles x hx <;> idx_vars x
  · obtain rfl : h = 3 := Fin.ext (by omega)
    obtain rfl : j = x0 := Fin.ext (by omega)
    obtain rfl : d = x1 := Fin.ext (by omega)
    open_payloads
    pointwise [dqPart, ds, grad, gin, prob, ex, tot, top, score]
    rfl
  · obtain rfl : h = 2 := Fin.ext (by omega)
    obtain rfl : j = x0 := Fin.ext (by omega)
    obtain rfl : d = x1 := Fin.ext (by omega)
    open_payloads
    pointwise [dqPart, ds, grad, gin, prob, ex, tot, top, score]
    rfl
  · obtain rfl : h = 1 := Fin.ext (by omega)
    obtain rfl : j = x0 := Fin.ext (by omega)
    obtain rfl : d = x1 := Fin.ext (by omega)
    open_payloads
    pointwise [dqPart, ds, grad, gin, prob, ex, tot, top, score]
    rfl
  · obtain rfl : h = 0 := Fin.ext (by omega)
    obtain rfl : j = x0 := Fin.ext (by omega)
    obtain rfl : d = x1 := Fin.ext (by omega)
    open_payloads
    pointwise [dqPart, ds, grad, gin, prob, ex, tot, top, score]
    simp only [row, col0]

set_option maxHeartbeats 1600000 in
theorem out4_A (hc0) (h : Fin 4) (j d : Fin 256) :
    out0_A_4 (F := Ideal) c i arg1 harg1 arg2 harg2 arg3 harg3 arg4 harg4 arg5 harg5 arg6 harg6 arg7 harg7 hc0 b0 b1 b2 b3 (ix2 j (col h d))
      = dqPart b0 b1 b2 b3 h j d := by
  frame_open
  simp (disch := decide) only [↓ View.readCov_skip, ↓ View.readCov_cons_toLoadRect, ↓ View.readCov_fill]
  frame_out
  canon_tiles x hx <;> idx_vars x
  · obtain rfl : h = 3 := Fin.ext (by omega)
    obtain rfl : j = x0 := Fin.ext (by omega)
    obtain rfl : d = x1 := Fin.ext (by omega)
    open_payloads
    pointwise [dqPart, ds, grad, gin, prob, ex, tot, top, score]
    rfl
  · obtain rfl : h = 2 := Fin.ext (by omega)
    obtain rfl : j = x0 := Fin.ext (by omega)
    obtain rfl : d = x1 := Fin.ext (by omega)
    open_payloads
    pointwise [dqPart, ds, grad, gin, prob, ex, tot, top, score]
    rfl
  · obtain rfl : h = 1 := Fin.ext (by omega)
    obtain rfl : j = x0 := Fin.ext (by omega)
    obtain rfl : d = x1 := Fin.ext (by omega)
    open_payloads
    pointwise [dqPart, ds, grad, gin, prob, ex, tot, top, score]
    rfl
  · obtain rfl : h = 0 := Fin.ext (by omega)
    obtain rfl : j = x0 := Fin.ext (by omega)
    obtain rfl : d = x1 := Fin.ext (by omega)
    open_payloads
    pointwise [dqPart, ds, grad, gin, prob, ex, tot, top, score]
    simp only [row, col0]

end
end Cert.Mem
end
-- ==== Proof.MemFinal.lean ====
/- Hand-written: the three output arrays of the memory attention's backward kernel after the run, read at an index, as
   sums over the four argument arrays. -/
module

public import proofs.«01_k».proof.Proof.MemDv
public import proofs.«01_k».proof.Proof.MemDk
public import proofs.«01_k».proof.Proof.MemDq

@[expose] public section

set_option maxRecDepth 16384

noncomputable section

open Idealize.ShloMosaic Idealize.ShloMosaic.TcCoe Idealize.SL.Sem
open scoped BigOperators

namespace Cert.Mem

open Cert.Soft Cert.KernelIdeal Cert.KernelIdeal.Gen

/-- Row `r` of head `h` of an array of 2048 rows. -/
abbrev qrow (X : FVec Ideal S2048x1024 .f32) (h : Fin 4) (r : Fin 2048) : Fin 256 → EReal := fun d => X (ix2 r (col h d))
/-- Row `j` of head `h` of an array of 256 rows. -/
abbrev krow (X : FVec Ideal S256x1024 .f32) (h : Fin 4) (j : Fin 256) : Fin 256 → EReal := fun d => X (ix2 j (col h d))

/-- The gradient of the values at head `h`. -/
def dvAll (X0 : FVec Ideal S2048x1024 .f32) (X1 : FVec Ideal S256x1024 .f32) (X3 : FVec Ideal S2048x1024 .f32) (h : Fin 4) (j d : Fin 256) : EReal :=
  ∑ r, pr (qrow X0 h r) (krow X1 h) j * X3 (ix2 r (col h d))
/-- The gradient of the keys at head `h`. -/
def dkAll (X0 : FVec Ideal S2048x1024 .f32) (X1 X2 : FVec Ideal S256x1024 .f32) (X3 : FVec Ideal S2048x1024 .f32) (h : Fin 4) (j d : Fin 256) : EReal :=
  ∑ r, ds (qrow X0 h r) (qrow X3 h r) (krow X1 h) (krow X2 h) j * X0 (ix2 r (col h d))
/-- The gradient of the queries at head `h`. -/
def dqAll (X0 : FVec Ideal S2048x1024 .f32) (X1 X2 : FVec Ideal S256x1024 .f32) (X3 : FVec Ideal S2048x1024 .f32) (h : Fin 4) (r : Fin 2048) (d : Fin 256) : EReal :=
  ∑ j, ds (qrow X0 h r) (qrow X3 h r) (krow X1 h) (krow X2 h) j * X1 (ix2 j (col h d))

/-- The head a lane lies in. -/
abbrev hd (l : Fin 1024) : Fin 4 := ⟨l.val / 256, by omega⟩
/-- The place of a lane in its head. -/
abbrev ln (l : Fin 1024) : Fin 256 := ⟨l.val % 256, by omega⟩
theorem col_hd (l : Fin 1024) : col (hd l) (ln l) = l := Fin.ext (by simp only [col, hd, ln]; omega)

variable (m : (ℓ : Loc nD τ sig) → Buf (Elt Ideal) ℓ) (c : Dev nD)

abbrev A0 : FVec Ideal S2048x1024 .f32 := m ((c.tc : Thread nD τ).loc main_arg0)
abbrev A1 : FVec Ideal S256x1024 .f32 := m ((c.tc : Thread nD τ).loc main_arg1)
abbrev A2 : FVec Ideal S256x1024 .f32 := m ((c.tc : Thread nD τ).loc main_arg2)
abbrev A3 : FVec Ideal S2048x1024 .f32 := m ((c.tc : Thread nD τ).loc main_arg3)

theorem idx_val : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![0, 0] ∧ win0_6.index t = ![0, 0] :=
  (by decide +kernel : ∀ t : Fin grid0.N, _)

/-- Row `r` of point `t`. -/
abbrev gr (t : Fin cfg0.N) (r : Fin 256) : Fin 2048 := ⟨t.val * 256 + r.val, by have := N_0; have := t.isLt; change t.val < grid0.N at this; omega⟩

theorem blk0 (t : Fin cfg0.N) (r : Fin 256) (l : Fin 1024) : (iblk m c 0 t : FVec Ideal S256x1024 .bf16) (ix2 r l) = A0 m c (ix2 (gr t r) l) := by
  blk_point [iblk, V, idx_val t]
theorem blk1 (t : Fin cfg0.N) (r : Fin 256) (l : Fin 1024) : (iblk m c 1 t : FVec Ideal S256x1024 .bf16) (ix2 r l) = A1 m c (ix2 r l) := by
  blk_point [iblk, V, idx_val t]
theorem blk2 (t : Fin cfg0.N) (r : Fin 256) (l : Fin 1024) : (iblk m c 2 t : FVec Ideal S256x1024 .bf16) (ix2 r l) = A2 m c (ix2 r l) := by
  blk_point [iblk, V, idx_val t]
theorem blk3 (t : Fin cfg0.N) (r : Fin 256) (l : Fin 1024) : (iblk m c 3 t : FVec Ideal S256x1024 .bf16) (ix2 r l) = A3 m c (ix2 (gr t r) l) := by
  blk_point [iblk, V, idx_val t]

/-- The rows of the 8 points are the 2048 rows. -/
theorem sum_pts (f : Fin 2048 → EReal) : ∑ t : Fin cfg0.N, ∑ r : Fin 256, f (gr t r) = ∑ r, f r :=
  Fin.sum_mul_add_congr (fun s k hl => rfl) (show 2048 = grid0.N * 256 by rw [N_0])

theorem row0 (t : Fin cfg0.N) (h : Fin 4) (r : Fin 256) : row (iblk m c 0 t) h r = qrow (A0 m c) h (gr t r) := funext fun d => blk0 m c t r _
theorem row1 (t : Fin cfg0.N) (h : Fin 4) : row (iblk m c 1 t) h = krow (A1 m c) h := funext fun j => funext fun d => blk1 m c t j _
theorem row2 (t : Fin cfg0.N) (h : Fin 4) : row (iblk m c 2 t) h = krow (A2 m c) h := funext fun j => funext fun d => blk2 m c t j _
theorem row3 (t : Fin cfg0.N) (h : Fin 4) (r : Fin 256) : row (iblk m c 3 t) h r = qrow (A3 m c) h (gr t r) := funext fun d => blk3 m c t r _

theorem part_dv (t : Fin cfg0.N) (h : Fin 4) (j d : Fin 256) :
    dvPart (iblk m c 0 t) (iblk m c 1 t) (iblk m c 3 t) h j d = ∑ r : Fin 256, pr (qrow (A0 m c) h (gr t r)) (krow (A1 m c) h) j * A3 m c (ix2 (gr t r) (col h d)) := by
  simp only [dvPart, row0, row1, row3, blk0, blk1, blk3]
theorem part_dk (t : Fin cfg0.N) (h : Fin 4) (j d : Fin 256) :
    dkPart (iblk m c 0 t) (iblk m c 1 t) (iblk m c 2 t) (iblk m c 3 t) h j d
      = ∑ r : Fin 256, ds (qrow (A0 m c) h (gr t r)) (qrow (A3 m c) h (gr t r)) (krow (A1 m c) h) (krow (A2 m c) h) j * A0 m c (ix2 (gr t r) (col h d)) := by
  simp only [dkPart, row0, row1, row2, row3, blk0, blk1, blk2, blk3]
theorem part_dq (t : Fin cfg0.N) (h : Fin 4) (r d : Fin 256) :
    dqPart (iblk m c 0 t) (iblk m c 1 t) (iblk m c 2 t) (iblk m c 3 t) h r d = dqAll (A0 m c) (A1 m c) (A2 m c) (A3 m c) h (gr t r) d := by
  simp only [dqPart, dqAll, row0, row1, row2, row3, blk0, blk1, blk2, blk3]

theorem sum_dv (h : Fin 4) (j d : Fin 256) : ∑ t : Fin cfg0.N, dvPart (iblk m c 0 t) (iblk m c 1 t) (iblk m c 3 t) h j d = dvAll (A0 m c) (A1 m c) (A3 m c) h j d :=
  (Finset.sum_congr rfl fun t _ => part_dv m c t h j d).trans
    (sum_pts fun r => pr (qrow (A0 m c) h r) (krow (A1 m c) h) j * A3 m c (ix2 r (col h d)))
theorem step6_A (t : Fin cfg0.N) (h : t.val % 8 = 0) (j : Fin 256) (l : Fin 1024) :
    (outsAt0 m c t.val t.isLt).2.2 (ix2 j l) = 0 + dvPart (iblk m c 0 t) (iblk m c 1 t) (iblk m c 3 t) (hd l) j (ln l) := by
  have e := out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h) (hd l) j (ln l)
  rw [col_hd] at e
  rw [outsAt0_A m c t h]
  dsimp only
  exact e
theorem step6_B (t : Fin cfg0.N) (h : ¬t.val % 8 = 0) (j : Fin 256) (l : Fin 1024) :
    (outsAt0 m c t.val t.isLt).2.2 (ix2 j l) = (outsAt0 m c (t.val - 1) (Nat.lt_of_le_of_lt (Nat.sub_le _ _) t.isLt)).2.2 (ix2 j l) + dvPart (iblk m c 0 t) (iblk m c 1 t) (iblk m c 3 t) (hd l) j (ln l) := by
  have e := out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h' => h ((hcond0_0 t).mp h')) (hd l) j (ln l)
  rw [col_hd] at e
  rw [outsAt0_B m c t h]
  dsimp only
  exact e
theorem end6 : (dats m 0 c).arrAt 6 cfg0.N = fun y : S256x1024.Idx => dvAll (A0 m c) (A1 m c) (A3 m c) (hd (y 1)) (y 0) (ln (y 1)) := by
  refine (dats m 0 c).arrAt_eq_of_after_last 6 t0_7 (by decide +kernel) _ fun y => ?_
  blk_simp
  rw [after0_6, Pipeline.eq_sum_fin_of_reset_step_apply_last (fun n h => (outsAt0 m c n h).2.2) 8 (fun _ => 0)
    (fun t (y : S256x1024.Idx) => dvPart (iblk m c 0 t) (iblk m c 1 t) (iblk m c 3 t) (hd (y 1)) (y 0) (ln (y 1)))
    (fun t h y => by idx_vars y; exact step6_A m c t h y0 y1)
    (fun t h y => by idx_vars y; exact step6_B m c t h y0 y1) (le_of_eq N_0) t0_7 rfl, zero_add]
  exact sum_dv m c _ _ _

theorem sum_dk (h : Fin 4) (j d : Fin 256) : ∑ t : Fin cfg0.N, dkPart (iblk m c 0 t) (iblk m c 1 t) (iblk m c 2 t) (iblk m c 3 t) h j d = dkAll (A0 m c) (A1 m c) (A2 m c) (A3 m c) h j d :=
  (Finset.sum_congr rfl fun t _ => part_dk m c t h j d).trans
    (sum_pts fun r => ds (qrow (A0 m c) h r) (qrow (A3 m c) h r) (krow (A1 m c) h) (krow (A2 m c) h) j * A0 m c (ix2 r (col h d)))
theorem step5_A (t : Fin cfg0.N) (h : t.val % 8 = 0) (j : Fin 256) (l : Fin 1024) :
    (outsAt0 m c t.val t.isLt).2.1 (ix2 j l) = 0 + dkPart (iblk m c 0 t) (iblk m c 1 t) (iblk m c 2 t) (iblk m c 3 t) (hd l) j (ln l) := by
  have e := out5_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h) (hd l) j (ln l)
  rw [col_hd] at e
  rw [outsAt0_A m c t h]
  dsimp only
  exact e
theorem step5_B (t : Fin cfg0.N) (h : ¬t.val % 8 = 0) (j : Fin 256) (l : Fin 1024) :
    (outsAt0 m c t.val t.isLt).2.1 (ix2 j l) = (outsAt0 m c (t.val - 1) (Nat.lt_of_le_of_lt (Nat.sub_le _ _) t.isLt)).2.1 (ix2 j l) + dkPart (iblk m c 0 t) (iblk m c 1 t) (iblk m c 2 t) (iblk m c 3 t) (hd l) j (ln l) := by
  have e := out5_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h' => h ((hcond0_0 t).mp h')) (hd l) j (ln l)
  rw [col_hd] at e
  rw [outsAt0_B m c t h]
  dsimp only
  exact e
theorem end5 : (dats m 0 c).arrAt 5 cfg0.N = fun y : S256x1024.Idx => dkAll (A0 m c) (A1 m c) (A2 m c) (A3 m c) (hd (y 1)) (y 0) (ln (y 1)) := by
  refine (dats m 0 c).arrAt_eq_of_after_last 5 t0_7 (by decide +kernel) _ fun y => ?_
  blk_simp
  rw [after0_5, Pipeline.eq_sum_fin_of_reset_step_apply_last (fun n h => (outsAt0 m c n h).2.1) 8 (fun _ => 0)
    (fun t (y : S256x1024.Idx) => dkPart (iblk m c 0 t) (iblk m c 1 t) (iblk m c 2 t) (iblk m c 3 t) (hd (y 1)) (y 0) (ln (y 1)))
    (fun t h y => by idx_vars y; exact step5_A m c t h y0 y1)
    (fun t h y => by idx_vars y; exact step5_B m c t h y0 y1) (le_of_eq N_0) t0_7 rfl, zero_add]
  exact sum_dk m c _ _ _

theorem step4 (t : Fin cfg0.N) (r : Fin 256) (l : Fin 1024) :
    (outsAt0 m c t.val t.isLt).1 (ix2 r l) = dqPart (iblk m c 0 t) (iblk m c 1 t) (iblk m c 2 t) (iblk m c 3 t) (hd l) r (ln l) := by
  by_cases h : t.val % 8 = 0
  · have e := out4_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h) (hd l) r (ln l)
    rw [col_hd] at e
    rw [outsAt0_A m c t h]
    dsimp only
    exact e
  · have e := out4_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h' => h ((hcond0_0 t).mp h')) (hd l) r (ln l)
    rw [col_hd] at e
    rw [outsAt0_B m c t h]
    dsimp only
    exact e
theorem end4 : (dats m 0 c).arrAt 4 cfg0.N = fun y : S2048x1024.Idx => dqAll (A0 m c) (A1 m c) (A2 m c) (A3 m c) (hd (y 1)) (y 0) (ln (y 1)) := by
  refine (dats m 0 c).arrAt_eq_of_covers 4 _ (by decide +kernel) fun t hf y => ?_
  blk_simp
  rw [after0_4]
  idx_vars y
  have e0 : ((cfg0.win 4).blk t).view.emb (ix2 y0 y1) 0 = gr t y0 := Fin.ext (by blk_simp [idx_val t])
  have e1 : ((cfg0.win 4).blk t).view.emb (ix2 y0 y1) 1 = y1 := Fin.ext (by blk_simp [idx_val t])
  rw [e0, e1]
  exact (step4 m c t y0 y1).trans (part_dq m c t _ _ _)

end Cert.Mem
end
-- ==== Proof.MemRef.lean ====
/- Hand-written: the reference gradient of the memory attention, read at an index. -/
module

public import proofs.«01_k».proof.Proof.MemFinal
public import proofs.«01_k».proof.Proof.Gen.ReferenceIdeal.Read

@[expose] public section

set_option maxRecDepth 16384

noncomputable section

open Idealize.ShloMosaic Idealize.ShloMosaic.TcCoe Idealize.SL.Sem
open scoped BigOperators

namespace Cert.MemRef

open Cert.Soft Cert.Mem Cert.ReferenceIdeal Cert.ReferenceIdeal.Gen Cert.ReferenceIdeal.Read

variable (X0 : FVec Ideal S2048x1024 .f32) (X1 X2 : FVec Ideal S256x1024 .f32) (X3 : FVec Ideal S2048x1024 .f32)

theorem at0 (r : Fin 2048) (h : Fin 4) (d : Fin 256) : val_main_v0 (F := Ideal) X0 (ix3 r h d) = X0 (ix2 r (col h d)) := by
  pointwise [val_main_v0]
theorem at1 (r : Fin 256) (h : Fin 4) (d : Fin 256) : val_main_v1 (F := Ideal) X1 (ix3 r h d) = X1 (ix2 r (col h d)) := by
  pointwise [val_main_v1]
theorem at2 (r : Fin 256) (h : Fin 4) (d : Fin 256) : val_main_v2 (F := Ideal) X2 (ix3 r h d) = X2 (ix2 r (col h d)) := by
  pointwise [val_main_v2]
theorem at38 (r : Fin 2048) (h : Fin 4) (d : Fin 256) : val_main_v38 (F := Ideal) X3 (ix3 h d r) = X3 (ix2 r (col h d)) := by
  pointwise [val_main_v38, val_main_v37]
theorem at5 (h : Fin 4) (r : Fin 2048) (j : Fin 256) : val_main_v5 (F := Ideal) X0 X1 (ix3 h r j) = score (qrow X0 h r) (krow X1 h) j := by
  pointwise [val_main_v5, val_main_v4, val_main_v3, val_main_cst, at0, at1, score]
theorem at6 (h : Fin 4) (r : Fin 2048) : val_main_v6 (F := Ideal) X0 X1 (ix2 h r) = top (score (qrow X0 h r) (krow X1 h)) := by
  pointwise [val_main_v6, val_main_cst_0, at5, top]
theorem at13' (h : Fin 4) (r : Fin 2048) : val_main_v13 (F := Ideal) X0 X1 (ix2 h r) = max (Ideal.ofBits .f32 0xFF800000#32) (val_main_v6 (F := Ideal) X0 X1 (ix2 h r)) := by
  rw [val_main_v13_apply, val_main_v12_apply]
  rfl
theorem at13 (h : Fin 4) (r : Fin 2048) : val_main_v13 (F := Ideal) X0 X1 (ix2 h r) = top (score (qrow X0 h r) (krow X1 h)) :=
  (at13' X0 X1 h r).trans ((congrArg₂ max ninf (at6 X0 X1 h r)).trans (max_bot_left _))
theorem at26 (h : Fin 4) (r : Fin 2048) (j : Fin 256) : val_main_v26 (F := Ideal) X0 X1 (ix3 h r j) = ex (score (qrow X0 h r) (krow X1 h)) j := by
  pointwise [val_main_v26, val_main_v25, val_main_v24, val_main_v23, at5, at13, ex]
theorem at27 (h : Fin 4) (r : Fin 2048) : val_main_v27 (F := Ideal) X0 X1 (ix2 h r) = tot (score (qrow X0 h r) (krow X1 h)) := by
  pointwise [val_main_v27, val_main_cst_8, at26, tot]
theorem at30 (h : Fin 4) (r : Fin 2048) (j : Fin 256) : val_main_v30 (F := Ideal) X0 X1 (ix3 h r j) = pr (qrow X0 h r) (krow X1 h) j := by
  pointwise [val_main_v30, val_main_v29, val_main_v28, at26, at27, pr, prob]
theorem at39 (h : Fin 4) (r : Fin 2048) (j : Fin 256) : val_main_v39 (F := Ideal) X2 X3 (ix3 h r j) = gin (qrow X3 h r) (krow X2 h) j := by
  pointwise [val_main_v39, at38, at2, gin]
theorem at33 (h : Fin 4) (r : Fin 2048) : val_main_v33 (F := Ideal) X0 X1 (ix3 h r 0)
    = Ideal.div 1 (tot (score (qrow X0 h r) (krow X1 h)) * tot (score (qrow X0 h r) (krow X1 h))) := by
  pointwise [val_main_v33, val_main_v32, val_main_v31, val_main_v28, val_main_cst_9, at27]
theorem at45 (h : Fin 4) (r : Fin 2048) : val_main_v45 (F := Ideal) X0 X1 X2 X3 (ix2 h r)
    = ∑ k, gin (qrow X3 h r) (krow X2 h) k * Ideal.div 1 (tot (score (qrow X0 h r) (krow X1 h)) * tot (score (qrow X0 h r) (krow X1 h))) * ex (score (qrow X0 h r) (krow X1 h)) k := by
  pointwise [val_main_v45, val_main_v44, val_main_v43, val_main_v42, val_main_cst_10, at26, at33, at39]
theorem at50 (h : Fin 4) (r : Fin 2048) : val_main_v50 (F := Ideal) X0 X1 X2 X3 (ix2 h r) = -(val_main_v45 (F := Ideal) X0 X1 X2 X3 (ix2 h r)) := by
  pointwise [val_main_v50, val_main_v47, val_main_v46, val_main_cst_11]
  exact Fin.sum_univ_one _
theorem at55 (h : Fin 4) (r : Fin 2048) (j : Fin 256) : val_main_v55 (F := Ideal) X0 X1 X2 X3 (ix3 h r j)
    = grad' (score (qrow X0 h r) (krow X1 h)) (gin (qrow X3 h r) (krow X2 h)) scale j := by
  pointwise [val_main_v55, val_main_v54, val_main_v53, val_main_v52, val_main_v51, val_main_v49, val_main_v48, val_main_v28, val_main_cst_12, at26, at27, at39, at50, at45, grad']
theorem at60 (j : Fin 256) (l : Fin 1024) : val_main_v60 (F := Ideal) X0 X1 X3 (ix2 j l) = dvAll X0 X1 X3 (hd l) j (ln l) := by
  pointwise [val_main_v60, val_main_v41, val_main_v40, at30, at38, dvAll]
  exact Finset.sum_congr rfl fun r _ => mul_comm _ _

/-- Every value of an array is a real number. -/
def AllRe {s : Shape} {e : FTy} (X : FVec Ideal s e) : Prop := ∀ i, Re (X i)

variable {X0 X1 X2 X3} (h0 : AllRe X0) (h1 : AllRe X1) (h2 : AllRe X2) (h3 : AllRe X3)

theorem scale_re : Re scale := ⟨1 / 16, by simp [scale, Ideal.ofBits, Ideal.ieee]; rw [← EReal.coe_mul]; norm_num⟩
include h0 h1 h2 h3 in
theorem ds_ref (h : Fin 4) (r : Fin 2048) (j : Fin 256) : val_main_v55 (F := Ideal) X0 X1 X2 X3 (ix3 h r j)
    = ds (qrow X0 h r) (qrow X3 h r) (krow X1 h) (krow X2 h) j := by
  rw [at55]
  have hs : ∀ k, Re (score (qrow X0 h r) (krow X1 h) k) := fun k => (Re.sum fun d => (h0 _).mul (h1 _)).mul scale_re
  refine grad_eq ⟨fun k => ?_, 0, ?_⟩ (fun k => Re.sum fun d => (h3 _).mul (h2 _)) scale_re j
  · obtain ⟨x, hx⟩ := hs k; rw [hx]; exact EReal.coe_ne_top x
  · obtain ⟨x, hx⟩ := hs 0; rw [hx]; exact EReal.coe_ne_bot x
include h0 h1 h2 h3 in
theorem at61 (j : Fin 256) (l : Fin 1024) : val_main_v61 (F := Ideal) X0 X1 X2 X3 (ix2 j l) = dkAll X0 X1 X2 X3 (hd l) j (ln l) := by
  pointwise [val_main_v61, val_main_v57, val_main_v56, ds_ref h0 h1 h2 h3, at0, dkAll]
include h0 h1 h2 h3 in
theorem at63 (r : Fin 2048) (l : Fin 1024) : val_main_v63 (F := Ideal) X0 X1 X2 X3 (ix2 r l) = dqAll X0 X1 X2 X3 (hd l) r (ln l) := by
  pointwise [val_main_v63, val_main_v62, val_main_v59, val_main_v58, ds_ref h0 h1 h2 h3, at1, dqAll]

end Cert.MemRef
end
-- ==== Proof.MemClaims.lean ====
/- Hand-written: the claims about the memory attention's backward kernel and its reference. -/
module

public import proofs.«01_k».proof.Defs
public import proofs.«01_k».proof.Proof.MemRef
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import Idealize.ShloMosaic.Lib.Claim

@[expose] public section

set_option maxRecDepth 16384

noncomputable section

namespace Cert.MemClaims

open Idealize.ShloMosaic Idealize.SL.Sem Cert.Soft Cert.Mem Cert.MemRef

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_ri_pre : Cert.quiescent_ReferenceIdeal_pre_finite := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem preserves : Cert.preserves_Kernel_KernelIdeal := trivial

/-- The test `|x| < ∞` passed at an index says that the value there is real. -/
theorem re_of_test {x : EReal} (h : FloatOps.cmpf (F := Ideal) (φ := .f32) .olt (FloatOps.absf (F := Ideal) (φ := .f32) x) (Ideal.ofBits .f32 0x7F800000#32) = 1#1) : Re x := by
  refine Re.of_abs ?_
  rw [pinf] at h
  by_contra hn
  simp [FloatOps.cmpf, FloatOps.absf, Ideal.cmp, hn] at h

theorem re_args (m : (ℓ : Loc Cert.KernelIdeal.nD Cert.KernelIdeal.τ Cert.KernelIdeal.sig) → Buf (Elt Ideal) ℓ) (h : Cert.Pre_KernelIdeal_finite m)
    (c : Dev Cert.KernelIdeal.nD) : AllRe (A0 m c) ∧ AllRe (A1 m c) ∧ AllRe (A2 m c) ∧ AllRe (A3 m c) := by
  obtain ⟨h0, h1, h2, h3⟩ := h c
  exact ⟨fun i => re_of_test (congrFun h0 i), fun i => re_of_test (congrFun h1 i), fun i => re_of_test (congrFun h2 i), fun i => re_of_test (congrFun h3 i)⟩

theorem algebraic : Cert.algebraic_KernelIdeal_ReferenceIdeal_pre_finite := by
  intro m g m' g' hpre hag
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g,
    (θ_run Cert.ReferenceIdeal.defs _ _).mono (fun r h c => ?_) (Cert.ReferenceIdeal.Value.run (F := Ideal) m' g')⟩
  obtain ⟨a0, a1, a2, a3⟩ := hag c
  obtain ⟨r0, r1, r2, r3⟩ := re_args m hpre c
  obtain ⟨e63, e61, e60, k⟩ := h c
  refine ⟨e63.trans ?_, e61.trans ?_, e60.trans ?_, k⟩
  · rw [Cert.ReferenceIdeal.Read.val_main_v63_eq, a0, a1, a2, a3]
    refine Eq.trans (funext fun y => ?_) (end4 m c).symm
    idx_vars y
    exact at63 r0 r1 r2 r3 y0 y1
  · rw [Cert.ReferenceIdeal.Read.val_main_v61_eq, a0, a1, a2, a3]
    refine Eq.trans (funext fun y => ?_) (end5 m c).symm
    idx_vars y
    exact at61 r0 r1 r2 r3 y0 y1
  · refine (Cert.ReferenceIdeal.Read.val_main_v60_eq _ _ _).trans ?_
    rw [a0, a1, a3]
    refine Eq.trans (funext fun y => ?_) (end6 m c).symm
    idx_vars y
    exact at60 _ _ _ y0 y1

end Cert.MemClaims
end
-- ==== Proof.NormGrad.lean ====
/- Hand-written: the root-mean-square normalisation of one row and its gradient, as the calls of the step and their
   references both write them. -/
module

public import Idealize.ShloMosaic.Lib.Pipeline.ValueKit

@[expose] public section

noncomputable section

open Idealize.ShloMosaic
open scoped BigOperators

namespace Cert.Norm

variable {n : Nat} (N : BitVec 32)

/-- The mean of the squares of a row plus the small constant; `N` is the f32 pattern of the row's length. -/
def var (x : Fin n → EReal) : EReal := Ideal.div (∑ l, x l * x l) (Ideal.ofBits .f32 N) + Ideal.ofBits .f32 0x358637BD#32
/-- The reciprocal of its square root. -/
def inv (x : Fin n → EReal) : EReal := Ideal.rsqrt (var N x)
/-- The normalised row. -/
def out (x g : Fin n → EReal) (l : Fin n) : EReal := x l * inv N x * g l
/-- The derivative of `inv` by `var`. -/
def slope (x : Fin n → EReal) : EReal := Ideal.ofBits .f32 0xBF000000#32 * Ideal.div (inv N x) (var N x)
/-- What the mean's gradient gives every lane, before the factor of the lane's own value. -/
def coef (x g dh : Fin n → EReal) : EReal := Ideal.div ((∑ l, x l * (dh l * g l)) * slope N x) (Ideal.ofBits .f32 N)
/-- The gradient of the row. -/
def dx (x g dh : Fin n → EReal) (l : Fin n) : EReal := dh l * g l * inv N x + x l * coef N x g dh + coef N x g dh * x l
/-- What the row adds to the gradient of the gain. -/
def dg (x dh : Fin n → EReal) (l : Fin n) : EReal := x l * inv N x * dh l

end Cert.Norm
end
-- ==== Proof.UpH.lean ====
/- Hand-written: the gradient through the feed-forward's first product and the normalisation before it: the sum of the two products with the
   transposed weight halves, taken through the normalisation, and the gradient of the gain added up over the rows. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.UpH

open Cert.Kernel2Ideal Cert.Kernel2Ideal.Gen

/-- The sum of two products with transposed right sides, at a row. -/
abbrev dh {a b : Nat} (X0 : (⟨2, ![a, 2816]⟩ : Shape).Idx → EReal) (X1 : (⟨2, ![b, 2816]⟩ : Shape).Idx → EReal) (X2 : (⟨2, ![a, 2816]⟩ : Shape).Idx → EReal)
    (X3 : (⟨2, ![b, 2816]⟩ : Shape).Idx → EReal) (r : Fin a) : Fin b → EReal := fun l => ∑ k, X0 (ix2 r k) * X1 (ix2 l k) + ∑ k, X2 (ix2 r k) * X3 (ix2 l k)
/-- Row `r` of an array. -/
abbrev row {a b : Nat} (X : (⟨2, ![a, b]⟩ : Shape).Idx → EReal) (r : Fin a) : Fin b → EReal := fun l => X (ix2 r l)
/-- The first row of a stack of gains. -/
abbrev gain {a : Nat} (g : (⟨3, ![a, 1, 1024]⟩ : Shape).Idx → EReal) (z : Fin a) : Fin 1024 → EReal := fun l => g (ix3 z 0 l)

abbrev K : BitVec 32 := 0x44800000#32

theorem out_A_7 (c : Dev nD) (i : grid0.Coords) (arg2 : Memref sig .tc .vmem S256x2816 .bf16) (harg2 : arg2.IsWhole) (arg3 : Memref sig .tc .vmem S1024x2816 .bf16) (harg3 : arg3.IsWhole) (arg4 : Memref sig .tc .vmem S256x2816 .bf16) (harg4 : arg4.IsWhole) (arg5 : Memref sig .tc .vmem S1024x2816 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S1x1024 .f32) (harg10 : arg10.IsWhole) (hc0 : cond0_0 i) (b0 : FVec Ideal S256x2816 .bf16) (b1 : FVec Ideal S1024x2816 .bf16) (b2 : FVec Ideal S256x2816 .bf16) (b3 : FVec Ideal S1024x2816 .bf16) (b4 : FVec Ideal S256x1024 .f32) (b5 : FVec Ideal S256x1024 .f32) (b6 : FVec Ideal S1x1x1024 .f32) (r : Fin 256) (l : Fin 1024) :
    out0_A_7 (F := Ideal) c i arg2 harg2 arg3 harg3 arg4 harg4 arg5 harg5 arg6 harg6 arg7 harg7 arg8 harg8 arg9 harg9 arg10 harg10 hc0 b0 b1 b2 b3 b4 b5 b6 (ix2 r l) = Norm.dx K (row b4 r) (gain b6 0) (dh b0 b1 b2 b3 r) l + b5 (ix2 r l) := by
  frame_out
  open_payloads
  pointwise [Norm.dx, Norm.coef, Norm.slope, Norm.inv, Norm.var, row, gain, dh]
  simp only [Fin.sum_univ_one]

theorem out_B_7 (c : Dev nD) (i : grid0.Coords) (arg2 : Memref sig .tc .vmem S256x2816 .bf16) (harg2 : arg2.IsWhole) (arg3 : Memref sig .tc .vmem S1024x2816 .bf16) (harg3 : arg3.IsWhole) (arg4 : Memref sig .tc .vmem S256x2816 .bf16) (harg4 : arg4.IsWhole) (arg5 : Memref sig .tc .vmem S1024x2816 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S1x1024 .f32) (harg10 : arg10.IsWhole) (hc0 : ¬cond0_0 i) (b0 : FVec Ideal S256x2816 .bf16) (b1 : FVec Ideal S1024x2816 .bf16) (b2 : FVec Ideal S256x2816 .bf16) (b3 : FVec Ideal S1024x2816 .bf16) (b4 : FVec Ideal S256x1024 .f32) (b5 : FVec Ideal S256x1024 .f32) (b6 : FVec Ideal S1x1x1024 .f32) (bo8 : FVec Ideal S1x1024 .f32) (r : Fin 256) (l : Fin 1024) :
    out0_B_7 (F := Ideal) c i arg2 harg2 arg3 harg3 arg4 harg4 arg5 harg5 arg6 harg6 arg7 harg7 arg8 harg8 arg9 harg9 arg10 harg10 hc0 b0 b1 b2 b3 b4 b5 b6 bo8 (ix2 r l) = Norm.dx K (row b4 r) (gain b6 0) (dh b0 b1 b2 b3 r) l + b5 (ix2 r l) := by
  frame_out
  open_payloads
  pointwise [Norm.dx, Norm.coef, Norm.slope, Norm.inv, Norm.var, row, gain, dh]
  simp only [Fin.sum_univ_one]

theorem out_A_8 (c : Dev nD) (i : grid0.Coords) (arg2 : Memref sig .tc .vmem S256x2816 .bf16) (harg2 : arg2.IsWhole) (arg3 : Memref sig .tc .vmem S1024x2816 .bf16) (harg3 : arg3.IsWhole) (arg4 : Memref sig .tc .vmem S256x2816 .bf16) (harg4 : arg4.IsWhole) (arg5 : Memref sig .tc .vmem S1024x2816 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S1x1024 .f32) (harg10 : arg10.IsWhole) (hc0 : cond0_0 i) (b0 : FVec Ideal S256x2816 .bf16) (b1 : FVec Ideal S1024x2816 .bf16) (b2 : FVec Ideal S256x2816 .bf16) (b3 : FVec Ideal S1024x2816 .bf16) (b4 : FVec Ideal S256x1024 .f32) (b5 : FVec Ideal S256x1024 .f32) (b6 : FVec Ideal S1x1x1024 .f32) (l : Fin 1024) :
    out0_A_8 (F := Ideal) c i arg2 harg2 arg3 harg3 arg4 harg4 arg5 harg5 arg6 harg6 arg7 harg7 arg8 harg8 arg9 harg9 arg10 harg10 hc0 b0 b1 b2 b3 b4 b5 b6 (ix2 0 l) = 0 + ∑ r, Norm.dg K (row b4 r) (dh b0 b1 b2 b3 r) l := by
  frame_open
  simp (disch := decide) only [↓ View.readCov_skip, ↓ View.readCov_cons_toLoadRect, ↓ View.readCov_fill]
  frame_out
  open_payloads
  pointwise [Norm.dg, Norm.inv, Norm.var, row, dh, zero_add]

theorem out_B_8 (c : Dev nD) (i : grid0.Coords) (arg2 : Memref sig .tc .vmem S256x2816 .bf16) (harg2 : arg2.IsWhole) (arg3 : Memref sig .tc .vmem S1024x2816 .bf16) (harg3 : arg3.IsWhole) (arg4 : Memref sig .tc .vmem S256x2816 .bf16) (harg4 : arg4.IsWhole) (arg5 : Memref sig .tc .vmem S1024x2816 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S1x1024 .f32) (harg10 : arg10.IsWhole) (hc0 : ¬cond0_0 i) (b0 : FVec Ideal S256x2816 .bf16) (b1 : FVec Ideal S1024x2816 .bf16) (b2 : FVec Ideal S256x2816 .bf16) (b3 : FVec Ideal S1024x2816 .bf16) (b4 : FVec Ideal S256x1024 .f32) (b5 : FVec Ideal S256x1024 .f32) (b6 : FVec Ideal S1x1x1024 .f32) (bo8 : FVec Ideal S1x1024 .f32) (l : Fin 1024) :
    out0_B_8 (F := Ideal) c i arg2 harg2 arg3 harg3 arg4 harg4 arg5 harg5 arg6 harg6 arg7 harg7 arg8 harg8 arg9 harg9 arg10 harg10 hc0 b0 b1 b2 b3 b4 b5 b6 bo8 (ix2 0 l) = bo8 (ix2 0 l) + ∑ r, Norm.dg K (row b4 r) (dh b0 b1 b2 b3 r) l := by
  frame_out
  open_payloads
  pointwise [Norm.dg, Norm.inv, Norm.var, row, dh]

variable (m : (ℓ : Loc nD τ sig) → Buf (Elt Ideal) ℓ) (c : Dev nD)

abbrev A0 : FVec Ideal S2048x2816 .f32 := m ((c.tc : Thread nD τ).loc main_arg0)
abbrev A1 : FVec Ideal S2048x2816 .f32 := m ((c.tc : Thread nD τ).loc main_arg1)
abbrev A2 : FVec Ideal S1024x2816 .f32 := m ((c.tc : Thread nD τ).loc main_arg2)
abbrev A3 : FVec Ideal S1024x2816 .f32 := m ((c.tc : Thread nD τ).loc main_arg3)
abbrev A4 : FVec Ideal S2048x1024 .f32 := m ((c.tc : Thread nD τ).loc main_arg4)
abbrev A5 : FVec Ideal S2048x1024 .f32 := m ((c.tc : Thread nD τ).loc main_arg5)
abbrev A6 : FVec Ideal S4x1x1024 .f32 := m ((c.tc : Thread nD τ).loc main_arg6)

theorem idx_val : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0, 0] ∧ win0_7.index t = ![t.val, 0] ∧ win0_8.index t = ![0, 0] :=
  (by decide +kernel : ∀ t : Fin grid0.N, _)

/-- Row `r` of point `t`. -/
abbrev gr (t : Fin cfg0.N) (r : Fin 256) : Fin 2048 := ⟨t.val * 256 + r.val, by have := N_0; have := t.isLt; change t.val < grid0.N at this; omega⟩

theorem blk0 (t : Fin cfg0.N) (r : Fin 256) (l : Fin 2816) : (iblk m c 0 t : FVec Ideal S256x2816 .bf16) (ix2 r l) = A0 m c (ix2 (gr t r) l) := by
  blk_point [iblk, V, idx_val t]
theorem blk1 (t : Fin cfg0.N) (r : Fin 1024) (l : Fin 2816) : (iblk m c 1 t : FVec Ideal S1024x2816 .bf16) (ix2 r l) = A2 m c (ix2 r l) := by
  blk_point [iblk, V, idx_val t]
theorem blk2 (t : Fin cfg0.N) (r : Fin 256) (l : Fin 2816) : (iblk m c 2 t : FVec Ideal S256x2816 .bf16) (ix2 r l) = A1 m c (ix2 (gr t r) l) := by
  blk_point [iblk, V, idx_val t]
theorem blk3 (t : Fin cfg0.N) (r : Fin 1024) (l : Fin 2816) : (iblk m c 3 t : FVec Ideal S1024x2816 .bf16) (ix2 r l) = A3 m c (ix2 r l) := by
  blk_point [iblk, V, idx_val t]
theorem blk4 (t : Fin cfg0.N) (r : Fin 256) (l : Fin 1024) : (iblk m c 4 t : FVec Ideal S256x1024 .f32) (ix2 r l) = A4 m c (ix2 (gr t r) l) := by
  blk_point [iblk, V, idx_val t]
theorem blk5 (t : Fin cfg0.N) (r : Fin 256) (l : Fin 1024) : (iblk m c 5 t : FVec Ideal S256x1024 .f32) (ix2 r l) = A5 m c (ix2 (gr t r) l) := by
  blk_point [iblk, V, idx_val t]
theorem blk6 (t : Fin cfg0.N) (l : Fin 1024) : (iblk m c 6 t : FVec Ideal S1x1x1024 .f32) (ix3 0 0 l) = A6 m c (ix3 0 0 l) := by
  blk_point [iblk, V, idx_val t]

/-- The gradient of the rows. -/
def DX (X0 X1 : FVec Ideal S2048x2816 .f32) (X2 X3 : FVec Ideal S1024x2816 .f32) (X4 X5 : FVec Ideal S2048x1024 .f32) (X6 : FVec Ideal S4x1x1024 .f32) (r : Fin 2048) (l : Fin 1024) : EReal :=
  Norm.dx K (row X4 r) (gain X6 0) (dh X0 X2 X1 X3 r) l + X5 (ix2 r l)
/-- The gradient of the gain. -/
def DG (X0 X1 : FVec Ideal S2048x2816 .f32) (X2 X3 : FVec Ideal S1024x2816 .f32) (X4 : FVec Ideal S2048x1024 .f32) (l : Fin 1024) : EReal :=
  ∑ r, Norm.dg K (row X4 r) (dh X0 X2 X1 X3 r) l

theorem row4 (t : Fin cfg0.N) (r : Fin 256) : row (iblk m c 4 t : FVec Ideal S256x1024 .f32) r = row (A4 m c) (gr t r) := funext fun l => blk4 m c t r l
theorem gain6 (t : Fin cfg0.N) : gain (iblk m c 6 t : FVec Ideal S1x1x1024 .f32) 0 = gain (A6 m c) 0 := funext fun l => blk6 m c t l
theorem dh_blk (t : Fin cfg0.N) (r : Fin 256) :
    dh (iblk m c 0 t : FVec Ideal S256x2816 .bf16) (iblk m c 1 t : FVec Ideal S1024x2816 .bf16) (iblk m c 2 t : FVec Ideal S256x2816 .bf16) (iblk m c 3 t : FVec Ideal S1024x2816 .bf16) r
      = dh (A0 m c) (A2 m c) (A1 m c) (A3 m c) (gr t r) := by
  funext l
  simp only [dh, blk0, blk1, blk2, blk3]

theorem step8_A (t : Fin cfg0.N) (h : t.val % 8 = 0) (l : Fin 1024) :
    (outsAt0 m c t.val t.isLt).2 (ix2 0 l) = 0 + ∑ r, Norm.dg K (row (A4 m c) (gr t r)) (dh (A0 m c) (A2 m c) (A1 m c) (A3 m c) (gr t r)) l := by
  have e := out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (iblk m c 0 t) (iblk m c 1 t) (iblk m c 2 t) (iblk m c 3 t) (iblk m c 4 t) (iblk m c 5 t) (iblk m c 6 t) l
  simp only [row4, dh_blk] at e
  rw [outsAt0_A m c t h]
  dsimp only
  exact e
theorem step8_B (t : Fin cfg0.N) (h : ¬t.val % 8 = 0) (l : Fin 1024) :
    (outsAt0 m c t.val t.isLt).2 (ix2 0 l) = (outsAt0 m c (t.val - 1) (Nat.lt_of_le_of_lt (Nat.sub_le _ _) t.isLt)).2 (ix2 0 l) + ∑ r, Norm.dg K (row (A4 m c) (gr t r)) (dh (A0 m c) (A2 m c) (A1 m c) (A3 m c) (gr t r)) l := by
  have e := out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((hcond0_0 t).mp h')) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 l
  simp only [row4, dh_blk] at e
  rw [outsAt0_B m c t h]
  dsimp only
  exact e
theorem step7 (t : Fin cfg0.N) (r : Fin 256) (l : Fin 1024) :
    (outsAt0 m c t.val t.isLt).1 (ix2 r l) = DX (A0 m c) (A1 m c) (A2 m c) (A3 m c) (A4 m c) (A5 m c) (A6 m c) (gr t r) l := by
  by_cases h : t.val % 8 = 0
  · have e := out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (iblk m c 0 t) (iblk m c 1 t) (iblk m c 2 t) (iblk m c 3 t) (iblk m c 4 t) (iblk m c 5 t) (iblk m c 6 t) r l
    simp only [row4, dh_blk, gain6, blk5] at e
    rw [outsAt0_A m c t h]
    dsimp only
    exact e
  · have e := out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((hcond0_0 t).mp h')) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 r l
    simp only [row4, dh_blk, gain6, blk5] at e
    rw [outsAt0_B m c t h]
    dsimp only
    exact e

/-- The rows of the 8 points are the 2048 rows. -/
theorem sum_pts (f : Fin 2048 → EReal) : ∑ t : Fin cfg0.N, ∑ r : Fin 256, f (gr t r) = ∑ r, f r :=
  Fin.sum_mul_add_congr (fun s k hl => rfl) (show 2048 = grid0.N * 256 by rw [N_0])

theorem end8 : (dats m 0 c).arrAt 8 cfg0.N = fun y : S1x1024.Idx => DG (A0 m c) (A1 m c) (A2 m c) (A3 m c) (A4 m c) (y 1) := by
  refine (dats m 0 c).arrAt_eq_of_after_last 8 t0_7 (by decide +kernel) _ fun y => ?_
  blk_simp
  rw [after0_8, Pipeline.eq_sum_fin_of_reset_step_apply_last (fun n h => (outsAt0 m c n h).2) 8 (fun _ => 0)
    (fun t (y : S1x1024.Idx) => ∑ r, Norm.dg K (row (A4 m c) (gr t r)) (dh (A0 m c) (A2 m c) (A1 m c) (A3 m c) (gr t r)) (y 1))
    (fun t h y => by idx_vars y; obtain rfl : y0 = 0 := Subsingleton.elim _ _; exact step8_A m c t h y1)
    (fun t h y => by idx_vars y; obtain rfl : y0 = 0 := Subsingleton.elim _ _; exact step8_B m c t h y1) (le_of_eq N_0) t0_7 rfl, zero_add]
  exact sum_pts fun r => Norm.dg K (row (A4 m c) r) (dh (A0 m c) (A2 m c) (A1 m c) (A3 m c) r) _

theorem end7 : (dats m 0 c).arrAt 7 cfg0.N = fun y : S2048x1024.Idx => DX (A0 m c) (A1 m c) (A2 m c) (A3 m c) (A4 m c) (A5 m c) (A6 m c) (y 0) (y 1) := by
  refine (dats m 0 c).arrAt_eq_of_covers 7 _ (by decide +kernel) fun t hf y => ?_
  blk_simp
  rw [after0_7]
  idx_vars y
  have e0 : ((cfg0.win 7).blk t).view.emb (ix2 y0 y1) 0 = gr t y0 := Fin.ext (by blk_simp [idx_val t])
  have e1 : ((cfg0.win 7).blk t).view.emb (ix2 y0 y1) 1 = y1 := Fin.ext (by blk_simp [idx_val t])
  rw [e0, e1]
  exact step7 m c t y0 y1

section
open Cert.Reference2Ideal.Read
variable (x0 x1 : FVec Ideal S2048x2816 .f32) (x2 x3 : FVec Ideal S1024x2816 .f32) (x4 x5 : FVec Ideal S2048x1024 .f32) (x6 : FVec Ideal S4x1x1024 .f32)

theorem ref21 (r : Fin 2048) (l : Fin 1024) : val_main_v21 (F := Ideal) x0 x1 x2 x3 (ix2 r l) = dh x0 x2 x1 x3 r l := by
  pointwise [val_main_v21, val_main_v20, val_main_v19, dh]
  exact add_comm _ _
theorem ref8 (r : Fin 2048) : val_main_v8 (F := Ideal) x4 (ix2 r 0) = Norm.var K (row x4 r) := by
  pointwise [val_main_v2, val_main_cst, val_main_v3, val_main_v4, val_main_cst_0, val_main_v5, val_main_v6, val_main_cst_1, val_main_v7, val_main_v8, Norm.var, row]
theorem ref9 (r : Fin 2048) : val_main_v9 (F := Ideal) x4 (ix2 r 0) = Norm.inv K (row x4 r) := by
  pointwise [val_main_v9, ref8, Norm.inv]
theorem ref12 (r : Fin 2048) : val_main_v12 (F := Ideal) x4 (ix2 r 0) = Norm.slope K (row x4 r) := by
  pointwise [val_main_v12, val_main_v11, val_main_cst_2, val_main_v10, ref8, ref9, Norm.slope]
theorem ref24 (l : Fin 1024) : val_main_v24 (F := Ideal) x0 x1 x2 x3 x4 (ix2 0 l) = DG x0 x1 x2 x3 x4 l := by
  pointwise [val_main_v24, val_main_v23, val_main_cst_3, val_main_v22, val_main_v14, val_main_v13, ref9, ref21, DG, Norm.dg]
theorem ref26 (r : Fin 2048) (l : Fin 1024) : val_main_v26 (F := Ideal) x0 x1 x2 x3 x6 (ix2 r l) = dh x0 x2 x1 x3 r l * gain x6 0 l := by
  pointwise [val_main_v26, val_main_v25, val_main_v1, val_main_v0, ref21, gain]
theorem ref37 (r : Fin 2048) (l : Fin 1024) : val_main_v37 (F := Ideal) x0 x1 x2 x3 x4 x6 (ix2 r l) = Norm.coef K (row x4 r) (gain x6 0) (dh x0 x2 x1 x3 r) := by
  pointwise [val_main_v37, val_main_v36, val_main_cst_6, val_main_v35, val_main_v34, val_main_cst_5, val_main_v33, val_main_v29, val_main_v28, val_main_cst_4, val_main_v27, ref26, ref12, Norm.coef]
  simp only [Fin.sum_univ_one, ref12]
theorem ref41 (r : Fin 2048) (l : Fin 1024) : val_main_v41 (F := Ideal) x0 x1 x2 x3 x4 x5 x6 (ix2 r l) = DX x0 x1 x2 x3 x4 x5 x6 r l := by
  pointwise [val_main_v41, val_main_v40, val_main_v39, val_main_v38, val_main_v32, val_main_v31, val_main_v30, ref37, ref26, ref9, DX, Norm.dx]
  simp only [row]
  ac_rfl
end

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem preserves : Cert.preserves_Kernel2_Kernel2Ideal := trivial

theorem algebraic : Cert.algebraic_Kernel2Ideal_Reference2Ideal := by
  intro m g m' g' _ hag
  refine ⟨fun c => (dats m 0 c).arrAt 7 cfg0.N, fun c => (dats m 0 c).arrAt 8 cfg0.N, Value.run_blocks m g,
    (θ_run Cert.Reference2Ideal.defs _ _).mono (fun r h c => ?_) (Cert.Reference2Ideal.Value.run (F := Ideal) m' g')⟩
  obtain ⟨a0, a1, a2, a3, a4, a5, a6⟩ := hag c
  obtain ⟨e41, e24, k⟩ := h c
  refine ⟨e41.trans ?_, e24.trans ?_, k⟩
  · rw [Cert.Reference2Ideal.Read.val_main_v41_eq, a0, a1, a2, a3, a4, a5, a6]
    refine Eq.trans (funext fun y => ?_) (end7 m c).symm
    idx_vars y
    exact ref41 _ _ _ _ _ _ _ y0 y1
  · rw [Cert.Reference2Ideal.Read.val_main_v24_eq, a0, a1, a2, a3, a4]
    refine Eq.trans (funext fun y => ?_) (end8 m c).symm
    idx_vars y
    obtain rfl : y0 = 0 := Subsingleton.elim _ _
    exact ref24 _ _ _ _ _ y1

end Cert.UpH
end
-- ==== Proof.ProjH.lean ====
/- Hand-written: the gradient through the first projection and the normalisation before it: the sum of the products of the gradients
   of the projection's parts with the parts' own weight columns, taken through the normalisation, and the gradient of the gain. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.ProjH

open Cert.Kernel3Ideal Cert.Kernel3Ideal.Gen

/-- A product with a transposed right side, at an index. -/
abbrev pr {a b k : Nat} (X : (⟨2, ![a, k]⟩ : Shape).Idx → EReal) (W : (⟨2, ![b, k]⟩ : Shape).Idx → EReal) (r : Fin a) (l : Fin b) : EReal :=
  ∑ q, X (ix2 r q) * W (ix2 l q)
/-- Row `r` of an array. -/
abbrev row {a b : Nat} (X : (⟨2, ![a, b]⟩ : Shape).Idx → EReal) (r : Fin a) : Fin b → EReal := fun l => X (ix2 r l)
/-- The first row of a stack of gains. -/
abbrev gain {a : Nat} (g : (⟨3, ![a, 1, 1024]⟩ : Shape).Idx → EReal) (z : Fin a) : Fin 1024 → EReal := fun l => g (ix3 z 0 l)

abbrev K : BitVec 32 := 0x44800000#32

theorem out_A_15 (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S256x384 .bf16) (harg8 : arg8.IsWhole) (arg9 : Memref sig .tc .vmem S1024x384 .bf16) (harg9 : arg9.IsWhole) (arg10 : Memref sig .tc .vmem S256x128 .bf16) (harg10 : arg10.IsWhole) (arg11 : Memref sig .tc .vmem S1024x128 .bf16) (harg11 : arg11.IsWhole) (arg12 : Memref sig .tc .vmem S256x256 .bf16) (harg12 : arg12.IsWhole) (arg13 : Memref sig .tc .vmem S1024x256 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1x1x1024 .f32) (harg16 : arg16.IsWhole) (arg17 : Memref sig .tc .vmem S256x1024 .f32) (harg17 : arg17.IsWhole) (arg18 : Memref sig .tc .vmem S1x1024 .f32) (harg18 : arg18.IsWhole) (hc0 : cond0_0 i) (b0 : FVec Ideal S256x1024 .bf16) (b1 : FVec Ideal S1024x1024 .bf16) (b2 : FVec Ideal S256x1024 .bf16) (b3 : FVec Ideal S1024x1024 .bf16) (b4 : FVec Ideal S256x1024 .bf16) (b5 : FVec Ideal S1024x1024 .bf16) (b6 : FVec Ideal S256x384 .bf16) (b7 : FVec Ideal S1024x384 .bf16) (b8 : FVec Ideal S256x128 .bf16) (b9 : FVec Ideal S1024x128 .bf16) (b10 : FVec Ideal S256x256 .bf16) (b11 : FVec Ideal S1024x256 .bf16) (b12 : FVec Ideal S256x1024 .f32) (b13 : FVec Ideal S256x1024 .f32) (b14 : FVec Ideal S1x1x1024 .f32) (r : Fin 256) (l : Fin 1024) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 b0 b1 b2 b3 b4 b5 b6 b7 b8 b9 b10 b11 b12 b13 b14 (ix2 r l) = Norm.dx K (row b12 r) (gain b14 0) (fun l => pr b0 b1 r l + pr b2 b3 r l + pr b4 b5 r l + pr b6 b7 r l + pr b8 b9 r l + pr b10 b11 r l) l + b13 (ix2 r l) := by
  frame_out
  open_payloads
  pointwise [Norm.dx, Norm.coef, Norm.slope, Norm.inv, Norm.var, row, gain, pr]
  simp only [Fin.sum_univ_one]

theorem out_B_15 (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S256x384 .bf16) (harg8 : arg8.IsWhole) (arg9 : Memref sig .tc .vmem S1024x384 .bf16) (harg9 : arg9.IsWhole) (arg10 : Memref sig .tc .vmem S256x128 .bf16) (harg10 : arg10.IsWhole) (arg11 : Memref sig .tc .vmem S1024x128 .bf16) (harg11 : arg11.IsWhole) (arg12 : Memref sig .tc .vmem S256x256 .bf16) (harg12 : arg12.IsWhole) (arg13 : Memref sig .tc .vmem S1024x256 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1x1x1024 .f32) (harg16 : arg16.IsWhole) (arg17 : Memref sig .tc .vmem S256x1024 .f32) (harg17 : arg17.IsWhole) (arg18 : Memref sig .tc .vmem S1x1024 .f32) (harg18 : arg18.IsWhole) (hc0 : ¬cond0_0 i) (b0 : FVec Ideal S256x1024 .bf16) (b1 : FVec Ideal S1024x1024 .bf16) (b2 : FVec Ideal S256x1024 .bf16) (b3 : FVec Ideal S1024x1024 .bf16) (b4 : FVec Ideal S256x1024 .bf16) (b5 : FVec Ideal S1024x1024 .bf16) (b6 : FVec Ideal S256x384 .bf16) (b7 : FVec Ideal S1024x384 .bf16) (b8 : FVec Ideal S256x128 .bf16) (b9 : FVec Ideal S1024x128 .bf16) (b10 : FVec Ideal S256x256 .bf16) (b11 : FVec Ideal S1024x256 .bf16) (b12 : FVec Ideal S256x1024 .f32) (b13 : FVec Ideal S256x1024 .f32) (b14 : FVec Ideal S1x1x1024 .f32) (bo16 : FVec Ideal S1x1024 .f32) (r : Fin 256) (l : Fin 1024) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 b0 b1 b2 b3 b4 b5 b6 b7 b8 b9 b10 b11 b12 b13 b14 bo16 (ix2 r l) = Norm.dx K (row b12 r) (gain b14 0) (fun l => pr b0 b1 r l + pr b2 b3 r l + pr b4 b5 r l + pr b6 b7 r l + pr b8 b9 r l + pr b10 b11 r l) l + b13 (ix2 r l) := by
  frame_out
  open_payloads
  pointwise [Norm.dx, Norm.coef, Norm.slope, Norm.inv, Norm.var, row, gain, pr]
  simp only [Fin.sum_univ_one]

theorem out_A_16 (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S256x384 .bf16) (harg8 : arg8.IsWhole) (arg9 : Memref sig .tc .vmem S1024x384 .bf16) (harg9 : arg9.IsWhole) (arg10 : Memref sig .tc .vmem S256x128 .bf16) (harg10 : arg10.IsWhole) (arg11 : Memref sig .tc .vmem S1024x128 .bf16) (harg11 : arg11.IsWhole) (arg12 : Memref sig .tc .vmem S256x256 .bf16) (harg12 : arg12.IsWhole) (arg13 : Memref sig .tc .vmem S1024x256 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1x1x1024 .f32) (harg16 : arg16.IsWhole) (arg17 : Memref sig .tc .vmem S256x1024 .f32) (harg17 : arg17.IsWhole) (arg18 : Memref sig .tc .vmem S1x1024 .f32) (harg18 : arg18.IsWhole) (hc0 : cond0_0 i) (b0 : FVec Ideal S256x1024 .bf16) (b1 : FVec Ideal S1024x1024 .bf16) (b2 : FVec Ideal S256x1024 .bf16) (b3 : FVec Ideal S1024x1024 .bf16) (b4 : FVec Ideal S256x1024 .bf16) (b5 : FVec Ideal S1024x1024 .bf16) (b6 : FVec Ideal S256x384 .bf16) (b7 : FVec Ideal S1024x384 .bf16) (b8 : FVec Ideal S256x128 .bf16) (b9 : FVec Ideal S1024x128 .bf16) (b10 : FVec Ideal S256x256 .bf16) (b11 : FVec Ideal S1024x256 .bf16) (b12 : FVec Ideal S256x1024 .f32) (b13 : FVec Ideal S256x1024 .f32) (b14 : FVec Ideal S1x1x1024 .f32) (l : Fin 1024) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 b0 b1 b2 b3 b4 b5 b6 b7 b8 b9 b10 b11 b12 b13 b14 (ix2 0 l) = 0 + ∑ r, Norm.dg K (row b12 r) (fun l => pr b0 b1 r l + pr b2 b3 r l + pr b4 b5 r l + pr b6 b7 r l + pr b8 b9 r l + pr b10 b11 r l) l := by
  frame_open
  simp (disch := decide) only [↓ View.readCov_skip, ↓ View.readCov_cons_toLoadRect, ↓ View.readCov_fill]
  frame_out
  open_payloads
  pointwise [Norm.dg, Norm.inv, Norm.var, row, pr, zero_add]

theorem out_B_16 (c : Dev nD) (i : grid0.Coords) (arg2 : Memref sig .tc .vmem S256x1024 .bf16) (harg2 : arg2.IsWhole) (arg3 : Memref sig .tc .vmem S1024x1024 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S256x1024 .bf16) (harg6 : arg6.IsWhole) (arg7 : Memref sig .tc .vmem S1024x1024 .bf16) (harg7 : arg7.IsWhole) (arg8 : Memref sig .tc .vmem S256x384 .bf16) (harg8 : arg8.IsWhole) (arg9 : Memref sig .tc .vmem S1024x384 .bf16) (harg9 : arg9.IsWhole) (arg10 : Memref sig .tc .vmem S256x128 .bf16) (harg10 : arg10.IsWhole) (arg11 : Memref sig .tc .vmem S1024x128 .bf16) (harg11 : arg11.IsWhole) (arg12 : Memref sig .tc .vmem S256x256 .bf16) (harg12 : arg12.IsWhole) (arg13 : Memref sig .tc .vmem S1024x256 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1x1x1024 .f32) (harg16 : arg16.IsWhole) (arg17 : Memref sig .tc .vmem S256x1024 .f32) (harg17 : arg17.IsWhole) (arg18 : Memref sig .tc .vmem S1x1024 .f32) (harg18 : arg18.IsWhole) (hc0 : ¬cond0_0 i) (b0 : FVec Ideal S256x1024 .bf16) (b1 : FVec Ideal S1024x1024 .bf16) (b2 : FVec Ideal S256x1024 .bf16) (b3 : FVec Ideal S1024x1024 .bf16) (b4 : FVec Ideal S256x1024 .bf16) (b5 : FVec Ideal S1024x1024 .bf16) (b6 : FVec Ideal S256x384 .bf16) (b7 : FVec Ideal S1024x384 .bf16) (b8 : FVec Ideal S256x128 .bf16) (b9 : FVec Ideal S1024x128 .bf16) (b10 : FVec Ideal S256x256 .bf16) (b11 : FVec Ideal S1024x256 .bf16) (b12 : FVec Ideal S256x1024 .f32) (b13 : FVec Ideal S256x1024 .f32) (b14 : FVec Ideal S1x1x1024 .f32) (bo16 : FVec Ideal S1x1024 .f32) (l : Fin 1024) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 b0 b1 b2 b3 b4 b5 b6 b7 b8 b9 b10 b11 b12 b13 b14 bo16 (ix2 0 l) = bo16 (ix2 0 l) + ∑ r, Norm.dg K (row b12 r) (fun l => pr b0 b1 r l + pr b2 b3 r l + pr b4 b5 r l + pr b6 b7 r l + pr b8 b9 r l + pr b10 b11 r l) l := by
  frame_out
  open_payloads
  pointwise [Norm.dg, Norm.inv, Norm.var, row, pr]

variable (m : (ℓ : Loc nD τ sig) → Buf (Elt Ideal) ℓ) (c : Dev nD)

abbrev A0 : FVec Ideal S2048x1024 .f32 := m ((c.tc : Thread nD τ).loc main_arg0)
abbrev A1 : FVec Ideal S2048x2048 .f32 := m ((c.tc : Thread nD τ).loc main_arg1)
abbrev A2 : FVec Ideal S2048x384 .f32 := m ((c.tc : Thread nD τ).loc main_arg2)
abbrev A3 : FVec Ideal S2048x128 .f32 := m ((c.tc : Thread nD τ).loc main_arg3)
abbrev A4 : FVec Ideal S2048x256 .f32 := m ((c.tc : Thread nD τ).loc main_arg4)
abbrev A5 : FVec Ideal S1024x3840 .f32 := m ((c.tc : Thread nD τ).loc main_arg5)
abbrev A6 : FVec Ideal S2048x1024 .f32 := m ((c.tc : Thread nD τ).loc main_arg6)
abbrev A7 : FVec Ideal S2048x1024 .f32 := m ((c.tc : Thread nD τ).loc main_arg7)
abbrev A8 : FVec Ideal S4x1x1024 .f32 := m ((c.tc : Thread nD τ).loc main_arg8)

theorem idx_val : ∀ t : Fin cfg0.N, win0_0.index t = ![t.val, 0]
    ∧ win0_1.index t = ![0, 0]
    ∧ win0_2.index t = ![t.val, 0]
    ∧ win0_3.index t = ![0, 1]
    ∧ win0_4.index t = ![t.val, 1]
    ∧ win0_5.index t = ![0, 2]
    ∧ win0_6.index t = ![t.val, 0]
    ∧ win0_7.index t = ![0, 8]
    ∧ win0_8.index t = ![t.val, 0]
    ∧ win0_9.index t = ![0, 27]
    ∧ win0_10.index t = ![t.val, 0]
    ∧ win0_11.index t = ![0, 14]
    ∧ win0_12.index t = ![t.val, 0]
    ∧ win0_13.index t = ![t.val, 0]
    ∧ win0_14.index t = ![0, 0, 0]
    ∧ win0_15.index t = ![t.val, 0]
    ∧ win0_16.index t = ![0, 0] :=
  (by decide +kernel : ∀ t : Fin grid0.N, _)

/-- Row `r` of point `t`. -/
abbrev gr (t : Fin cfg0.N) (r : Fin 256) : Fin 2048 := ⟨t.val * 256 + r.val, by have := N_0; have := t.isLt; change t.val < grid0.N at this; omega⟩

theorem blk0 (t : Fin cfg0.N) (r : Fin 256) (l : Fin 1024) : (iblk m c 0 t : FVec Ideal S256x1024 .bf16) (ix2 r l) = A0 m c (ix2 (gr t r) l) := by
  blk_point [iblk, V, idx_val t]
theorem blk1 (t : Fin cfg0.N) (r : Fin 1024) (l : Fin 1024) : (X0_1 m c t : FVec Ideal S1024x1024 .bf16) (ix2 r l) = A5 m c (ix2 r ⟨l.val, by have := l.isLt; omega⟩) := by
  unfold X0_1 Pipeline.Window.fill
  rw [dif_pos (moved0_1 t _)]
  blk_point [iblk, V, idx_val t]
theorem blk2 (t : Fin cfg0.N) (r : Fin 256) (l : Fin 1024) : (iblk m c 2 t : FVec Ideal S256x1024 .bf16) (ix2 r l) = A1 m c (ix2 (gr t r) ⟨l.val, by have := l.isLt; omega⟩) := by
  blk_point [iblk, V, idx_val t]
theorem blk3 (t : Fin cfg0.N) (r : Fin 1024) (l : Fin 1024) : (X0_3 m c t : FVec Ideal S1024x1024 .bf16) (ix2 r l) = A5 m c (ix2 r ⟨1024 + l.val, by have := l.isLt; omega⟩) := by
  unfold X0_3 Pipeline.Window.fill
  rw [dif_pos (moved0_3 t _)]
  blk_point [iblk, V, idx_val t]
theorem blk4 (t : Fin cfg0.N) (r : Fin 256) (l : Fin 1024) : (iblk m c 4 t : FVec Ideal S256x1024 .bf16) (ix2 r l) = A1 m c (ix2 (gr t r) ⟨1024 + l.val, by have := l.isLt; omega⟩) := by
  blk_point [iblk, V, idx_val t]
theorem blk5 (t : Fin cfg0.N) (r : Fin 1024) (l : Fin 1024) : (X0_5 m c t : FVec Ideal S1024x1024 .bf16) (ix2 r l) = A5 m c (ix2 r ⟨2048 + l.val, by have := l.isLt; omega⟩) := by
  unfold X0_5 Pipeline.Window.fill
  rw [dif_pos (moved0_5 t _)]
  blk_point [iblk, V, idx_val t]
theorem blk6 (t : Fin cfg0.N) (r : Fin 256) (l : Fin 384) : (iblk m c 6 t : FVec Ideal S256x384 .bf16) (ix2 r l) = A2 m c (ix2 (gr t r) l) := by
  blk_point [iblk, V, idx_val t]
theorem blk7 (t : Fin cfg0.N) (r : Fin 1024) (l : Fin 384) : (iblk m c 7 t : FVec Ideal S1024x384 .bf16) (ix2 r l) = A5 m c (ix2 r ⟨3072 + l.val, by have := l.isLt; omega⟩) := by
  blk_point [iblk, V, idx_val t]
theorem blk8 (t : Fin cfg0.N) (r : Fin 256) (l : Fin 128) : (iblk m c 8 t : FVec Ideal S256x128 .bf16) (ix2 r l) = A3 m c (ix2 (gr t r) l) := by
  blk_point [iblk, V, idx_val t]
theorem blk9 (t : Fin cfg0.N) (r : Fin 1024) (l : Fin 128) : (iblk m c 9 t : FVec Ideal S1024x128 .bf16) (ix2 r l) = A5 m c (ix2 r ⟨3456 + l.val, by have := l.isLt; omega⟩) := by
  blk_point [iblk, V, idx_val t]
theorem blk10 (t : Fin cfg0.N) (r : Fin 256) (l : Fin 256) : (iblk m c 10 t : FVec Ideal S256x256 .bf16) (ix2 r l) = A4 m c (ix2 (gr t r) l) := by
  blk_point [iblk, V, idx_val t]
theorem blk11 (t : Fin cfg0.N) (r : Fin 1024) (l : Fin 256) : (iblk m c 11 t : FVec Ideal S1024x256 .bf16) (ix2 r l) = A5 m c (ix2 r ⟨3584 + l.val, by have := l.isLt; omega⟩) := by
  blk_point [iblk, V, idx_val t]
theorem blk12 (t : Fin cfg0.N) (r : Fin 256) (l : Fin 1024) : (iblk m c 12 t : FVec Ideal S256x1024 .f32) (ix2 r l) = A6 m c (ix2 (gr t r) l) := by
  blk_point [iblk, V, idx_val t]
theorem blk13 (t : Fin cfg0.N) (r : Fin 256) (l : Fin 1024) : (iblk m c 13 t : FVec Ideal S256x1024 .f32) (ix2 r l) = A7 m c (ix2 (gr t r) l) := by
  blk_point [iblk, V, idx_val t]
theorem blk14 (t : Fin cfg0.N) (l : Fin 1024) : (iblk m c 14 t : FVec Ideal S1x1x1024 .f32) (ix3 0 0 l) = A8 m c (ix3 0 0 l) := by
  blk_point [iblk, V, idx_val t]

/-- The gradient handed back through the products, at a row. -/
def dh (X0 : FVec Ideal S2048x1024 .f32) (X1 : FVec Ideal S2048x2048 .f32) (X2 : FVec Ideal S2048x384 .f32) (X3 : FVec Ideal S2048x128 .f32) (X4 : FVec Ideal S2048x256 .f32) (X5 : FVec Ideal S1024x3840 .f32) (r : Fin 2048) : Fin 1024 → EReal := fun l =>
  ∑ k : Fin 1024, X0 (ix2 r k) * X5 (ix2 l ⟨k.val, by have := k.isLt; omega⟩)
    + ∑ k : Fin 1024, X1 (ix2 r ⟨k.val, by have := k.isLt; omega⟩) * X5 (ix2 l ⟨1024 + k.val, by have := k.isLt; omega⟩)
    + ∑ k : Fin 1024, X1 (ix2 r ⟨1024 + k.val, by have := k.isLt; omega⟩) * X5 (ix2 l ⟨2048 + k.val, by have := k.isLt; omega⟩)
    + ∑ k : Fin 384, X2 (ix2 r k) * X5 (ix2 l ⟨3072 + k.val, by have := k.isLt; omega⟩)
    + ∑ k : Fin 128, X3 (ix2 r k) * X5 (ix2 l ⟨3456 + k.val, by have := k.isLt; omega⟩)
    + ∑ k : Fin 256, X4 (ix2 r k) * X5 (ix2 l ⟨3584 + k.val, by have := k.isLt; omega⟩)
/-- The gradient of the rows. -/
def DX (X0 : FVec Ideal S2048x1024 .f32) (X1 : FVec Ideal S2048x2048 .f32) (X2 : FVec Ideal S2048x384 .f32) (X3 : FVec Ideal S2048x128 .f32) (X4 : FVec Ideal S2048x256 .f32) (X5 : FVec Ideal S1024x3840 .f32) (X6 : FVec Ideal S2048x1024 .f32) (X7 : FVec Ideal S2048x1024 .f32) (X8 : FVec Ideal S4x1x1024 .f32) (r : Fin 2048) (l : Fin 1024) : EReal :=
  Norm.dx K (row X6 r) (gain X8 0) (dh X0 X1 X2 X3 X4 X5 r) l + X7 (ix2 r l)
/-- The gradient of the gain. -/
def DG (X0 : FVec Ideal S2048x1024 .f32) (X1 : FVec Ideal S2048x2048 .f32) (X2 : FVec Ideal S2048x384 .f32) (X3 : FVec Ideal S2048x128 .f32) (X4 : FVec Ideal S2048x256 .f32) (X5 : FVec Ideal S1024x3840 .f32) (X6 : FVec Ideal S2048x1024 .f32) (l : Fin 1024) : EReal := ∑ r, Norm.dg K (row X6 r) (dh X0 X1 X2 X3 X4 X5 r) l

theorem row_x (t : Fin cfg0.N) (r : Fin 256) : row (iblk m c 12 t : FVec Ideal S256x1024 .f32) r = row (A6 m c) (gr t r) := funext fun l => blk12 m c t r l
theorem gain_x (t : Fin cfg0.N) : gain (iblk m c 14 t : FVec Ideal S1x1x1024 .f32) 0 = gain (A8 m c) 0 := funext fun l => blk14 m c t l
theorem dh_blk (t : Fin cfg0.N) (r : Fin 256) :
    (fun l => pr (iblk m c 0 t : FVec Ideal S256x1024 .bf16) (X0_1 m c t : FVec Ideal S1024x1024 .bf16) r l + pr (iblk m c 2 t : FVec Ideal S256x1024 .bf16) (X0_3 m c t : FVec Ideal S1024x1024 .bf16) r l + pr (iblk m c 4 t : FVec Ideal S256x1024 .bf16) (X0_5 m c t : FVec Ideal S1024x1024 .bf16) r l + pr (iblk m c 6 t : FVec Ideal S256x384 .bf16) (iblk m c 7 t : FVec Ideal S1024x384 .bf16) r l + pr (iblk m c 8 t : FVec Ideal S256x128 .bf16) (iblk m c 9 t : FVec Ideal S1024x128 .bf16) r l + pr (iblk m c 10 t : FVec Ideal S256x256 .bf16) (iblk m c 11 t : FVec Ideal S1024x256 .bf16) r l)
      = dh (A0 m c) (A1 m c) (A2 m c) (A3 m c) (A4 m c) (A5 m c) (gr t r) := by
  funext l
  simp only [dh, pr, blk0, blk1, blk2, blk3, blk4, blk5, blk6, blk7, blk8, blk9, blk10, blk11]

theorem stepg_A (t : Fin cfg0.N) (h : t.val % 8 = 0) (l : Fin 1024) : (outsAt0 m c t.val t.isLt).2 (ix2 0 l) = 0 + ∑ r, Norm.dg K (row (A6 m c) (gr t r)) (dh (A0 m c) (A1 m c) (A2 m c) (A3 m c) (A4 m c) (A5 m c) (gr t r)) l := by
  have e := out_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h) (iblk m c 0 t) (X0_1 m c t) (iblk m c 2 t) (X0_3 m c t) (iblk m c 4 t) (X0_5 m c t) (iblk m c 6 t) (iblk m c 7 t) (iblk m c 8 t) (iblk m c 9 t) (iblk m c 10 t) (iblk m c 11 t) (iblk m c 12 t) (iblk m c 13 t) (iblk m c 14 t) l
  simp only [row_x, dh_blk] at e
  rw [outsAt0_A m c t h]
  dsimp only
  exact e
theorem stepg_B (t : Fin cfg0.N) (h : ¬t.val % 8 = 0) (l : Fin 1024) : (outsAt0 m c t.val t.isLt).2 (ix2 0 l) = (outsAt0 m c (t.val - 1) (Nat.lt_of_le_of_lt (Nat.sub_le _ _) t.isLt)).2 (ix2 0 l) + ∑ r, Norm.dg K (row (A6 m c) (gr t r)) (dh (A0 m c) (A1 m c) (A2 m c) (A3 m c) (A4 m c) (A5 m c) (gr t r)) l := by
  have e := out_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h' => h ((hcond0_0 t).mp h')) (iblk m c 0 t) (X0_1 m c t) (iblk m c 2 t) (X0_3 m c t) (iblk m c 4 t) (X0_5 m c t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2 l
  simp only [row_x, dh_blk] at e
  rw [outsAt0_B m c t h]
  dsimp only
  exact e
theorem stepx (t : Fin cfg0.N) (r : Fin 256) (l : Fin 1024) : (outsAt0 m c t.val t.isLt).1 (ix2 r l) = DX (A0 m c) (A1 m c) (A2 m c) (A3 m c) (A4 m c) (A5 m c) (A6 m c) (A7 m c) (A8 m c) (gr t r) l := by
  by_cases h : t.val % 8 = 0
  · have e := out_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h) (iblk m c 0 t) (X0_1 m c t) (iblk m c 2 t) (X0_3 m c t) (iblk m c 4 t) (X0_5 m c t) (iblk m c 6 t) (iblk m c 7 t) (iblk m c 8 t) (iblk m c 9 t) (iblk m c 10 t) (iblk m c 11 t) (iblk m c 12 t) (iblk m c 13 t) (iblk m c 14 t) r l
    simp only [row_x, dh_blk, gain_x, blk13] at e
    rw [outsAt0_A m c t h]
    dsimp only
    exact e
  · have e := out_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h' => h ((hcond0_0 t).mp h')) (iblk m c 0 t) (X0_1 m c t) (iblk m c 2 t) (X0_3 m c t) (iblk m c 4 t) (X0_5 m c t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2 r l
    simp only [row_x, dh_blk, gain_x, blk13] at e
    rw [outsAt0_B m c t h]
    dsimp only
    exact e

/-- The rows of the 8 points are the 2048 rows. -/
theorem sum_pts (f : Fin 2048 → EReal) : ∑ t : Fin cfg0.N, ∑ r : Fin 256, f (gr t r) = ∑ r, f r :=
  Fin.sum_mul_add_congr (fun s k hl => rfl) (show 2048 = grid0.N * 256 by rw [N_0])

theorem end_g : (dats m 0 c).arrAt 16 cfg0.N = fun y : S1x1024.Idx => DG (A0 m c) (A1 m c) (A2 m c) (A3 m c) (A4 m c) (A5 m c) (A6 m c) (y 1) := by
  refine (dats m 0 c).arrAt_eq_of_after_last 16 t0_7 (by decide +kernel) _ fun y => ?_
  blk_simp
  rw [after0_16, Pipeline.eq_sum_fin_of_reset_step_apply_last (fun n h => (outsAt0 m c n h).2) 8 (fun _ => 0)
    (fun t (y : S1x1024.Idx) => ∑ r, Norm.dg K (row (A6 m c) (gr t r)) (dh (A0 m c) (A1 m c) (A2 m c) (A3 m c) (A4 m c) (A5 m c) (gr t r)) (y 1))
    (fun t h y => by idx_vars y; obtain rfl : y0 = 0 := Subsingleton.elim _ _; exact stepg_A m c t h y1)
    (fun t h y => by idx_vars y; obtain rfl : y0 = 0 := Subsingleton.elim _ _; exact stepg_B m c t h y1) (le_of_eq N_0) t0_7 rfl, zero_add]
  exact sum_pts fun r => Norm.dg K (row (A6 m c) r) (dh (A0 m c) (A1 m c) (A2 m c) (A3 m c) (A4 m c) (A5 m c) r) _

theorem end_x : (dats m 0 c).arrAt 15 cfg0.N = fun y : S2048x1024.Idx => DX (A0 m c) (A1 m c) (A2 m c) (A3 m c) (A4 m c) (A5 m c) (A6 m c) (A7 m c) (A8 m c) (y 0) (y 1) := by
  refine (dats m 0 c).arrAt_eq_of_covers 15 _ (by decide +kernel) fun t hf y => ?_
  blk_simp
  rw [after0_15]
  idx_vars y
  have e0 : ((cfg0.win 15).blk t).view.emb (ix2 y0 y1) 0 = gr t y0 := Fin.ext (by blk_simp [idx_val t])
  have e1 : ((cfg0.win 15).blk t).view.emb (ix2 y0 y1) 1 = y1 := Fin.ext (by blk_simp [idx_val t])
  rw [e0, e1]
  exact stepx m c t y0 y1

section
open Cert.Reference3Ideal.Read
variable (X0 : FVec Ideal S2048x1024 .f32) (X1 : FVec Ideal S2048x2048 .f32) (X2 : FVec Ideal S2048x384 .f32) (X3 : FVec Ideal S2048x128 .f32) (X4 : FVec Ideal S2048x256 .f32) (X5 : FVec Ideal S1024x3840 .f32) (X6 : FVec Ideal S2048x1024 .f32) (X7 : FVec Ideal S2048x1024 .f32) (X8 : FVec Ideal S4x1x1024 .f32)

/-- The 3840 columns by the projection's parts. -/
theorem split6 (f : Fin 3840 → EReal) : ∑ k, f k = ∑ k : Fin 1024, f ⟨k.val, by have := k.isLt; omega⟩ + ∑ k : Fin 1024, f ⟨1024 + k.val, by have := k.isLt; omega⟩
    + ∑ k : Fin 1024, f ⟨2048 + k.val, by have := k.isLt; omega⟩ + ∑ k : Fin 384, f ⟨3072 + k.val, by have := k.isLt; omega⟩
    + ∑ k : Fin 128, f ⟨3456 + k.val, by have := k.isLt; omega⟩ + ∑ k : Fin 256, f ⟨3584 + k.val, by have := k.isLt; omega⟩ := by
  rw [Fin.sum_univ_two_halves 3584 256 rfl, Fin.sum_univ_two_halves (N := 3584) 3456 128 rfl, Fin.sum_univ_two_halves (N := 3456) 3072 384 rfl,
    Fin.sum_univ_two_halves (N := 3072) 2048 1024 rfl, Fin.sum_univ_two_halves (N := 2048) 1024 1024 rfl]

theorem ref_dh (r : Fin 2048) (l : Fin 1024) : val_main_v19 (F := Ideal) X0 X1 X2 X3 X4 X5 (ix2 r l) = dh X0 X1 X2 X3 X4 X5 r l := by
  pointwise [val_main_v19, val_main_v18, dh]
  rw [split6]
  refine congrArg₂ (· + ·) (congrArg₂ (· + ·) (congrArg₂ (· + ·) (congrArg₂ (· + ·) (congrArg₂ (· + ·) ?_ ?_) ?_) ?_) ?_) ?_
  all_goals
    refine Finset.sum_congr rfl fun k _ => ?_
    have hk := k.isLt
    try dsimp only
    split_ifs <;> first
      | (exfalso; omega)
      | rfl
      | (refine congrArg₂ (· * ·) (congrArg _ (congrArg (ix2 r) (Fin.ext ?_))) rfl; dsimp only; omega)
theorem ref_var (r : Fin 2048) : val_main_v8 (F := Ideal) X6 (ix2 r 0) = Norm.var K (row X6 r) := by
  pointwise [val_main_v2, val_main_cst, val_main_v3, val_main_v4, val_main_cst_0, val_main_v5, val_main_v6, val_main_cst_1, val_main_v7, val_main_v8, Norm.var, row]
theorem ref_inv (r : Fin 2048) : val_main_v9 (F := Ideal) X6 (ix2 r 0) = Norm.inv K (row X6 r) := by
  pointwise [val_main_v9, ref_var, Norm.inv]
theorem ref_slope (r : Fin 2048) : val_main_v12 (F := Ideal) X6 (ix2 r 0) = Norm.slope K (row X6 r) := by
  pointwise [val_main_v10, val_main_cst_2, val_main_v11, val_main_v12, ref_var, ref_inv, Norm.slope]
theorem ref_dg (l : Fin 1024) : val_main_v22 (F := Ideal) X0 X1 X2 X3 X4 X5 X6 (ix2 0 l) = DG X0 X1 X2 X3 X4 X5 X6 l := by
  pointwise [val_main_v20, val_main_cst_3, val_main_v21, val_main_v22, val_main_v13, val_main_v14, ref_inv, ref_dh, DG, Norm.dg]
theorem ref_dhg (r : Fin 2048) (l : Fin 1024) : val_main_v24 (F := Ideal) X0 X1 X2 X3 X4 X5 X8 (ix2 r l) = dh X0 X1 X2 X3 X4 X5 r l * gain X8 0 l := by
  pointwise [val_main_v23, val_main_v24, val_main_v0, val_main_v1, ref_dh, gain]
theorem ref_coef (r : Fin 2048) (l : Fin 1024) : val_main_v35 (F := Ideal) X0 X1 X2 X3 X4 X5 X6 X8 (ix2 r l) = Norm.coef K (row X6 r) (gain X8 0) (dh X0 X1 X2 X3 X4 X5 r) := by
  pointwise [val_main_v25, val_main_cst_4, val_main_v26, val_main_v27, val_main_v28, val_main_v29, val_main_v30, val_main_v31, val_main_cst_5, val_main_v32, val_main_v33, val_main_cst_6, val_main_v34, val_main_v35, ref_dhg, ref_slope, Norm.coef]
  simp only [Fin.sum_univ_one, ref_slope]
theorem ref_dx (r : Fin 2048) (l : Fin 1024) : val_main_v39 (F := Ideal) X0 X1 X2 X3 X4 X5 X6 X7 X8 (ix2 r l) = DX X0 X1 X2 X3 X4 X5 X6 X7 X8 r l := by
  pointwise [val_main_v25, val_main_cst_4, val_main_v26, val_main_v27, val_main_v28, val_main_v29, val_main_v30, val_main_v36, val_main_v37, val_main_v38, val_main_v39, ref_coef, ref_dhg, ref_inv, DX, Norm.dx]
  simp only [row]
  ac_rfl
end

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)
theorem preserves : Cert.preserves_Kernel3_Kernel3Ideal := trivial

theorem algebraic : Cert.algebraic_Kernel3Ideal_Reference3Ideal := by
  intro m g m' g' _ hag
  refine ⟨fun c => (dats m 0 c).arrAt 15 cfg0.N, fun c => (dats m 0 c).arrAt 16 cfg0.N, Value.run_blocks m g,
    (θ_run Cert.Reference3Ideal.defs _ _).mono (fun r h c => ?_) (Cert.Reference3Ideal.Value.run (F := Ideal) m' g')⟩
  obtain ⟨a0, a1, a2, a3, a4, a5, a6, a7, a8⟩ := hag c
  obtain ⟨e1, e2, k⟩ := h c
  refine ⟨e1.trans ?_, e2.trans ?_, k⟩
  · rw [Cert.Reference3Ideal.Read.val_main_v39_eq, a0, a1, a2, a3, a4, a5, a6, a7, a8]
    refine Eq.trans (funext fun y => ?_) (end_x m c).symm
    idx_vars y
    exact ref_dx _ _ _ _ _ _ _ _ _ y0 y1
  · rw [Cert.Reference3Ideal.Read.val_main_v22_eq, a0, a1, a2, a3, a4, a5, a6]
    refine Eq.trans (funext fun y => ?_) (end_g m c).symm
    idx_vars y
    obtain rfl : y0 = 0 := Subsingleton.elim _ _
    exact ref_dg _ _ _ _ _ _ _ y1

end Cert.ProjH
end
-- ==== Proof.OutA.lean ====
/- Hand-written: the gradient through the output projection and the two normalisations before it: of the scan's gated output (the gate's
   gradient too) and of the attention's output, with the gradients of the two gains. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.OutA

open Cert.Kernel4Ideal Cert.Kernel4Ideal.Gen

abbrev K : BitVec 32 := 0x44800000#32
/-- Row `r` of an array. -/
abbrev row {a b : Nat} (X : (⟨2, ![a, b]⟩ : Shape).Idx → EReal) (r : Fin a) : Fin b → EReal := fun l => X (ix2 r l)
/-- The first 1024 lanes of row `r`. -/
abbrev head {a b : Nat} (hb : 1024 ≤ b) (X : (⟨2, ![a, b]⟩ : Shape).Idx → EReal) (r : Fin a) : Fin 1024 → EReal := fun l => X (ix2 r ⟨l.val, by have := l.isLt; omega⟩)
/-- The first row of a stack of gains. -/
abbrev gain {a : Nat} (g : (⟨3, ![a, 1, 1024]⟩ : Shape).Idx → EReal) (z : Fin a) : Fin 1024 → EReal := fun l => g (ix3 z 0 l)
/-- The gradient handed back to the first half of the mixed lanes. -/
abbrev dh1 {a : Nat} (X : (⟨2, ![a, 1024]⟩ : Shape).Idx → EReal) (W : (⟨2, ![2048, 1024]⟩ : Shape).Idx → EReal) (r : Fin a) : Fin 1024 → EReal :=
  fun l => ∑ k, X (ix2 r k) * W (ix2 ⟨l.val, by have := l.isLt; omega⟩ k)
/-- The gradient handed back to the second half. -/
abbrev dh2 {a : Nat} (X : (⟨2, ![a, 1024]⟩ : Shape).Idx → EReal) (W : (⟨2, ![2048, 1024]⟩ : Shape).Idx → EReal) (r : Fin a) : Fin 1024 → EReal :=
  fun l => ∑ k, X (ix2 r k) * W (ix2 ⟨1024 + l.val, by have := l.isLt; omega⟩ k)
/-- The gated row: `y` times the gate's `z · sigmoid z`. -/
def gated (y z : Fin 1024 → EReal) : Fin 1024 → EReal := fun l => y l * (z l * Ideal.logistic (z l))
/-- The gradient of `y`. -/
def dy (y z g h : Fin 1024 → EReal) (l : Fin 1024) : EReal := Norm.dx K (gated y z) g h l * (z l * Ideal.logistic (z l))
/-- The gradient of `z`. -/
def dz (y z g h : Fin 1024 → EReal) (l : Fin 1024) : EReal :=
  y l * Norm.dx K (gated y z) g h l * Ideal.logistic (z l) + z l * (y l * Norm.dx K (gated y z) g h l) * (Ideal.logistic (z l) * (1 - Ideal.logistic (z l)))

theorem out_A_7 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (r : Fin 256) (l : Fin 1024) :
    out0_A_7 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 (ix2 r l) = dy (row b2 r) (row b3 r) (gain b5 0) (dh1 b0 b1 r) l := by
  frame_out
  open_payloads
  pointwise [Norm.dx, Norm.coef, Norm.slope, Norm.inv, Norm.var, Norm.dg, row, gain, dh1, dh2, gated, dy]
  simp only [Fin.sum_univ_one]

theorem out_B_7 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (bo10 : FVec Ideal S1x1024 .f32) (bo11 : FVec Ideal S1x1024 .f32) (r : Fin 256) (l : Fin 1024) :
    out0_B_7 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 bo10 bo11 (ix2 r l) = dy (row b2 r) (row b3 r) (gain b5 0) (dh1 b0 b1 r) l := by
  frame_out
  open_payloads
  pointwise [Norm.dx, Norm.coef, Norm.slope, Norm.inv, Norm.var, Norm.dg, row, gain, dh1, dh2, gated, dy]
  simp only [Fin.sum_univ_one]

theorem out_A_8 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (r : Fin 256) (l : Fin 1024) :
    out0_A_8 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 (ix2 r l) = dz (row b2 r) (row b3 r) (gain b5 0) (dh1 b0 b1 r) l := by
  frame_out
  open_payloads
  pointwise [Norm.dx, Norm.coef, Norm.slope, Norm.inv, Norm.var, Norm.dg, row, gain, dh1, dh2, gated, dz]
  simp only [Fin.sum_univ_one]

theorem out_B_8 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (bo10 : FVec Ideal S1x1024 .f32) (bo11 : FVec Ideal S1x1024 .f32) (r : Fin 256) (l : Fin 1024) :
    out0_B_8 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 bo10 bo11 (ix2 r l) = dz (row b2 r) (row b3 r) (gain b5 0) (dh1 b0 b1 r) l := by
  frame_out
  open_payloads
  pointwise [Norm.dx, Norm.coef, Norm.slope, Norm.inv, Norm.var, Norm.dg, row, gain, dh1, dh2, gated, dz]
  simp only [Fin.sum_univ_one]

theorem out_A_9 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (r : Fin 256) (l : Fin 1024) :
    out0_A_9 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 (ix2 r l) = Norm.dx K (row b4 r) (gain b6 0) (dh2 b0 b1 r) l := by
  frame_out
  open_payloads
  pointwise [Norm.dx, Norm.coef, Norm.slope, Norm.inv, Norm.var, Norm.dg, row, gain, dh1, dh2, gated]
  simp only [Fin.sum_univ_one]

theorem out_B_9 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (bo10 : FVec Ideal S1x1024 .f32) (bo11 : FVec Ideal S1x1024 .f32) (r : Fin 256) (l : Fin 1024) :
    out0_B_9 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 bo10 bo11 (ix2 r l) = Norm.dx K (row b4 r) (gain b6 0) (dh2 b0 b1 r) l := by
  frame_out
  open_payloads
  pointwise [Norm.dx, Norm.coef, Norm.slope, Norm.inv, Norm.var, Norm.dg, row, gain, dh1, dh2, gated]
  simp only [Fin.sum_univ_one]

theorem out_A_10 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (l : Fin 1024) :
    out0_A_10 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 (ix2 0 l) = 0 + ∑ r, Norm.dg K (gated (row b2 r) (row b3 r)) (dh1 b0 b1 r) l := by
  frame_open
  simp (disch := decide) only [↓ View.readCov_skip, ↓ View.readCov_cons_toLoadRect, ↓ View.readCov_fill]
  frame_out
  open_payloads
  pointwise [Norm.dx, Norm.coef, Norm.slope, Norm.inv, Norm.var, Norm.dg, row, gain, dh1, dh2, gated, zero_add]

theorem out_B_10 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (bo10 : FVec Ideal S1x1024 .f32) (bo11 : FVec Ideal S1x1024 .f32) (l : Fin 1024) :
    out0_B_10 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 bo10 bo11 (ix2 0 l) = bo10 (ix2 0 l) + ∑ r, Norm.dg K (gated (row b2 r) (row b3 r)) (dh1 b0 b1 r) l := by
  frame_out
  open_payloads
  pointwise [Norm.dx, Norm.coef, Norm.slope, Norm.inv, Norm.var, Norm.dg, row, gain, dh1, dh2, gated]

theorem out_A_11 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (l : Fin 1024) :
    out0_A_11 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 (ix2 0 l) = 0 + ∑ r, Norm.dg K (row b4 r) (dh2 b0 b1 r) l := by
  frame_open
  simp (disch := decide) only [↓ View.readCov_skip, ↓ View.readCov_cons_toLoadRect, ↓ View.readCov_fill]
  frame_out
  open_payloads
  pointwise [Norm.dx, Norm.coef, Norm.slope, Norm.inv, Norm.var, Norm.dg, row, gain, dh1, dh2, gated, zero_add]

theorem out_B_11 (c : Dev nD) (i : grid0.Coords) (arg2 : Memref sig .tc .vmem S256x1024 .f32) (harg2 : arg2.IsWhole) (arg3 : Memref sig .tc .vmem S2048x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S1x1024 .f32) (harg13 : arg13.IsWhole) (hc0 : ¬cond0_0 i) (b0 : FVec Ideal S256x1024 .f32) (b1 : FVec Ideal S2048x1024 .bf16) (b2 : FVec Ideal S256x1024 .f32) (b3 : FVec Ideal S256x1024 .f32) (b4 : FVec Ideal S256x1024 .f32) (b5 : FVec Ideal S1x1x1024 .f32) (b6 : FVec Ideal S1x1x1024 .f32) (bo10 : FVec Ideal S1x1024 .f32) (bo11 : FVec Ideal S1x1024 .f32) (l : Fin 1024) :
    out0_B_11 (F := Ideal) c i arg2 harg2 arg3 harg3 arg4 harg4 arg5 harg5 arg6 harg6 arg7 harg7 arg8 harg8 arg9 harg9 arg10 harg10 arg11 harg11 arg12 harg12 arg13 harg13 hc0 b0 b1 b2 b3 b4 b5 b6 bo10 bo11 (ix2 0 l) = bo11 (ix2 0 l) + ∑ r, Norm.dg K (row b4 r) (dh2 b0 b1 r) l := by
  frame_out
  open_payloads
  pointwise [Norm.dx, Norm.coef, Norm.slope, Norm.inv, Norm.var, Norm.dg, row, gain, dh1, dh2, gated]

variable (m : (ℓ : Loc nD τ sig) → Buf (Elt Ideal) ℓ) (c : Dev nD)

abbrev A0 : FVec Ideal S2048x1024 .f32 := m ((c.tc : Thread nD τ).loc main_arg0)
abbrev A1 : FVec Ideal S2048x1024 .f32 := m ((c.tc : Thread nD τ).loc main_arg1)
abbrev A2 : FVec Ideal S2048x1024 .f32 := m ((c.tc : Thread nD τ).loc main_arg2)
abbrev A3 : FVec Ideal S2048x3840 .f32 := m ((c.tc : Thread nD τ).loc main_arg3)
abbrev A4 : FVec Ideal S2048x1024 .f32 := m ((c.tc : Thread nD τ).loc main_arg4)
abbrev A5 : FVec Ideal S4x1x1024 .f32 := m ((c.tc : Thread nD τ).loc main_arg5)
abbrev A6 : FVec Ideal S4x1x1024 .f32 := m ((c.tc : Thread nD τ).loc main_arg6)

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0, 0]
    ∧ win0_6.index t = ![0, 0, 0]
    ∧ win0_7.index t = ![t.val, 0]
    ∧ win0_8.index t = ![t.val, 0]
    ∧ win0_9.index t = ![t.val, 0]
    ∧ win0_10.index t = ![0, 0]
    ∧ win0_11.index t = ![0, 0] :=
  (by decide +kernel : ∀ t : Fin grid0.N, _)

/-- Row `r` of point `t`. -/
abbrev gr (t : Fin cfg0.N) (r : Fin 256) : Fin 2048 := ⟨t.val * 256 + r.val, by have := N_0; have := t.isLt; change t.val < grid0.N at this; omega⟩

theorem blk0 (t : Fin cfg0.N) (r : Fin 256) (l : Fin 1024) : (iblk m c 0 t : FVec Ideal S256x1024 .f32) (ix2 r l) = A0 m c (ix2 (gr t r) l) := by
  blk_point [iblk, V, idx_val t]
theorem blk1 (t : Fin cfg0.N) (r : Fin 2048) (l : Fin 1024) : (iblk m c 1 t : FVec Ideal S2048x1024 .bf16) (ix2 r l) = A1 m c (ix2 r l) := by
  blk_point [iblk, V, idx_val t]
theorem blk2 (t : Fin cfg0.N) (r : Fin 256) (l : Fin 1024) : (iblk m c 2 t : FVec Ideal S256x1024 .f32) (ix2 r l) = A2 m c (ix2 (gr t r) l) := by
  blk_point [iblk, V, idx_val t]
theorem blk3 (t : Fin cfg0.N) (r : Fin 256) (l : Fin 1024) : (X0_3 m c t : FVec Ideal S256x1024 .f32) (ix2 r l) = A3 m c (ix2 (gr t r) ⟨l.val, by have := l.isLt; omega⟩) := by
  unfold X0_3 Pipeline.Window.fill
  rw [dif_pos (moved0_3 t _)]
  blk_point [iblk, V, idx_val t]
theorem blk4 (t : Fin cfg0.N) (r : Fin 256) (l : Fin 1024) : (iblk m c 4 t : FVec Ideal S256x1024 .f32) (ix2 r l) = A4 m c (ix2 (gr t r) l) := by
  blk_point [iblk, V, idx_val t]
theorem blk5 (t : Fin cfg0.N) (l : Fin 1024) : (iblk m c 5 t : FVec Ideal S1x1x1024 .f32) (ix3 0 0 l) = A5 m c (ix3 0 0 l) := by
  blk_point [iblk, V, idx_val t]
theorem blk6 (t : Fin cfg0.N) (l : Fin 1024) : (iblk m c 6 t : FVec Ideal S1x1x1024 .f32) (ix3 0 0 l) = A6 m c (ix3 0 0 l) := by
  blk_point [iblk, V, idx_val t]

theorem row2 (t : Fin cfg0.N) (r : Fin 256) : row (iblk m c 2 t : FVec Ideal S256x1024 .f32) r = row (A2 m c) (gr t r) := funext fun l => blk2 m c t r l
theorem row3 (t : Fin cfg0.N) (r : Fin 256) : row (X0_3 m c t : FVec Ideal S256x1024 .f32) r = head (by decide) (A3 m c) (gr t r) := funext fun l => blk3 m c t r l
theorem row4 (t : Fin cfg0.N) (r : Fin 256) : row (iblk m c 4 t : FVec Ideal S256x1024 .f32) r = row (A4 m c) (gr t r) := funext fun l => blk4 m c t r l
theorem gain5 (t : Fin cfg0.N) : gain (iblk m c 5 t : FVec Ideal S1x1x1024 .f32) 0 = gain (A5 m c) 0 := funext fun l => blk5 m c t l
theorem gain6 (t : Fin cfg0.N) : gain (iblk m c 6 t : FVec Ideal S1x1x1024 .f32) 0 = gain (A6 m c) 0 := funext fun l => blk6 m c t l
theorem dh1_blk (t : Fin cfg0.N) (r : Fin 256) : dh1 (iblk m c 0 t : FVec Ideal S256x1024 .f32) (iblk m c 1 t : FVec Ideal S2048x1024 .bf16) r = dh1 (A0 m c) (A1 m c) (gr t r) := by
  funext l
  simp only [dh1, blk0, blk1]
theorem dh2_blk (t : Fin cfg0.N) (r : Fin 256) : dh2 (iblk m c 0 t : FVec Ideal S256x1024 .f32) (iblk m c 1 t : FVec Ideal S2048x1024 .bf16) r = dh2 (A0 m c) (A1 m c) (gr t r) := by
  funext l
  simp only [dh2, blk0, blk1]

section
variable (X0 X1 X2 : FVec Ideal S2048x1024 .f32) (X3 : FVec Ideal S2048x3840 .f32) (X4 : FVec Ideal S2048x1024 .f32) (X5 X6 : FVec Ideal S4x1x1024 .f32)
/-- The results, each at an index. -/
def D7 (r : Fin 2048) (l : Fin 1024) : EReal := dy (row X2 r) (head (by decide) X3 r) (gain X5 0) (dh1 X0 X1 r) l
def D8 (r : Fin 2048) (l : Fin 1024) : EReal := dz (row X2 r) (head (by decide) X3 r) (gain X5 0) (dh1 X0 X1 r) l
def D9 (r : Fin 2048) (l : Fin 1024) : EReal := Norm.dx K (row X4 r) (gain X6 0) (dh2 X0 X1 r) l
def T10 (r : Fin 2048) (l : Fin 1024) : EReal := Norm.dg K (gated (row X2 r) (head (by decide) X3 r)) (dh1 X0 X1 r) l
def T11 (r : Fin 2048) (l : Fin 1024) : EReal := Norm.dg K (row X4 r) (dh2 X0 X1 r) l
end

theorem step7 (t : Fin cfg0.N) (r : Fin 256) (l : Fin 1024) : (outsAt0 m c t.val t.isLt).1 (ix2 r l) = D7 (A0 m c) (A1 m c) (A2 m c) (A3 m c) (A5 m c) (gr t r) l := by
  by_cases h : t.val % 8 = 0
  · have e := out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (X0_3 m c t) (iblk m c 4 t) (iblk m c 5 t) (iblk m c 6 t) r l
    simp only [row2, row3, gain5, dh1_blk] at e
    rw [outsAt0_A m c t h]
    dsimp only
    exact e
  · have e := out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h' => h ((hcond0_0 t).mp h')) (iblk m c 0 t) (iblk m c 1 t) (iblk m c 2 t) (X0_3 m c t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 r l
    simp only [row2, row3, gain5, dh1_blk] at e
    rw [outsAt0_B m c t h]
    dsimp only
    exact e
theorem step8 (t : Fin cfg0.N) (r : Fin 256) (l : Fin 1024) : (outsAt0 m c t.val t.isLt).2.1 (ix2 r l) = D8 (A0 m c) (A1 m c) (A2 m c) (A3 m c) (A5 m c) (gr t r) l := by
  by_cases h : t.val % 8 = 0
  · have e := out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (X0_3 m c t) (iblk m c 4 t) (iblk m c 5 t) (iblk m c 6 t) r l
    simp only [row2, row3, gain5, dh1_blk] at e
    rw [outsAt0_A m c t h]
    dsimp only
    exact e
  · have e := out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h' => h ((hcond0_0 t).mp h')) (iblk m c 0 t) (iblk m c 1 t) (iblk m c 2 t) (X0_3 m c t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 r l
    simp only [row2, row3, gain5, dh1_blk] at e
    rw [outsAt0_B m c t h]
    dsimp only
    exact e
theorem step9 (t : Fin cfg0.N) (r : Fin 256) (l : Fin 1024) : (outsAt0 m c t.val t.isLt).2.2.1 (ix2 r l) = D9 (A0 m c) (A1 m c) (A4 m c) (A6 m c) (gr t r) l := by
  by_cases h : t.val % 8 = 0
  · have e := out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (X0_3 m c t) (iblk m c 4 t) (iblk m c 5 t) (iblk m c 6 t) r l
    simp only [row4, gain6, dh2_blk] at e
    rw [outsAt0_A m c t h]
    dsimp only
    exact e
  · have e := out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h' => h ((hcond0_0 t).mp h')) (iblk m c 0 t) (iblk m c 1 t) (iblk m c 2 t) (X0_3 m c t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 r l
    simp only [row4, gain6, dh2_blk] at e
    rw [outsAt0_B m c t h]
    dsimp only
    exact e
theorem step10_A (t : Fin cfg0.N) (h : t.val % 8 = 0) (l : Fin 1024) : (outsAt0 m c t.val t.isLt).2.2.2.1 (ix2 0 l) = 0 + ∑ r, T10 (A0 m c) (A1 m c) (A2 m c) (A3 m c) (gr t r) l := by
  have e := out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (X0_3 m c t) (iblk m c 4 t) (iblk m c 5 t) (iblk m c 6 t) l
  simp only [row2, row3, dh1_blk] at e
  rw [outsAt0_A m c t h]
  dsimp only
  exact e
theorem step10_B (t : Fin cfg0.N) (h : ¬t.val % 8 = 0) (l : Fin 1024) : (outsAt0 m c t.val t.isLt).2.2.2.1 (ix2 0 l) = (outsAt0 m c (t.val - 1) (Nat.lt_of_le_of_lt (Nat.sub_le _ _) t.isLt)).2.2.2.1 (ix2 0 l) + ∑ r, T10 (A0 m c) (A1 m c) (A2 m c) (A3 m c) (gr t r) l := by
  have e := out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h' => h ((hcond0_0 t).mp h')) (iblk m c 0 t) (iblk m c 1 t) (iblk m c 2 t) (X0_3 m c t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 l
  simp only [row2, row3, dh1_blk] at e
  rw [outsAt0_B m c t h]
  dsimp only
  exact e
theorem step11_A (t : Fin cfg0.N) (h : t.val % 8 = 0) (l : Fin 1024) : (outsAt0 m c t.val t.isLt).2.2.2.2 (ix2 0 l) = 0 + ∑ r, T11 (A0 m c) (A1 m c) (A4 m c) (gr t r) l := by
  have e := out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (iblk m c 0 t) (iblk m c 1 t) (iblk m c 2 t) (X0_3 m c t) (iblk m c 4 t) (iblk m c 5 t) (iblk m c 6 t) l
  simp only [row4, dh2_blk] at e
  rw [outsAt0_A m c t h]
  dsimp only
  exact e
theorem step11_B (t : Fin cfg0.N) (h : ¬t.val % 8 = 0) (l : Fin 1024) : (outsAt0 m c t.val t.isLt).2.2.2.2 (ix2 0 l) = (outsAt0 m c (t.val - 1) (Nat.lt_of_le_of_lt (Nat.sub_le _ _) t.isLt)).2.2.2.2 (ix2 0 l) + ∑ r, T11 (A0 m c) (A1 m c) (A4 m c) (gr t r) l := by
  have e := out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h' => h ((hcond0_0 t).mp h')) (iblk m c 0 t) (iblk m c 1 t) (iblk m c 2 t) (X0_3 m c t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 l
  simp only [row4, dh2_blk] at e
  rw [outsAt0_B m c t h]
  dsimp only
  exact e

/-- The rows of the 8 points are the 2048 rows. -/
theorem sum_pts (f : Fin 2048 → EReal) : ∑ t : Fin cfg0.N, ∑ r : Fin 256, f (gr t r) = ∑ r, f r :=
  Fin.sum_mul_add_congr (fun s k hl => rfl) (show 2048 = grid0.N * 256 by rw [N_0])

theorem end10 : (dats m 0 c).arrAt 10 cfg0.N = fun y : S1x1024.Idx => ∑ r, T10 (A0 m c) (A1 m c) (A2 m c) (A3 m c) r (y 1) := by
  refine (dats m 0 c).arrAt_eq_of_after_last 10 t0_7 (by decide +kernel) _ fun y => ?_
  blk_simp
  rw [after0_10, Pipeline.eq_sum_fin_of_reset_step_apply_last (fun n h => (outsAt0 m c n h).2.2.2.1) 8 (fun _ => 0)
    (fun t (y : S1x1024.Idx) => ∑ r, T10 (A0 m c) (A1 m c) (A2 m c) (A3 m c) (gr t r) (y 1))
    (fun t h y => by idx_vars y; obtain rfl : y0 = 0 := Subsingleton.elim _ _; exact step10_A m c t h y1)
    (fun t h y => by idx_vars y; obtain rfl : y0 = 0 := Subsingleton.elim _ _; exact step10_B m c t h y1) (le_of_eq N_0) t0_7 rfl, zero_add]
  exact sum_pts fun r => T10 (A0 m c) (A1 m c) (A2 m c) (A3 m c) r _

theorem end11 : (dats m 0 c).arrAt 11 cfg0.N = fun y : S1x1024.Idx => ∑ r, T11 (A0 m c) (A1 m c) (A4 m c) r (y 1) := by
  refine (dats m 0 c).arrAt_eq_of_after_last 11 t0_7 (by decide +kernel) _ fun y => ?_
  blk_simp
  rw [after0_11, Pipeline.eq_sum_fin_of_reset_step_apply_last (fun n h => (outsAt0 m c n h).2.2.2.2) 8 (fun _ => 0)
    (fun t (y : S1x1024.Idx) => ∑ r, T11 (A0 m c) (A1 m c) (A4 m c) (gr t r) (y 1))
    (fun t h y => by idx_vars y; obtain rfl : y0 = 0 := Subsingleton.elim _ _; exact step11_A m c t h y1)
    (fun t h y => by idx_vars y; obtain rfl : y0 = 0 := Subsingleton.elim _ _; exact step11_B m c t h y1) (le_of_eq N_0) t0_7 rfl, zero_add]
  exact sum_pts fun r => T11 (A0 m c) (A1 m c) (A4 m c) r _

theorem end7 : (dats m 0 c).arrAt 7 cfg0.N = fun y : S2048x1024.Idx => D7 (A0 m c) (A1 m c) (A2 m c) (A3 m c) (A5 m c) (y 0) (y 1) := by
  refine (dats m 0 c).arrAt_eq_of_covers 7 _ (by decide +kernel) fun t hf y => ?_
  blk_simp
  rw [after0_7]
  idx_vars y
  have e0 : ((cfg0.win 7).blk t).view.emb (ix2 y0 y1) 0 = gr t y0 := Fin.ext (by blk_simp [idx_val t])
  have e1 : ((cfg0.win 7).blk t).view.emb (ix2 y0 y1) 1 = y1 := Fin.ext (by blk_simp [idx_val t])
  rw [e0, e1]
  exact step7 m c t y0 y1

theorem end8 : (dats m 0 c).arrAt 8 cfg0.N = fun y : S2048x1024.Idx => D8 (A0 m c) (A1 m c) (A2 m c) (A3 m c) (A5 m c) (y 0) (y 1) := by
  refine (dats m 0 c).arrAt_eq_of_covers 8 _ (by decide +kernel) fun t hf y => ?_
  blk_simp
  rw [after0_8]
  idx_vars y
  have e0 : ((cfg0.win 8).blk t).view.emb (ix2 y0 y1) 0 = gr t y0 := Fin.ext (by blk_simp [idx_val t])
  have e1 : ((cfg0.win 8).blk t).view.emb (ix2 y0 y1) 1 = y1 := Fin.ext (by blk_simp [idx_val t])
  rw [e0, e1]
  exact step8 m c t y0 y1

theorem end9 : (dats m 0 c).arrAt 9 cfg0.N = fun y : S2048x1024.Idx => D9 (A0 m c) (A1 m c) (A4 m c) (A6 m c) (y 0) (y 1) := by
  refine (dats m 0 c).arrAt_eq_of_covers 9 _ (by decide +kernel) fun t hf y => ?_
  blk_simp
  rw [after0_9]
  idx_vars y
  have e0 : ((cfg0.win 9).blk t).view.emb (ix2 y0 y1) 0 = gr t y0 := Fin.ext (by blk_simp [idx_val t])
  have e1 : ((cfg0.win 9).blk t).view.emb (ix2 y0 y1) 1 = y1 := Fin.ext (by blk_simp [idx_val t])
  rw [e0, e1]
  exact step9 m c t y0 y1

section
open Cert.Reference4Ideal.Read
variable (X0 X1 X2 : FVec Ideal S2048x1024 .f32) (X3 : FVec Ideal S2048x3840 .f32) (X4 : FVec Ideal S2048x1024 .f32) (X5 X6 : FVec Ideal S4x1x1024 .f32)

theorem ref_z (r : Fin 2048) (l : Fin 1024) : val_main_v0 (F := Ideal) X3 (ix2 r l) = head (by decide) X3 r l := by
  pointwise [val_main_v0]
theorem ref_sig (r : Fin 2048) (l : Fin 1024) : val_main_v5_2 (F := Ideal) X3 (ix2 r l) = Ideal.logistic (head (by decide) X3 r l) := by
  pointwise [val_main_call0_v0, val_main_call0_v1, val_main_call0_cst, val_main_call0_v2, val_main_call0_v3, val_main_call0_cst_0, val_main_call0_v4, val_main_v5_2, ref_z]
  rfl
theorem ref_gate (r : Fin 2048) (l : Fin 1024) : val_main_v5_0 (F := Ideal) X3 (ix2 r l) = head (by decide) X3 r l * Ideal.logistic (head (by decide) X3 r l) := by
  pointwise [val_main_v5_0, ref_z, ref_sig]
theorem ref_dsig (r : Fin 2048) (l : Fin 1024) : val_main_v5_1 (F := Ideal) X3 (ix2 r l) = Ideal.logistic (head (by decide) X3 r l) * (1 - Ideal.logistic (head (by decide) X3 r l)) := by
  pointwise [val_main_v5_1, val_main_call0_v7, val_main_call0_v6, val_main_call0_cst_1, ref_sig]
theorem ref_gated (r : Fin 2048) (l : Fin 1024) : val_main_v6 (F := Ideal) X2 X3 (ix2 r l) = gated (row X2 r) (head (by decide) X3 r) l := by
  pointwise [val_main_v6, ref_gate, gated]
theorem ref_d1 (r : Fin 2048) (l : Fin 1024) : val_main_v40 (F := Ideal) X0 X1 (ix2 r l) = dh1 X0 X1 r l := by
  pointwise [val_main_v40, val_main_v39, dh1]
theorem ref_d2 (r : Fin 2048) (l : Fin 1024) : val_main_v41 (F := Ideal) X0 X1 (ix2 r l) = dh2 X0 X1 r l := by
  pointwise [val_main_v41, val_main_v39, dh2]
theorem o_var (r : Fin 2048) : val_main_v28 (F := Ideal) X4 (ix2 r 0) = Norm.var K (row X4 r) := by
  pointwise [val_main_v22, val_main_cst_3, val_main_v23, val_main_v24, val_main_cst_4, val_main_v25, val_main_v26, val_main_cst_5, val_main_v27, val_main_v28, Norm.var, row]
theorem o_inv (r : Fin 2048) : val_main_v29 (F := Ideal) X4 (ix2 r 0) = Norm.inv K (row X4 r) := by
  pointwise [val_main_v29, o_var, Norm.inv]
theorem o_slope (r : Fin 2048) : val_main_v32 (F := Ideal) X4 (ix2 r 0) = Norm.slope K (row X4 r) := by
  pointwise [val_main_v30, val_main_cst_6, val_main_v31, val_main_v32, o_var, o_inv, Norm.slope]
theorem o_dg (l : Fin 1024) : val_main_v44 (F := Ideal) X0 X1 X4 (ix2 0 l) = ∑ r, Norm.dg K (row X4 r) (dh2 X0 X1 r) l := by
  pointwise [val_main_v42, val_main_cst_7, val_main_v43, val_main_v44, val_main_v33, val_main_v34, o_inv, ref_d2, Norm.dg, row]
theorem o_dhg (r : Fin 2048) (l : Fin 1024) : val_main_v46 (F := Ideal) X0 X1 X6 (ix2 r l) = dh2 X0 X1 r l * gain X6 0 l := by
  pointwise [val_main_v45, val_main_v46, val_main_v4, val_main_v3, ref_d2, gain]
theorem o_coef (r : Fin 2048) (l : Fin 1024) : val_main_v56 (F := Ideal) X0 X1 X4 X6 (ix2 r l) = Norm.coef K (row X4 r) (gain X6 0) (dh2 X0 X1 r) := by
  pointwise [val_main_v47, val_main_v48, val_main_v49, val_main_v52, val_main_cst_9, val_main_v53, val_main_v54, val_main_cst_10, val_main_v55, val_main_v56, val_main_cst_8, o_dhg, o_slope, Norm.coef, row]
  simp only [Fin.sum_univ_one, o_slope]
theorem o_dx (r : Fin 2048) (l : Fin 1024) : val_main_v60 (F := Ideal) X0 X1 X4 X6 (ix2 r l) = Norm.dx K (row X4 r) (gain X6 0) (dh2 X0 X1 r) l := by
  pointwise [val_main_v50, val_main_v51, val_main_v57, val_main_v58, val_main_v59, val_main_v60, o_coef, o_dhg, o_inv, Norm.dx, row]
theorem y_var (r : Fin 2048) : val_main_v13 (F := Ideal) X2 X3 (ix2 r 0) = Norm.var K (gated (row X2 r) (head (by decide) X3 r)) := by
  pointwise [val_main_v7, val_main_cst, val_main_v8, val_main_v9, val_main_cst_0, val_main_v10, val_main_v11, val_main_cst_1, val_main_v12, val_main_v13, Norm.var, ref_gated]
theorem y_inv (r : Fin 2048) : val_main_v14 (F := Ideal) X2 X3 (ix2 r 0) = Norm.inv K (gated (row X2 r) (head (by decide) X3 r)) := by
  pointwise [val_main_v14, y_var, Norm.inv]
theorem y_slope (r : Fin 2048) : val_main_v17 (F := Ideal) X2 X3 (ix2 r 0) = Norm.slope K (gated (row X2 r) (head (by decide) X3 r)) := by
  pointwise [val_main_v15, val_main_cst_2, val_main_v16, val_main_v17, y_var, y_inv, Norm.slope]
theorem y_dg (l : Fin 1024) : val_main_v63 (F := Ideal) X0 X1 X2 X3 (ix2 0 l) = ∑ r, Norm.dg K (gated (row X2 r) (head (by decide) X3 r)) (dh1 X0 X1 r) l := by
  pointwise [val_main_v61, val_main_cst_11, val_main_v62, val_main_v63, val_main_v18, val_main_v19, y_inv, ref_d1, Norm.dg, ref_gated]
theorem y_dhg (r : Fin 2048) (l : Fin 1024) : val_main_v65 (F := Ideal) X0 X1 X5 (ix2 r l) = dh1 X0 X1 r l * gain X5 0 l := by
  pointwise [val_main_v64, val_main_v65, val_main_v2, val_main_v1, ref_d1, gain]
theorem y_coef (r : Fin 2048) (l : Fin 1024) : val_main_v75 (F := Ideal) X0 X1 X2 X3 X5 (ix2 r l) = Norm.coef K (gated (row X2 r) (head (by decide) X3 r)) (gain X5 0) (dh1 X0 X1 r) := by
  pointwise [val_main_v66, val_main_v67, val_main_v68, val_main_v71, val_main_cst_13, val_main_v72, val_main_v73, val_main_cst_14, val_main_v74, val_main_v75, val_main_cst_12, y_dhg, y_slope, Norm.coef, ref_gated]
  simp only [Fin.sum_univ_one, y_slope]
theorem y_dx (r : Fin 2048) (l : Fin 1024) : val_main_v79 (F := Ideal) X0 X1 X2 X3 X5 (ix2 r l) = Norm.dx K (gated (row X2 r) (head (by decide) X3 r)) (gain X5 0) (dh1 X0 X1 r) l := by
  pointwise [val_main_v69, val_main_v70, val_main_v76, val_main_v77, val_main_v78, val_main_v79, y_coef, y_dhg, y_inv, Norm.dx, ref_gated]
theorem ref7 (r : Fin 2048) (l : Fin 1024) : val_main_v81 (F := Ideal) X0 X1 X2 X3 X5 (ix2 r l) = D7 X0 X1 X2 X3 X5 r l := by
  pointwise [val_main_v81, y_dx, ref_gate, D7, dy]
theorem ref8 (r : Fin 2048) (l : Fin 1024) : val_main_v83 (F := Ideal) X0 X1 X2 X3 X5 (ix2 r l) = D8 X0 X1 X2 X3 X5 r l := by
  pointwise [val_main_v83, val_main_v82, val_main_call1_v2, val_main_call1_v1, val_main_call1_v0, val_main_v80, y_dx, ref_sig, ref_dsig, ref_z, D8, dz]
end

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)
theorem preserves : Cert.preserves_Kernel4_Kernel4Ideal := trivial

theorem algebraic : Cert.algebraic_Kernel4Ideal_Reference4Ideal := by
  intro m g m' g' _ hag
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N,
    Value.run_blocks m g, (θ_run Cert.Reference4Ideal.defs _ _).mono (fun r h c => ?_) (Cert.Reference4Ideal.Value.run (F := Ideal) m' g')⟩
  obtain ⟨a0, a1, a2, a3, a4, a5, a6⟩ := hag c
  obtain ⟨e1, e2, e3, e4, e5, k⟩ := h c
  refine ⟨e1.trans ?_, e2.trans ?_, e3.trans ?_, e4.trans ?_, e5.trans ?_, k⟩
  · rw [Cert.Reference4Ideal.Read.val_main_v81_eq, a0, a1, a2, a3, a5]
    refine Eq.trans (funext fun y => ?_) (end7 m c).symm
    idx_vars y
    exact ref7 _ _ _ _ _ y0 y1
  · rw [Cert.Reference4Ideal.Read.val_main_v83_eq, a0, a1, a2, a3, a5]
    refine Eq.trans (funext fun y => ?_) (end8 m c).symm
    idx_vars y
    exact ref8 _ _ _ _ _ y0 y1
  · rw [Cert.Reference4Ideal.Read.val_main_v60_eq, a0, a1, a4, a6]
    refine Eq.trans (funext fun y => ?_) (end9 m c).symm
    idx_vars y
    exact o_dx _ _ _ _ y0 y1
  · rw [Cert.Reference4Ideal.Read.val_main_v63_eq, a0, a1, a2, a3]
    refine Eq.trans (funext fun y => ?_) (end10 m c).symm
    idx_vars y
    obtain rfl : y0 = 0 := Subsingleton.elim _ _
    exact y_dg _ _ _ _ y1
  · rw [Cert.Reference4Ideal.Read.val_main_v44_eq, a0, a1, a4]
    refine Eq.trans (funext fun y => ?_) (end11 m c).symm
    idx_vars y
    obtain rfl : y0 = 0 := Subsingleton.elim _ _
    exact o_dg _ _ _ y1

end Cert.OutA
end
-- ==== Proof.DownA.lean ====
/- Hand-written: the gradient of the feed-forward activation, the product of the output's gradient with the transposed weight. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.DownA

open Cert.Kernel5Ideal Cert.Kernel5Ideal.Gen

/-- The product at an index. -/
def G (X : FVec Ideal S2048x1024 .f32) (W : FVec Ideal S2816x1024 .f32) (r : Fin 2048) (j : Fin 2816) : EReal := ∑ k, X (ix2 r k) * W (ix2 j k)

theorem body (b0 : FVec Ideal S2048x1024 .f32) (b1 : FVec Ideal S256x1024 .bf16) (r : Fin 2048) (j : Fin 256) :
    out0_2 (F := Ideal) b0 b1 (ix2 r j) = ∑ k, b0 (ix2 r k) * b1 (ix2 j k) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S2816x1024 .f32 := m ((c.tc : Thread nD τ).loc main_arg1)

theorem idx_val : ∀ t : Fin cfg0.N, win0_0.index t = ![0, 0] ∧ win0_1.index t = ![t.val, 0] ∧ win0_2.index t = ![0, t.val] :=
  (by decide +kernel : ∀ t : Fin grid0.N, _)

/-- Row `r` of the result's block at point `t`. -/
abbrev gi (t : Fin cfg0.N) (r : Fin 2048) : Fin 2048 := r
/-- Column `j` of the result's block at point `t`. -/
abbrev gj (t : Fin cfg0.N) (j : Fin 256) : Fin 2816 := ⟨t.val * 256 + j.val, by have := N_0; have := t.isLt; change t.val < grid0.N at this; omega⟩

theorem blk0 (t : Fin cfg0.N) (r : Fin 2048) (l : Fin 1024) : (iblk m c 0 t : FVec Ideal S2048x1024 .f32) (ix2 r l) = A0 m c (ix2 (gi t r) l) := by
  blk_point [iblk, V, idx_val t]
theorem blk1 (t : Fin cfg0.N) (r : Fin 256) (l : Fin 1024) : (iblk m c 1 t : FVec Ideal S256x1024 .bf16) (ix2 r l) = A1 m c (ix2 (gj t r) l) := by
  blk_point [iblk, V, idx_val t]

theorem point (t : Fin cfg0.N) (r : Fin 2048) (j : Fin 256) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S2048x2816.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S2816x1024 .f32) (r : Fin 2048) (j : Fin 2816) :
    Cert.Reference5Ideal.Read.val_main_v3 (F := Ideal) x0 x1 (ix2 r j) = G x0 x1 r j := by
  pointwise [Cert.Reference5Ideal.Read.val_main_v3, Cert.Reference5Ideal.Read.val_main_v2, G]

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem preserves : Cert.preserves_Kernel5_Kernel5Ideal := trivial

theorem algebraic : Cert.algebraic_Kernel5Ideal_Reference5Ideal := by
  intro m g m' g' _ hag
  refine ⟨fun c => (dats m 0 c).arrAt 2 cfg0.N, Value.run_blocks m g,
    (θ_run Cert.Reference5Ideal.defs _ _).mono (fun r h c => ?_) (Cert.Reference5Ideal.Value.run (F := Ideal) m' g')⟩
  obtain ⟨a0, a1⟩ := hag c
  obtain ⟨e, k⟩ := h c
  refine ⟨e.trans ?_, k⟩
  refine (Cert.Reference5Ideal.Read.val_main_v3_eq _ _).trans ?_
  rw [a0, a1]
  refine Eq.trans (funext fun y => ?_) (final m c).symm
  idx_vars y
  exact ref _ _ y0 y1

end Cert.DownA
end
-- ==== Proof.DownW.lean ====
/- Hand-written: the gradient of the feed-forward's second weight, the product of the transposed activation with the output's gradient. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.DownW

open Cert.Kernel6Ideal Cert.Kernel6Ideal.Gen

/-- The product at an index. -/
def G (X : FVec Ideal S2048x2816 .f32) (W : FVec Ideal S2048x1024 .f32) (r : Fin 2816) (j : Fin 1024) : EReal := ∑ k, X (ix2 k r) * W (ix2 k j)

theorem body (b0 : FVec Ideal S2048x1408 .bf16) (b1 : FVec Ideal S2048x512 .f32) (r : Fin 1408) (j : Fin 512) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x2816 .f32 := m ((c.tc : Thread nD τ).loc main_arg0)
abbrev A1 : FVec Ideal S2048x1024 .f32 := m ((c.tc : Thread nD τ).loc main_arg1)

theorem idx_val : ∀ t : Fin cfg0.N, win0_0.index t = ![0, t.val / 2] ∧ win0_1.index t = ![0, t.val % 2] ∧ win0_2.index t = ![t.val / 2, t.val % 2] :=
  (by decide +kernel : ∀ t : Fin grid0.N, _)

/-- Row `r` of the result's block at point `t`. -/
abbrev gi (t : Fin cfg0.N) (r : Fin 1408) : Fin 2816 := ⟨(t.val / 2) * 1408 + r.val, by have := N_0; have := t.isLt; change t.val < grid0.N at this; omega⟩
/-- Column `j` of the result's block at point `t`. -/
abbrev gj (t : Fin cfg0.N) (j : Fin 512) : Fin 1024 := ⟨(t.val % 2) * 512 + j.val, by have := N_0; have := t.isLt; change t.val < grid0.N at this; omega⟩

theorem blk0 (t : Fin cfg0.N) (r : Fin 2048) (l : Fin 1408) : (iblk m c 0 t : FVec Ideal S2048x1408 .bf16) (ix2 r l) = A0 m c (ix2 r (gi t l)) := by
  blk_point [iblk, V, idx_val t]
theorem blk1 (t : Fin cfg0.N) (r : Fin 2048) (l : Fin 512) : (iblk m c 1 t : FVec Ideal S2048x512 .f32) (ix2 r l) = A1 m c (ix2 r (gj t l)) := by
  blk_point [iblk, V, idx_val t]

theorem point (t : Fin cfg0.N) (r : Fin 1408) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S2816x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x2816 .f32) (x1 : FVec Ideal S2048x1024 .f32) (r : Fin 2816) (j : Fin 1024) :
    Cert.Reference6Ideal.Read.val_main_v4 (F := Ideal) x0 x1 (ix2 r j) = G x0 x1 r j := by
  pointwise [Cert.Reference6Ideal.Read.val_main_v4, Cert.Reference6Ideal.Read.val_main_v3, Cert.Reference6Ideal.Read.val_main_v2, G]
  exact Finset.sum_congr rfl fun _ _ => mul_comm _ _

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem preserves : Cert.preserves_Kernel6_Kernel6Ideal := trivial

theorem algebraic : Cert.algebraic_Kernel6Ideal_Reference6Ideal := by
  intro m g m' g' _ hag
  refine ⟨fun c => (dats m 0 c).arrAt 2 cfg0.N, Value.run_blocks m g,
    (θ_run Cert.Reference6Ideal.defs _ _).mono (fun r h c => ?_) (Cert.Reference6Ideal.Value.run (F := Ideal) m' g')⟩
  obtain ⟨a0, a1⟩ := hag c
  obtain ⟨e, k⟩ := h c
  refine ⟨e.trans ?_, k⟩
  refine (Cert.Reference6Ideal.Read.val_main_v4_eq _ _).trans ?_
  rw [a0, a1]
  refine Eq.trans (funext fun y => ?_) (final m c).symm
  idx_vars y
  exact ref _ _ y0 y1

end Cert.DownW
end
-- ==== Proof.UpGW.lean ====
/- Hand-written: the gradient of the gate half of the feed-forward's first weight, the product of the transposed normalised input with the gate's gradient. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.UpGW

open Cert.Kernel7Ideal Cert.Kernel7Ideal.Gen

/-- The product at an index. -/
def G (X : FVec Ideal S2048x1024 .f32) (W : FVec Ideal S2048x2816 .f32) (r : Fin 1024) (j : Fin 2816) : EReal := ∑ k, X (ix2 k r) * W (ix2 k j)

theorem body (b0 : FVec Ideal S2048x1024 .bf16) (b1 : FVec Ideal S2048x1408 .bf16) (r : Fin 1024) (j : Fin 1408) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S2048x2816 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 1024) : Fin 1024 := r
/-- Column `j` of the result's block at point `t`. -/
abbrev gj (t : Fin cfg0.N) (j : Fin 1408) : Fin 2816 := ⟨t.val * 1408 + j.val, by have := N_0; have := t.isLt; change t.val < grid0.N at this; omega⟩

theorem blk0 (t : Fin cfg0.N) (r : Fin 2048) (l : Fin 1024) : (iblk m c 0 t : FVec Ideal S2048x1024 .bf16) (ix2 r l) = A0 m c (ix2 r (gi t l)) := by
  blk_point [iblk, V, idx_val t]
theorem blk1 (t : Fin cfg0.N) (r : Fin 2048) (l : Fin 1408) : (iblk m c 1 t : FVec Ideal S2048x1408 .bf16) (ix2 r l) = A1 m c (ix2 r (gj t l)) := by
  blk_point [iblk, V, idx_val t]

theorem point (t : Fin cfg0.N) (r : Fin 1024) (j : Fin 1408) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S1024x2816.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S2048x2816 .f32) (r : Fin 1024) (j : Fin 2816) :
    Cert.Reference7Ideal.Read.val_main_v4 (F := Ideal) x0 x1 (ix2 r j) = G x0 x1 r j := by
  pointwise [Cert.Reference7Ideal.Read.val_main_v4, Cert.Reference7Ideal.Read.val_main_v3, Cert.Reference7Ideal.Read.val_main_v2, G]
  exact Finset.sum_congr rfl fun _ _ => mul_comm _ _

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem preserves : Cert.preserves_Kernel7_Kernel7Ideal := trivial

theorem algebraic : Cert.algebraic_Kernel7Ideal_Reference7Ideal := by
  intro m g m' g' _ hag
  refine ⟨fun c => (dats m 0 c).arrAt 2 cfg0.N, Value.run_blocks m g,
    (θ_run Cert.Reference7Ideal.defs _ _).mono (fun r h c => ?_) (Cert.Reference7Ideal.Value.run (F := Ideal) m' g')⟩
  obtain ⟨a0, a1⟩ := hag c
  obtain ⟨e, k⟩ := h c
  refine ⟨e.trans ?_, k⟩
  refine (Cert.Reference7Ideal.Read.val_main_v4_eq _ _).trans ?_
  rw [a0, a1]
  refine Eq.trans (funext fun y => ?_) (final m c).symm
  idx_vars y
  exact ref _ _ y0 y1

end Cert.UpGW
end
-- ==== Proof.MoA.lean ====
/- Hand-written: the gradient of the memory reads, the product of the stream's gradient with the transposed output weight. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.MoA

open Cert.Kernel8Ideal Cert.Kernel8Ideal.Gen

/-- The product at an index. -/
def G (X : FVec Ideal S2048x1024 .f32) (W : FVec Ideal S1024x1024 .f32) (r : Fin 2048) (j : Fin 1024) : EReal := ∑ k, X (ix2 r k) * W (ix2 j k)

theorem body (b0 : FVec Ideal S2048x1024 .f32) (b1 : FVec Ideal S512x1024 .bf16) (r : Fin 2048) (j : Fin 512) :
    out0_2 (F := Ideal) b0 b1 (ix2 r j) = ∑ k, b0 (ix2 r k) * b1 (ix2 j k) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S1024x1024 .f32 := m ((c.tc : Thread nD τ).loc main_arg1)

theorem idx_val : ∀ t : Fin cfg0.N, win0_0.index t = ![0, 0] ∧ win0_1.index t = ![t.val, 0] ∧ win0_2.index t = ![0, t.val] :=
  (by decide +kernel : ∀ t : Fin grid0.N, _)

/-- Row `r` of the result's block at point `t`. -/
abbrev gi (t : Fin cfg0.N) (r : Fin 2048) : Fin 2048 := r
/-- Column `j` of the result's block at point `t`. -/
abbrev gj (t : Fin cfg0.N) (j : Fin 512) : Fin 1024 := ⟨t.val * 512 + j.val, by have := N_0; have := t.isLt; change t.val < grid0.N at this; omega⟩

theorem blk0 (t : Fin cfg0.N) (r : Fin 2048) (l : Fin 1024) : (iblk m c 0 t : FVec Ideal S2048x1024 .f32) (ix2 r l) = A0 m c (ix2 (gi t r) l) := by
  blk_point [iblk, V, idx_val t]
theorem blk1 (t : Fin cfg0.N) (r : Fin 512) (l : Fin 1024) : (iblk m c 1 t : FVec Ideal S512x1024 .bf16) (ix2 r l) = A1 m c (ix2 (gj t r) l) := by
  blk_point [iblk, V, idx_val t]

theorem point (t : Fin cfg0.N) (r : Fin 2048) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S2048x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S1024x1024 .f32) (r : Fin 2048) (j : Fin 1024) :
    Cert.Reference8Ideal.Read.val_main_v3 (F := Ideal) x0 x1 (ix2 r j) = G x0 x1 r j := by
  pointwise [Cert.Reference8Ideal.Read.val_main_v3, Cert.Reference8Ideal.Read.val_main_v2, G]

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem preserves : Cert.preserves_Kernel8_Kernel8Ideal := trivial

theorem algebraic : Cert.algebraic_Kernel8Ideal_Reference8Ideal := by
  intro m g m' g' _ hag
  refine ⟨fun c => (dats m 0 c).arrAt 2 cfg0.N, Value.run_blocks m g,
    (θ_run Cert.Reference8Ideal.defs _ _).mono (fun r h c => ?_) (Cert.Reference8Ideal.Value.run (F := Ideal) m' g')⟩
  obtain ⟨a0, a1⟩ := hag c
  obtain ⟨e, k⟩ := h c
  refine ⟨e.trans ?_, k⟩
  refine (Cert.Reference8Ideal.Read.val_main_v3_eq _ _).trans ?_
  rw [a0, a1]
  refine Eq.trans (funext fun y => ?_) (final m c).symm
  idx_vars y
  exact ref _ _ y0 y1

end Cert.MoA
end
-- ==== Proof.MoW.lean ====
/- Hand-written: the gradient of the memory output weight, the product of the transposed reads with the stream's gradient. -/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.MoW

open Cert.Kernel9Ideal Cert.Kernel9Ideal.Gen

/-- The product at an index. -/
def G (X : FVec Ideal S2048x1024 .f32) (W : FVec Ideal S2048x1024 .f32) (r : Fin 1024) (j : Fin 1024) : EReal := ∑ k, X (ix2 k r) * W (ix2 k j)

theorem body (b0 : FVec Ideal S2048x1024 .bf16) (b1 : FVec Ideal S2048x512 .f32) (r : Fin 1024) (j : Fin 512) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S2048x1024 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 1024) : Fin 1024 := r
/-- Column `j` of the result's block at point `t`. -/
abbrev gj (t : Fin cfg0.N) (j : Fin 512) : Fin 1024 := ⟨t.val * 512 + j.val, by have := N_0; have := t.isLt; change t.val < grid0.N at this; omega⟩

theorem blk0 (t : Fin cfg0.N) (r : Fin 2048) (l : Fin 1024) : (iblk m c 0 t : FVec Ideal S2048x1024 .bf16) (ix2 r l) = A0 m c (ix2 r (gi t l)) := by
  blk_point [iblk, V, idx_val t]
theorem blk1 (t : Fin cfg0.N) (r : Fin 2048) (l : Fin 512) : (iblk m c 1 t : FVec Ideal S2048x512 .f32) (ix2 r l) = A1 m c (ix2 r (gj t l)) := by
  blk_point [iblk, V, idx_val t]

theorem point (t : Fin cfg0.N) (r : Fin 1024) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S1024x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S2048x1024 .f32) (r : Fin 1024) (j : Fin 1024) :
    Cert.Reference9Ideal.Read.val_main_v4 (F := Ideal) x0 x1 (ix2 r j) = G x0 x1 r j := by
  pointwise [Cert.Reference9Ideal.Read.val_main_v4, Cert.Reference9Ideal.Read.val_main_v3, Cert.Reference9Ideal.Read.val_main_v2, G]
  exact Finset.sum_congr rfl fun _ _ => mul_comm _ _

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
theorem preserves : Cert.preserves_Kernel9_Kernel9Ideal := trivial

theorem algebraic : Cert.algebraic_Kernel9Ideal_Reference9Ideal := by
  intro m g m' g' _ hag
  refine ⟨fun c => (dats m 0 c).arrAt 2 cfg0.N, Value.run_blocks m g,
    (θ_run Cert.Reference9Ideal.defs _ _).mono (fun r h c => ?_) (Cert.Reference9Ideal.Value.run (F := Ideal) m' g')⟩
  obtain ⟨a0, a1⟩ := hag c
  obtain ⟨e, k⟩ := h c
  refine ⟨e.trans ?_, k⟩
  refine (Cert.Reference9Ideal.Read.val_main_v4_eq _ _).trans ?_
  rw [a0, a1]
  refine Eq.trans (funext fun y => ?_) (final m c).symm
  idx_vars y
  exact ref _ _ y0 y1

end Cert.MoW
end
-- ==== Proof.MqW.lean ====
/- Hand-written: the gradient of the memory query weight, the product of the transposed normalised input with the queries' gradient. -/
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.MqW

open Cert.Kernel10Ideal Cert.Kernel10Ideal.Gen

/-- The product at an index. -/
def G (X : FVec Ideal S2048x1024 .f32) (W : FVec Ideal S2048x1024 .f32) (r : Fin 1024) (j : Fin 1024) : EReal := ∑ k, X (ix2 k r) * W (ix2 k j)

theorem body (b0 : FVec Ideal S2048x1024 .bf16) (b1 : FVec Ideal S2048x1024 .bf16) (r : Fin 1024) (j : Fin 1024) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S2048x1024 .f32 := m ((c.tc : Thread nD τ).loc main_arg1)

theorem idx_val : ∀ t : Fin cfg0.N, win0_0.index t = ![0, 0] ∧ win0_1.index t = ![0, 0] ∧ win0_2.index t = ![0, 0] :=
  (by decide +kernel : ∀ t : Fin grid0.N, _)

/-- Row `r` of the result's block at point `t`. -/
abbrev gi (t : Fin cfg0.N) (r : Fin 1024) : Fin 1024 := r
/-- Column `j` of the result's block at point `t`. -/
abbrev gj (t : Fin cfg0.N) (j : Fin 1024) : Fin 1024 := j

theorem blk0 (t : Fin cfg0.N) (r : Fin 2048) (l : Fin 1024) : (iblk m c 0 t : FVec Ideal S2048x1024 .bf16) (ix2 r l) = A0 m c (ix2 r (gi t l)) := by
  blk_point [iblk, V, idx_val t]
theorem blk1 (t : Fin cfg0.N) (r : Fin 2048) (l : Fin 1024) : (iblk m c 1 t : FVec Ideal S2048x1024 .bf16) (ix2 r l) = A1 m c (ix2 r (gj t l)) := by
  blk_point [iblk, V, idx_val t]

theorem point (t : Fin cfg0.N) (r : Fin 1024) (j : Fin 1024) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S1024x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S2048x1024 .f32) (r : Fin 1024) (j : Fin 1024) :
    Cert.Reference10Ideal.Read.val_main_v4 (F := Ideal) x0 x1 (ix2 r j) = G x0 x1 r j := by
  pointwise [Cert.Reference10Ideal.Read.val_main_v4, Cert.Reference10Ideal.Read.val_main_v3, Cert.Reference10Ideal.Read.val_main_v2, G]
  exact Finset.sum_congr rfl fun _ _ => mul_comm _ _

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
theorem preserves : Cert.preserves_Kernel10_Kernel10Ideal := trivial

theorem algebraic : Cert.algebraic_Kernel10Ideal_Reference10Ideal := by
  intro m g m' g' _ hag
  refine ⟨fun c => (dats m 0 c).arrAt 2 cfg0.N, Value.run_blocks m g,
    (θ_run Cert.Reference10Ideal.defs _ _).mono (fun r h c => ?_) (Cert.Reference10Ideal.Value.run (F := Ideal) m' g')⟩
  obtain ⟨a0, a1⟩ := hag c
  obtain ⟨e, k⟩ := h c
  refine ⟨e.trans ?_, k⟩
  refine (Cert.Reference10Ideal.Read.val_main_v4_eq _ _).trans ?_
  rw [a0, a1]
  refine Eq.trans (funext fun y => ?_) (final m c).symm
  idx_vars y
  exact ref _ _ y0 y1

end Cert.MqW
end
-- ==== Proof.OutW.lean ====
/- Hand-written: the gradient of the output projection's weight, the product of the transposed mixed lanes with the stream's gradient. -/
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.OutW

open Cert.Kernel11Ideal Cert.Kernel11Ideal.Gen

/-- The product at an index. -/
def G (X : FVec Ideal S2048x2048 .f32) (W : FVec Ideal S2048x1024 .f32) (r : Fin 2048) (j : Fin 1024) : EReal := ∑ k, X (ix2 k r) * W (ix2 k j)

theorem body (b0 : FVec Ideal S2048x1024 .bf16) (b1 : FVec Ideal S2048x512 .f32) (r : Fin 1024) (j : Fin 512) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x2048 .f32 := m ((c.tc : Thread nD τ).loc main_arg0)
abbrev A1 : FVec Ideal S2048x1024 .f32 := m ((c.tc : Thread nD τ).loc main_arg1)

theorem idx_val : ∀ t : Fin cfg0.N, win0_0.index t = ![0, t.val / 2] ∧ win0_1.index t = ![0, t.val % 2] ∧ win0_2.index t = ![t.val / 2, t.val % 2] :=
  (by decide +kernel : ∀ t : Fin grid0.N, _)

/-- Row `r` of the result's block at point `t`. -/
abbrev gi (t : Fin cfg0.N) (r : Fin 1024) : Fin 2048 := ⟨(t.val / 2) * 1024 + r.val, by have := N_0; have := t.isLt; change t.val < grid0.N at this; omega⟩
/-- Column `j` of the result's block at point `t`. -/
abbrev gj (t : Fin cfg0.N) (j : Fin 512) : Fin 1024 := ⟨(t.val % 2) * 512 + j.val, by have := N_0; have := t.isLt; change t.val < grid0.N at this; omega⟩

theorem blk0 (t : Fin cfg0.N) (r : Fin 2048) (l : Fin 1024) : (iblk m c 0 t : FVec Ideal S2048x1024 .bf16) (ix2 r l) = A0 m c (ix2 r (gi t l)) := by
  blk_point [iblk, V, idx_val t]
theorem blk1 (t : Fin cfg0.N) (r : Fin 2048) (l : Fin 512) : (iblk m c 1 t : FVec Ideal S2048x512 .f32) (ix2 r l) = A1 m c (ix2 r (gj t l)) := by
  blk_point [iblk, V, idx_val t]

theorem point (t : Fin cfg0.N) (r : Fin 1024) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S2048x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x2048 .f32) (x1 : FVec Ideal S2048x1024 .f32) (r : Fin 2048) (j : Fin 1024) :
    Cert.Reference11Ideal.Read.val_main_v4 (F := Ideal) x0 x1 (ix2 r j) = G x0 x1 r j := by
  pointwise [Cert.Reference11Ideal.Read.val_main_v4, Cert.Reference11Ideal.Read.val_main_v3, Cert.Reference11Ideal.Read.val_main_v2, G]
  exact Finset.sum_congr rfl fun _ _ => mul_comm _ _

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem preserves : Cert.preserves_Kernel11_Kernel11Ideal := trivial

theorem algebraic : Cert.algebraic_Kernel11Ideal_Reference11Ideal := by
  intro m g m' g' _ hag
  refine ⟨fun c => (dats m 0 c).arrAt 2 cfg0.N, Value.run_blocks m g,
    (θ_run Cert.Reference11Ideal.defs _ _).mono (fun r h c => ?_) (Cert.Reference11Ideal.Value.run (F := Ideal) m' g')⟩
  obtain ⟨a0, a1⟩ := hag c
  obtain ⟨e, k⟩ := h c
  refine ⟨e.trans ?_, k⟩
  refine (Cert.Reference11Ideal.Read.val_main_v4_eq _ _).trans ?_
  rw [a0, a1]
  refine Eq.trans (funext fun y => ?_) (final m c).symm
  idx_vars y
  exact ref _ _ y0 y1

end Cert.OutW
end
-- ==== Proof.XbcW.lean ====
/- Hand-written: the gradient of the scan columns of the input projection, the product of the transposed normalised input with their gradient. -/
module

public import proofs.«01_k».proof.Defs
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.XbcW

open Cert.Kernel12Ideal Cert.Kernel12Ideal.Gen

/-- The product at an index. -/
def G (X : FVec Ideal S2048x1024 .f32) (W : FVec Ideal S2048x2048 .f32) (r : Fin 1024) (j : Fin 2048) : EReal := ∑ k, X (ix2 k r) * W (ix2 k j)

theorem body (b0 : FVec Ideal S2048x1024 .bf16) (b1 : FVec Ideal S2048x1024 .bf16) (r : Fin 1024) (j : Fin 1024) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S2048x2048 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 1024) : Fin 1024 := r
/-- Column `j` of the result's block at point `t`. -/
abbrev gj (t : Fin cfg0.N) (j : Fin 1024) : Fin 2048 := ⟨t.val * 1024 + j.val, by have := N_0; have := t.isLt; change t.val < grid0.N at this; omega⟩

theorem blk0 (t : Fin cfg0.N) (r : Fin 2048) (l : Fin 1024) : (iblk m c 0 t : FVec Ideal S2048x1024 .bf16) (ix2 r l) = A0 m c (ix2 r (gi t l)) := by
  blk_point [iblk, V, idx_val t]
theorem blk1 (t : Fin cfg0.N) (r : Fin 2048) (l : Fin 1024) : (iblk m c 1 t : FVec Ideal S2048x1024 .bf16) (ix2 r l) = A1 m c (ix2 r (gj t l)) := by
  blk_point [iblk, V, idx_val t]

theorem point (t : Fin cfg0.N) (r : Fin 1024) (j : Fin 1024) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S1024x2048.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S2048x2048 .f32) (r : Fin 1024) (j : Fin 2048) :
    Cert.Reference12Ideal.Read.val_main_v4 (F := Ideal) x0 x1 (ix2 r j) = G x0 x1 r j := by
  pointwise [Cert.Reference12Ideal.Read.val_main_v4, Cert.Reference12Ideal.Read.val_main_v3, Cert.Reference12Ideal.Read.val_main_v2, G]
  exact Finset.sum_congr rfl fun _ _ => mul_comm _ _

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
theorem preserves : Cert.preserves_Kernel12_Kernel12Ideal := trivial

theorem algebraic : Cert.algebraic_Kernel12Ideal_Reference12Ideal := by
  intro m g m' g' _ hag
  refine ⟨fun c => (dats m 0 c).arrAt 2 cfg0.N, Value.run_blocks m g,
    (θ_run Cert.Reference12Ideal.defs _ _).mono (fun r h c => ?_) (Cert.Reference12Ideal.Value.run (F := Ideal) m' g')⟩
  obtain ⟨a0, a1⟩ := hag c
  obtain ⟨e, k⟩ := h c
  refine ⟨e.trans ?_, k⟩
  refine (Cert.Reference12Ideal.Read.val_main_v4_eq _ _).trans ?_
  rw [a0, a1]
  refine Eq.trans (funext fun y => ?_) (final m c).symm
  idx_vars y
  exact ref _ _ y0 y1

end Cert.XbcW
end
-- ==== Proof.MqH.lean ====
/- Hand-written: the gradient through the memory queries' product and the normalisation before it, and the gradient of the gain. -/
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.MqH

open Cert.Kernel13Ideal Cert.Kernel13Ideal.Gen

/-- A product with a transposed right side, at an index. -/
abbrev pr {a b k : Nat} (X : (⟨2, ![a, k]⟩ : Shape).Idx → EReal) (W : (⟨2, ![b, k]⟩ : Shape).Idx → EReal) (r : Fin a) (l : Fin b) : EReal :=
  ∑ q, X (ix2 r q) * W (ix2 l q)
/-- Row `r` of an array. -/
abbrev row {a b : Nat} (X : (⟨2, ![a, b]⟩ : Shape).Idx → EReal) (r : Fin a) : Fin b → EReal := fun l => X (ix2 r l)
/-- The first row of a stack of gains. -/
abbrev gain {a : Nat} (g : (⟨3, ![a, 1, 1024]⟩ : Shape).Idx → EReal) (z : Fin a) : Fin 1024 → EReal := fun l => g (ix3 z 0 l)

abbrev K : BitVec 32 := 0x44800000#32

theorem out_A_5 (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S1x1024 .f32) (harg8 : arg8.IsWhole) (hc0 : cond0_0 i) (b0 : FVec Ideal S512x1024 .bf16) (b1 : FVec Ideal S1024x1024 .bf16) (b2 : FVec Ideal S512x1024 .f32) (b3 : FVec Ideal S512x1024 .f32) (b4 : FVec Ideal S1x1x1024 .f32) (r : Fin 512) (l : Fin 1024) :
    out0_A_5 (F := Ideal) c i arg2 harg2 arg3 harg3 arg4 harg4 arg5 harg5 arg6 harg6 arg7 harg7 arg8 harg8 hc0 b0 b1 b2 b3 b4 (ix2 r l) = Norm.dx K (row b2 r) (gain b4 0) (fun l => pr b0 b1 r l) l + b3 (ix2 r l) := by
  frame_out
  open_payloads
  pointwise [Norm.dx, Norm.coef, Norm.slope, Norm.inv, Norm.var, row, gain, pr]
  simp only [Fin.sum_univ_one]

theorem out_B_5 (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S1x1024 .f32) (harg8 : arg8.IsWhole) (hc0 : ¬cond0_0 i) (b0 : FVec Ideal S512x1024 .bf16) (b1 : FVec Ideal S1024x1024 .bf16) (b2 : FVec Ideal S512x1024 .f32) (b3 : FVec Ideal S512x1024 .f32) (b4 : FVec Ideal S1x1x1024 .f32) (bo6 : FVec Ideal S1x1024 .f32) (r : Fin 512) (l : Fin 1024) :
    out0_B_5 (F := Ideal) c i arg2 harg2 arg3 harg3 arg4 harg4 arg5 harg5 arg6 harg6 arg7 harg7 arg8 harg8 hc0 b0 b1 b2 b3 b4 bo6 (ix2 r l) = Norm.dx K (row b2 r) (gain b4 0) (fun l => pr b0 b1 r l) l + b3 (ix2 r l) := by
  frame_out
  open_payloads
  pointwise [Norm.dx, Norm.coef, Norm.slope, Norm.inv, Norm.var, row, gain, pr]
  simp only [Fin.sum_univ_one]

theorem out_A_6 (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S1x1024 .f32) (harg8 : arg8.IsWhole) (hc0 : cond0_0 i) (b0 : FVec Ideal S512x1024 .bf16) (b1 : FVec Ideal S1024x1024 .bf16) (b2 : FVec Ideal S512x1024 .f32) (b3 : FVec Ideal S512x1024 .f32) (b4 : FVec Ideal S1x1x1024 .f32) (l : Fin 1024) :
    out0_A_6 (F := Ideal) c i arg2 harg2 arg3 harg3 arg4 harg4 arg5 harg5 arg6 harg6 arg7 harg7 arg8 harg8 hc0 b0 b1 b2 b3 b4 (ix2 0 l) = 0 + ∑ r, Norm.dg K (row b2 r) (fun l => pr b0 b1 r l) l := by
  frame_open
  simp (disch := decide) only [↓ View.readCov_skip, ↓ View.readCov_cons_toLoadRect, ↓ View.readCov_fill]
  frame_out
  open_payloads
  pointwise [Norm.dg, Norm.inv, Norm.var, row, pr, zero_add]

theorem out_B_6 (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S1x1024 .f32) (harg8 : arg8.IsWhole) (hc0 : ¬cond0_0 i) (b0 : FVec Ideal S512x1024 .bf16) (b1 : FVec Ideal S1024x1024 .bf16) (b2 : FVec Ideal S512x1024 .f32) (b3 : FVec Ideal S512x1024 .f32) (b4 : FVec Ideal S1x1x1024 .f32) (bo6 : FVec Ideal S1x1024 .f32) (l : Fin 1024) :
    out0_B_6 (F := Ideal) c i arg2 harg2 arg3 harg3 arg4 harg4 arg5 harg5 arg6 harg6 arg7 harg7 arg8 harg8 hc0 b0 b1 b2 b3 b4 bo6 (ix2 0 l) = bo6 (ix2 0 l) + ∑ r, Norm.dg K (row b2 r) (fun l => pr b0 b1 r l) l := by
  frame_out
  open_payloads
  pointwise [Norm.dg, Norm.inv, Norm.var, row, pr]

variable (m : (ℓ : Loc nD τ sig) → Buf (Elt Ideal) ℓ) (c : Dev nD)

abbrev A0 : FVec Ideal S2048x1024 .f32 := m ((c.tc : Thread nD τ).loc main_arg0)
abbrev A1 : FVec Ideal S1024x1024 .f32 := m ((c.tc : Thread nD τ).loc main_arg1)
abbrev A2 : FVec Ideal S2048x1024 .f32 := m ((c.tc : Thread nD τ).loc main_arg2)
abbrev A3 : FVec Ideal S2048x1024 .f32 := m ((c.tc : Thread nD τ).loc main_arg3)
abbrev A4 : FVec Ideal S4x1x1024 .f32 := m ((c.tc : Thread nD τ).loc main_arg4)

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0, 0]
    ∧ win0_5.index t = ![t.val, 0]
    ∧ win0_6.index t = ![0, 0] :=
  (by decide +kernel : ∀ t : Fin grid0.N, _)

/-- Row `r` of point `t`. -/
abbrev gr (t : Fin cfg0.N) (r : Fin 512) : Fin 2048 := ⟨t.val * 512 + r.val, by have := N_0; have := t.isLt; change t.val < grid0.N at this; omega⟩

theorem blk0 (t : Fin cfg0.N) (r : Fin 512) (l : Fin 1024) : (iblk m c 0 t : FVec Ideal S512x1024 .bf16) (ix2 r l) = A0 m c (ix2 (gr t r) l) := by
  blk_point [iblk, V, idx_val t]
theorem blk1 (t : Fin cfg0.N) (r : Fin 1024) (l : Fin 1024) : (iblk m c 1 t : FVec Ideal S1024x1024 .bf16) (ix2 r l) = A1 m c (ix2 r l) := by
  blk_point [iblk, V, idx_val t]
theorem blk2 (t : Fin cfg0.N) (r : Fin 512) (l : Fin 1024) : (iblk m c 2 t : FVec Ideal S512x1024 .f32) (ix2 r l) = A2 m c (ix2 (gr t r) l) := by
  blk_point [iblk, V, idx_val t]
theorem blk3 (t : Fin cfg0.N) (r : Fin 512) (l : Fin 1024) : (iblk m c 3 t : FVec Ideal S512x1024 .f32) (ix2 r l) = A3 m c (ix2 (gr t r) l) := by
  blk_point [iblk, V, idx_val t]
theorem blk4 (t : Fin cfg0.N) (l : Fin 1024) : (iblk m c 4 t : FVec Ideal S1x1x1024 .f32) (ix3 0 0 l) = A4 m c (ix3 0 0 l) := by
  blk_point [iblk, V, idx_val t]

/-- The gradient handed back through the products, at a row. -/
def dh (X0 : FVec Ideal S2048x1024 .f32) (X1 : FVec Ideal S1024x1024 .f32) (r : Fin 2048) : Fin 1024 → EReal := fun l =>
  ∑ k : Fin 1024, X0 (ix2 r k) * X1 (ix2 l k)
/-- The gradient of the rows. -/
def DX (X0 : FVec Ideal S2048x1024 .f32) (X1 : FVec Ideal S1024x1024 .f32) (X2 : FVec Ideal S2048x1024 .f32) (X3 : FVec Ideal S2048x1024 .f32) (X4 : FVec Ideal S4x1x1024 .f32) (r : Fin 2048) (l : Fin 1024) : EReal :=
  Norm.dx K (row X2 r) (gain X4 0) (dh X0 X1 r) l + X3 (ix2 r l)
/-- The gradient of the gain. -/
def DG (X0 : FVec Ideal S2048x1024 .f32) (X1 : FVec Ideal S1024x1024 .f32) (X2 : FVec Ideal S2048x1024 .f32) (l : Fin 1024) : EReal := ∑ r, Norm.dg K (row X2 r) (dh X0 X1 r) l

theorem row_x (t : Fin cfg0.N) (r : Fin 512) : row (iblk m c 2 t : FVec Ideal S512x1024 .f32) r = row (A2 m c) (gr t r) := funext fun l => blk2 m c t r l
theorem gain_x (t : Fin cfg0.N) : gain (iblk m c 4 t : FVec Ideal S1x1x1024 .f32) 0 = gain (A4 m c) 0 := funext fun l => blk4 m c t l
theorem dh_blk (t : Fin cfg0.N) (r : Fin 512) :
    (fun l => pr (iblk m c 0 t : FVec Ideal S512x1024 .bf16) (iblk m c 1 t : FVec Ideal S1024x1024 .bf16) r l)
      = dh (A0 m c) (A1 m c) (gr t r) := by
  funext l
  simp only [dh, pr, blk0, blk1]

theorem stepg_A (t : Fin cfg0.N) (h : t.val % 4 = 0) (l : Fin 1024) : (outsAt0 m c t.val t.isLt).2 (ix2 0 l) = 0 + ∑ r, Norm.dg K (row (A2 m c) (gr t r)) (dh (A0 m c) (A1 m c) (gr t r)) l := by
  have e := out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 1 t) (iblk m c 2 t) (iblk m c 3 t) (iblk m c 4 t) l
  simp only [row_x, dh_blk] at e
  rw [outsAt0_A m c t h]
  dsimp only
  exact e
theorem stepg_B (t : Fin cfg0.N) (h : ¬t.val % 4 = 0) (l : Fin 1024) : (outsAt0 m c t.val t.isLt).2 (ix2 0 l) = (outsAt0 m c (t.val - 1) (Nat.lt_of_le_of_lt (Nat.sub_le _ _) t.isLt)).2 (ix2 0 l) + ∑ r, Norm.dg K (row (A2 m c) (gr t r)) (dh (A0 m c) (A1 m c) (gr t r)) l := by
  have e := out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h' => h ((hcond0_0 t).mp h')) (iblk m c 0 t) (iblk m c 1 t) (iblk m c 2 t) (iblk m c 3 t) (iblk m c 4 t) (outsAt0 m c (t.val - 1) (Nat.lt_of_le_of_lt (Nat.sub_le _ _) t.isLt)).2 l
  simp only [row_x, dh_blk] at e
  rw [outsAt0_B m c t h]
  dsimp only
  exact e
theorem stepx (t : Fin cfg0.N) (r : Fin 512) (l : Fin 1024) : (outsAt0 m c t.val t.isLt).1 (ix2 r l) = DX (A0 m c) (A1 m c) (A2 m c) (A3 m c) (A4 m c) (gr t r) l := by
  by_cases h : t.val % 4 = 0
  · have e := out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 1 t) (iblk m c 2 t) (iblk m c 3 t) (iblk m c 4 t) r l
    simp only [row_x, dh_blk, gain_x, blk3] at e
    rw [outsAt0_A m c t h]
    dsimp only
    exact e
  · have e := out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h' => h ((hcond0_0 t).mp h')) (iblk m c 0 t) (iblk m c 1 t) (iblk m c 2 t) (iblk m c 3 t) (iblk m c 4 t) (outsAt0 m c (t.val - 1) (Nat.lt_of_le_of_lt (Nat.sub_le _ _) t.isLt)).2 r l
    simp only [row_x, dh_blk, gain_x, blk3] at e
    rw [outsAt0_B m c t h]
    dsimp only
    exact e

/-- The rows of the 4 points are the 2048 rows. -/
theorem sum_pts (f : Fin 2048 → EReal) : ∑ t : Fin cfg0.N, ∑ r : Fin 512, f (gr t r) = ∑ r, f r :=
  Fin.sum_mul_add_congr (fun s k hl => rfl) (show 2048 = grid0.N * 512 by rw [N_0])

theorem end_g : (dats m 0 c).arrAt 6 cfg0.N = fun y : S1x1024.Idx => DG (A0 m c) (A1 m c) (A2 m c) (y 1) := by
  refine (dats m 0 c).arrAt_eq_of_after_last 6 t0_3 (by decide +kernel) _ fun y => ?_
  blk_simp
  rw [after0_6, Pipeline.eq_sum_fin_of_reset_step_apply_last (fun n h => (outsAt0 m c n h).2) 4 (fun _ => 0)
    (fun t (y : S1x1024.Idx) => ∑ r, Norm.dg K (row (A2 m c) (gr t r)) (dh (A0 m c) (A1 m c) (gr t r)) (y 1))
    (fun t h y => by idx_vars y; obtain rfl : y0 = 0 := Subsingleton.elim _ _; exact stepg_A m c t h y1)
    (fun t h y => by idx_vars y; obtain rfl : y0 = 0 := Subsingleton.elim _ _; exact stepg_B m c t h y1) (le_of_eq N_0) t0_3 rfl, zero_add]
  exact sum_pts fun r => Norm.dg K (row (A2 m c) r) (dh (A0 m c) (A1 m c) r) _

theorem end_x : (dats m 0 c).arrAt 5 cfg0.N = fun y : S2048x1024.Idx => DX (A0 m c) (A1 m c) (A2 m c) (A3 m c) (A4 m c) (y 0) (y 1) := by
  refine (dats m 0 c).arrAt_eq_of_covers 5 _ (by decide +kernel) fun t hf y => ?_
  blk_simp
  rw [after0_5]
  idx_vars y
  have e0 : ((cfg0.win 5).blk t).view.emb (ix2 y0 y1) 0 = gr t y0 := Fin.ext (by blk_simp [idx_val t])
  have e1 : ((cfg0.win 5).blk t).view.emb (ix2 y0 y1) 1 = y1 := Fin.ext (by blk_simp [idx_val t])
  rw [e0, e1]
  exact stepx m c t y0 y1

section
open Cert.Reference13Ideal.Read
variable (X0 : FVec Ideal S2048x1024 .f32) (X1 : FVec Ideal S1024x1024 .f32) (X2 : FVec Ideal S2048x1024 .f32) (X3 : FVec Ideal S2048x1024 .f32) (X4 : FVec Ideal S4x1x1024 .f32)

theorem ref_dh (r : Fin 2048) (l : Fin 1024) : val_main_v18 (F := Ideal) X0 X1 (ix2 r l) = dh X0 X1 r l := by
  pointwise [val_main_v18, dh]
theorem ref_var (r : Fin 2048) : val_main_v8 (F := Ideal) X2 (ix2 r 0) = Norm.var K (row X2 r) := by
  pointwise [val_main_v2, val_main_cst, val_main_v3, val_main_v4, val_main_cst_0, val_main_v5, val_main_v6, val_main_cst_1, val_main_v7, val_main_v8, Norm.var, row]
theorem ref_inv (r : Fin 2048) : val_main_v9 (F := Ideal) X2 (ix2 r 0) = Norm.inv K (row X2 r) := by
  pointwise [val_main_v9, ref_var, Norm.inv]
theorem ref_slope (r : Fin 2048) : val_main_v12 (F := Ideal) X2 (ix2 r 0) = Norm.slope K (row X2 r) := by
  pointwise [val_main_v10, val_main_cst_2, val_main_v11, val_main_v12, ref_var, ref_inv, Norm.slope]
theorem ref_dg (l : Fin 1024) : val_main_v21 (F := Ideal) X0 X1 X2 (ix2 0 l) = DG X0 X1 X2 l := by
  pointwise [val_main_v19, val_main_cst_3, val_main_v20, val_main_v21, val_main_v13, val_main_v14, ref_inv, ref_dh, DG, Norm.dg]
theorem ref_dhg (r : Fin 2048) (l : Fin 1024) : val_main_v23 (F := Ideal) X0 X1 X4 (ix2 r l) = dh X0 X1 r l * gain X4 0 l := by
  pointwise [val_main_v22, val_main_v23, val_main_v0, val_main_v1, ref_dh, gain]
theorem ref_coef (r : Fin 2048) (l : Fin 1024) : val_main_v34 (F := Ideal) X0 X1 X2 X4 (ix2 r l) = Norm.coef K (row X2 r) (gain X4 0) (dh X0 X1 r) := by
  pointwise [val_main_v24, val_main_cst_4, val_main_v25, val_main_v26, val_main_v27, val_main_v28, val_main_v29, val_main_v30, val_main_cst_5, val_main_v31, val_main_v32, val_main_cst_6, val_main_v33, val_main_v34, ref_dhg, ref_slope, Norm.coef]
  simp only [Fin.sum_univ_one, ref_slope]
theorem ref_dx (r : Fin 2048) (l : Fin 1024) : val_main_v38 (F := Ideal) X0 X1 X2 X3 X4 (ix2 r l) = DX X0 X1 X2 X3 X4 r l := by
  pointwise [val_main_v24, val_main_cst_4, val_main_v25, val_main_v26, val_main_v27, val_main_v28, val_main_v29, val_main_v35, val_main_v36, val_main_v37, val_main_v38, ref_coef, ref_dhg, ref_inv, DX, Norm.dx]
  simp only [row]
  ac_rfl
end

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)
theorem preserves : Cert.preserves_Kernel13_Kernel13Ideal := trivial

theorem algebraic : Cert.algebraic_Kernel13Ideal_Reference13Ideal := by
  intro m g m' g' _ hag
  refine ⟨fun c => (dats m 0 c).arrAt 5 cfg0.N, fun c => (dats m 0 c).arrAt 6 cfg0.N, Value.run_blocks m g,
    (θ_run Cert.Reference13Ideal.defs _ _).mono (fun r h c => ?_) (Cert.Reference13Ideal.Value.run (F := Ideal) m' g')⟩
  obtain ⟨a0, a1, a2, a3, a4⟩ := hag c
  obtain ⟨e1, e2, k⟩ := h c
  refine ⟨e1.trans ?_, e2.trans ?_, k⟩
  · rw [Cert.Reference13Ideal.Read.val_main_v38_eq, a0, a1, a2, a3, a4]
    refine Eq.trans (funext fun y => ?_) (end_x m c).symm
    idx_vars y
    exact ref_dx _ _ _ _ _ y0 y1
  · rw [Cert.Reference13Ideal.Read.val_main_v21_eq, a0, a1, a2]
    refine Eq.trans (funext fun y => ?_) (end_g m c).symm
    idx_vars y
    obtain rfl : y0 = 0 := Subsingleton.elim _ _
    exact ref_dg _ _ _ y1

end Cert.MqH
end
-- ==== Proof.UpG.lean ====
/- Hand-written: the gate half of the feed-forward's first product. -/
module

public import proofs.«01_k».proof.Defs
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.UpG

open Cert.Kernel14Ideal Cert.Kernel14Ideal.Gen

/-- The product at an index. -/
def G (X : FVec Ideal S2048x1024 .f32) (W : FVec Ideal S1024x2816 .f32) (r : Fin 2048) (j : Fin 2816) : EReal := ∑ k, X (ix2 r k) * W (ix2 k j)

theorem body (b0 : FVec Ideal S2048x1024 .bf16) (b1 : FVec Ideal S1024x256 .bf16) (r : Fin 2048) (j : Fin 256) :
    out0_2 (F := Ideal) b0 b1 (ix2 r j) = ∑ k, b0 (ix2 r k) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S1024x2816 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 2048) : Fin 2048 := r
/-- Column `j` of the result's block at point `t`. -/
abbrev gj (t : Fin cfg0.N) (j : Fin 256) : Fin 2816 := ⟨t.val * 256 + j.val, by have := N_0; have := t.isLt; change t.val < grid0.N at this; omega⟩

theorem blk0 (t : Fin cfg0.N) (r : Fin 2048) (l : Fin 1024) : (iblk m c 0 t : FVec Ideal S2048x1024 .bf16) (ix2 r l) = A0 m c (ix2 (gi t r) l) := by
  blk_point [iblk, V, idx_val t]
theorem blk1 (t : Fin cfg0.N) (r : Fin 1024) (l : Fin 256) : (iblk m c 1 t : FVec Ideal S1024x256 .bf16) (ix2 r l) = A1 m c (ix2 r (gj t l)) := by
  blk_point [iblk, V, idx_val t]

theorem point (t : Fin cfg0.N) (r : Fin 2048) (j : Fin 256) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S2048x2816.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S1024x2816 .f32) (r : Fin 2048) (j : Fin 2816) :
    Cert.Reference14Ideal.Read.val_main_v0 (F := Ideal) x0 x1 (ix2 r j) = G x0 x1 r j := by
  pointwise [Cert.Reference14Ideal.Read.val_main_v0, G]

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
theorem preserves : Cert.preserves_Kernel14_Kernel14Ideal := trivial

theorem algebraic : Cert.algebraic_Kernel14Ideal_Reference14Ideal := by
  intro m g m' g' _ hag
  refine ⟨fun c => (dats m 0 c).arrAt 2 cfg0.N, Value.run_blocks m g,
    (θ_run Cert.Reference14Ideal.defs _ _).mono (fun r h c => ?_) (Cert.Reference14Ideal.Value.run (F := Ideal) m' g')⟩
  obtain ⟨a0, a1⟩ := hag c
  obtain ⟨e, k⟩ := h c
  refine ⟨e.trans ?_, k⟩
  refine (Cert.Reference14Ideal.Read.val_main_v0_eq _ _).trans ?_
  rw [a0, a1]
  refine Eq.trans (funext fun y => ?_) (final m c).symm
  idx_vars y
  exact ref _ _ y0 y1

end Cert.UpG
end
-- ==== Proof.OutF.lean ====
/- Hand-written: the output projection added to the stream and the normalisation of the sum. -/
module

public import proofs.«01_k».proof.Defs
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Pipeline.ValueKit
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.OutF

open Cert.Kernel15Ideal Cert.Kernel15Ideal.Gen

/-- The stream with the product added, at an index. -/
abbrev S {a k : Nat} (X : (⟨2, ![a, k]⟩ : Shape).Idx → EReal) (W : (⟨2, ![k, 1024]⟩ : Shape).Idx → EReal) (R : (⟨2, ![a, 1024]⟩ : Shape).Idx → EReal)
    (r : Fin a) (l : Fin 1024) : EReal := ∑ q, X (ix2 r q) * W (ix2 q l) + R (ix2 r l)
/-- One gain of the stack. -/
abbrev gain {a : Nat} (g : (⟨3, ![a, 1, 1024]⟩ : Shape).Idx → EReal) (z : Fin a) : Fin 1024 → EReal := fun l => g (ix3 z 0 l)

theorem out_4 (b0 : FVec Ideal S512x2048 .bf16) (b1 : FVec Ideal S2048x1024 .bf16) (b2 : FVec Ideal S512x1024 .f32) (b3 : FVec Ideal S1x1x1024 .f32) (r : Fin 512) (l : Fin 1024) :
    out0_4 (F := Ideal) b0 b1 b2 b3 (ix2 r l) = S b0 b1 b2 r l := by
  frame_out
  open_payloads
  pointwise [S]

theorem out_5 (b0 : FVec Ideal S512x2048 .bf16) (b1 : FVec Ideal S2048x1024 .bf16) (b2 : FVec Ideal S512x1024 .f32) (b3 : FVec Ideal S1x1x1024 .f32) (r : Fin 512) (l : Fin 1024) :
    out0_5 (F := Ideal) b0 b1 b2 b3 (ix2 r l) = Norm.out 0x44800000#32 (S b0 b1 b2 r) (gain b3 0) l := by
  frame_out
  open_payloads
  pointwise [S, gain, Norm.out, Norm.inv, Norm.var]

variable (m : (ℓ : Loc nD τ sig) → Buf (Elt Ideal) ℓ) (c : Dev nD)

abbrev A0 : FVec Ideal S2048x2048 .f32 := m ((c.tc : Thread nD τ).loc main_arg0)
abbrev A1 : FVec Ideal S2048x1024 .f32 := m ((c.tc : Thread nD τ).loc main_arg1)
abbrev A2 : FVec Ideal S2048x1024 .f32 := m ((c.tc : Thread nD τ).loc main_arg2)
abbrev A3 : FVec Ideal S4x1x1024 .f32 := m ((c.tc : Thread nD τ).loc main_arg3)

theorem idx_val : ∀ t : Fin cfg0.N, win0_0.index t = ![t.val, 0] ∧ win0_1.index t = ![0, 0] ∧ win0_2.index t = ![t.val, 0] ∧ win0_3.index t = ![0, 0, 0]
    ∧ win0_4.index t = ![t.val, 0] ∧ win0_5.index t = ![t.val, 0] :=
  (by decide +kernel : ∀ t : Fin grid0.N, _)

/-- Row `r` of point `t`. -/
abbrev gr (t : Fin cfg0.N) (r : Fin 512) : Fin 2048 := ⟨t.val * 512 + r.val, by have := N_0; have := t.isLt; change t.val < grid0.N at this; omega⟩

theorem blk0 (t : Fin cfg0.N) (r : Fin 512) (l : Fin 2048) : (iblk m c 0 t : FVec Ideal S512x2048 .bf16) (ix2 r l) = A0 m c (ix2 (gr t r) l) := by
  blk_point [iblk, V, idx_val t]
theorem blk1 (t : Fin cfg0.N) (r : Fin 2048) (l : Fin 1024) : (iblk m c 1 t : FVec Ideal S2048x1024 .bf16) (ix2 r l) = A1 m c (ix2 r l) := by
  blk_point [iblk, V, idx_val t]
theorem blk2 (t : Fin cfg0.N) (r : Fin 512) (l : Fin 1024) : (iblk m c 2 t : FVec Ideal S512x1024 .f32) (ix2 r l) = A2 m c (ix2 (gr t r) l) := by
  blk_point [iblk, V, idx_val t]
theorem blk3 (t : Fin cfg0.N) (l : Fin 1024) : (iblk m c 3 t : FVec Ideal S1x1x1024 .f32) (ix3 0 0 l) = A3 m c (ix3 0 0 l) := by
  blk_point [iblk, V, idx_val t]

theorem S_blk (t : Fin cfg0.N) (r : Fin 512) :
    S (iblk m c 0 t : FVec Ideal S512x2048 .bf16) (iblk m c 1 t : FVec Ideal S2048x1024 .bf16) (iblk m c 2 t : FVec Ideal S512x1024 .f32) r = S (A0 m c) (A1 m c) (A2 m c) (gr t r) := by
  funext l
  simp only [S, blk0, blk1, blk2]
theorem gain_blk (t : Fin cfg0.N) : gain (iblk m c 3 t : FVec Ideal S1x1x1024 .f32) 0 = gain (A3 m c) 0 := funext fun l => blk3 m c t l

/-- The second result at an index. -/
def G (X0 : FVec Ideal S2048x2048 .f32) (X1 : FVec Ideal S2048x1024 .f32) (X2 : FVec Ideal S2048x1024 .f32) (X3 : FVec Ideal S4x1x1024 .f32) (r : Fin 2048) (l : Fin 1024) : EReal :=
  Norm.out 0x44800000#32 (S X0 X1 X2 r) (gain X3 0) l

theorem end4 : (dats m 0 c).arrAt 4 cfg0.N = fun y : S2048x1024.Idx => S (A0 m c) (A1 m c) (A2 m c) (y 0) (y 1) := by
  refine (dats m 0 c).arrAt_eq_of_covers 4 _ (by decide +kernel) fun t hf y => ?_
  blk_simp
  rw [after0_4]
  idx_vars y
  have e0 : ((cfg0.win 4).blk t).view.emb (ix2 y0 y1) 0 = gr t y0 := Fin.ext (by blk_simp [idx_val t])
  have e1 : ((cfg0.win 4).blk t).view.emb (ix2 y0 y1) 1 = y1 := Fin.ext (by blk_simp [idx_val t])
  rw [e0, e1]
  exact (out_4 _ _ _ _ y0 y1).trans (congrFun (S_blk m c t y0) y1)

theorem end5 : (dats m 0 c).arrAt 5 cfg0.N = fun y : S2048x1024.Idx => G (A0 m c) (A1 m c) (A2 m c) (A3 m c) (y 0) (y 1) := by
  refine (dats m 0 c).arrAt_eq_of_covers 5 _ (by decide +kernel) fun t hf y => ?_
  blk_simp
  rw [after0_5]
  idx_vars y
  have e0 : ((cfg0.win 5).blk t).view.emb (ix2 y0 y1) 0 = gr t y0 := Fin.ext (by blk_simp [idx_val t])
  have e1 : ((cfg0.win 5).blk t).view.emb (ix2 y0 y1) 1 = y1 := Fin.ext (by blk_simp [idx_val t])
  rw [e0, e1]
  refine (out_5 _ _ _ _ y0 y1).trans ?_
  rw [S_blk, gain_blk]
  rfl

section
open Cert.Reference15Ideal.Read
variable (X0 : FVec Ideal S2048x2048 .f32) (X1 : FVec Ideal S2048x1024 .f32) (X2 : FVec Ideal S2048x1024 .f32) (X3 : FVec Ideal S4x1x1024 .f32)

theorem ref4 (r : Fin 2048) (l : Fin 1024) : val_main_v1 (F := Ideal) X0 X1 X2 (ix2 r l) = S X0 X1 X2 r l := by
  pointwise [val_main_v1, val_main_v0, S]
  exact add_comm _ _
theorem ref_inv (r : Fin 2048) : val_main_v11 (F := Ideal) X0 X1 X2 (ix2 r 0) = Norm.inv 0x44800000#32 (S X0 X1 X2 r) := by
  pointwise [val_main_v11, val_main_v10, val_main_v9, val_main_cst_1, val_main_v8, val_main_v7, val_main_cst_0, val_main_v6, val_main_v5, val_main_cst, val_main_v4, ref4, Norm.inv, Norm.var]
theorem ref5 (r : Fin 2048) (l : Fin 1024) : val_main_v16 (F := Ideal) X0 X1 X2 X3 (ix2 r l) = G X0 X1 X2 X3 r l := by
  pointwise [val_main_v16, val_main_v15, val_main_v14, val_main_v13, val_main_v12, val_main_v3, val_main_v2, ref4, ref_inv, G, Norm.out, gain]
end

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)
theorem preserves : Cert.preserves_Kernel15_Kernel15Ideal := trivial

theorem algebraic : Cert.algebraic_Kernel15Ideal_Reference15Ideal := by
  intro m g m' g' _ hag
  refine ⟨fun c => (dats m 0 c).arrAt 4 cfg0.N, fun c => (dats m 0 c).arrAt 5 cfg0.N, Value.run_blocks m g,
    (θ_run Cert.Reference15Ideal.defs _ _).mono (fun r h c => ?_) (Cert.Reference15Ideal.Value.run (F := Ideal) m' g')⟩
  obtain ⟨a0, a1, a2, a3⟩ := hag c
  obtain ⟨e1, e2, k⟩ := h c
  refine ⟨e1.trans ?_, e2.trans ?_, k⟩
  · rw [Cert.Reference15Ideal.Read.val_main_v1_eq, a0, a1, a2]
    refine Eq.trans (funext fun y => ?_) (end4 m c).symm
    idx_vars y
    exact ref4 _ _ _ y0 y1
  · rw [Cert.Reference15Ideal.Read.val_main_v16_eq, a0, a1, a2, a3]
    refine Eq.trans (funext fun y => ?_) (end5 m c).symm
    idx_vars y
    exact ref5 _ _ _ _ y0 y1

end Cert.OutF
end
-- ==== Proof.MoF.lean ====
/- Hand-written: the memory's output projection added to the stream and the normalisation of the sum. -/
module

public import proofs.«01_k».proof.Defs
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ValueKit
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.MoF

open Cert.Kernel16Ideal Cert.Kernel16Ideal.Gen

/-- The stream with the product added, at an index. -/
abbrev S {a k : Nat} (X : (⟨2, ![a, k]⟩ : Shape).Idx → EReal) (W : (⟨2, ![k, 1024]⟩ : Shape).Idx → EReal) (R : (⟨2, ![a, 1024]⟩ : Shape).Idx → EReal)
    (r : Fin a) (l : Fin 1024) : EReal := ∑ q, X (ix2 r q) * W (ix2 q l) + R (ix2 r l)
/-- One gain of the stack. -/
abbrev gain {a : Nat} (g : (⟨3, ![a, 1, 1024]⟩ : Shape).Idx → EReal) (z : Fin a) : Fin 1024 → EReal := fun l => g (ix3 z 0 l)

theorem out_4 (b0 : FVec Ideal S512x1024 .bf16) (b1 : FVec Ideal S1024x1024 .bf16) (b2 : FVec Ideal S512x1024 .f32) (b3 : FVec Ideal S1x1x1024 .f32) (r : Fin 512) (l : Fin 1024) :
    out0_4 (F := Ideal) b0 b1 b2 b3 (ix2 r l) = S b0 b1 b2 r l := by
  frame_out
  open_payloads
  pointwise [S]

theorem out_5 (b0 : FVec Ideal S512x1024 .bf16) (b1 : FVec Ideal S1024x1024 .bf16) (b2 : FVec Ideal S512x1024 .f32) (b3 : FVec Ideal S1x1x1024 .f32) (r : Fin 512) (l : Fin 1024) :
    out0_5 (F := Ideal) b0 b1 b2 b3 (ix2 r l) = Norm.out 0x44800000#32 (S b0 b1 b2 r) (gain b3 0) l := by
  frame_out
  open_payloads
  pointwise [S, gain, Norm.out, Norm.inv, Norm.var]

variable (m : (ℓ : Loc nD τ sig) → Buf (Elt Ideal) ℓ) (c : Dev nD)

abbrev A0 : FVec Ideal S2048x1024 .f32 := m ((c.tc : Thread nD τ).loc main_arg0)
abbrev A1 : FVec Ideal S1024x1024 .f32 := m ((c.tc : Thread nD τ).loc main_arg1)
abbrev A2 : FVec Ideal S2048x1024 .f32 := m ((c.tc : Thread nD τ).loc main_arg2)
abbrev A3 : FVec Ideal S4x1x1024 .f32 := m ((c.tc : Thread nD τ).loc main_arg3)

theorem idx_val : ∀ t : Fin cfg0.N, win0_0.index t = ![t.val, 0] ∧ win0_1.index t = ![0, 0] ∧ win0_2.index t = ![t.val, 0] ∧ win0_3.index t = ![0, 0, 0]
    ∧ win0_4.index t = ![t.val, 0] ∧ win0_5.index t = ![t.val, 0] :=
  (by decide +kernel : ∀ t : Fin grid0.N, _)

/-- Row `r` of point `t`. -/
abbrev gr (t : Fin cfg0.N) (r : Fin 512) : Fin 2048 := ⟨t.val * 512 + r.val, by have := N_0; have := t.isLt; change t.val < grid0.N at this; omega⟩

theorem blk0 (t : Fin cfg0.N) (r : Fin 512) (l : Fin 1024) : (iblk m c 0 t : FVec Ideal S512x1024 .bf16) (ix2 r l) = A0 m c (ix2 (gr t r) l) := by
  blk_point [iblk, V, idx_val t]
theorem blk1 (t : Fin cfg0.N) (r : Fin 1024) (l : Fin 1024) : (iblk m c 1 t : FVec Ideal S1024x1024 .bf16) (ix2 r l) = A1 m c (ix2 r l) := by
  blk_point [iblk, V, idx_val t]
theorem blk2 (t : Fin cfg0.N) (r : Fin 512) (l : Fin 1024) : (iblk m c 2 t : FVec Ideal S512x1024 .f32) (ix2 r l) = A2 m c (ix2 (gr t r) l) := by
  blk_point [iblk, V, idx_val t]
theorem blk3 (t : Fin cfg0.N) (l : Fin 1024) : (iblk m c 3 t : FVec Ideal S1x1x1024 .f32) (ix3 0 0 l) = A3 m c (ix3 0 0 l) := by
  blk_point [iblk, V, idx_val t]

theorem S_blk (t : Fin cfg0.N) (r : Fin 512) :
    S (iblk m c 0 t : FVec Ideal S512x1024 .bf16) (iblk m c 1 t : FVec Ideal S1024x1024 .bf16) (iblk m c 2 t : FVec Ideal S512x1024 .f32) r = S (A0 m c) (A1 m c) (A2 m c) (gr t r) := by
  funext l
  simp only [S, blk0, blk1, blk2]
theorem gain_blk (t : Fin cfg0.N) : gain (iblk m c 3 t : FVec Ideal S1x1x1024 .f32) 0 = gain (A3 m c) 0 := funext fun l => blk3 m c t l

/-- The second result at an index. -/
def G (X0 : FVec Ideal S2048x1024 .f32) (X1 : FVec Ideal S1024x1024 .f32) (X2 : FVec Ideal S2048x1024 .f32) (X3 : FVec Ideal S4x1x1024 .f32) (r : Fin 2048) (l : Fin 1024) : EReal :=
  Norm.out 0x44800000#32 (S X0 X1 X2 r) (gain X3 0) l

theorem end4 : (dats m 0 c).arrAt 4 cfg0.N = fun y : S2048x1024.Idx => S (A0 m c) (A1 m c) (A2 m c) (y 0) (y 1) := by
  refine (dats m 0 c).arrAt_eq_of_covers 4 _ (by decide +kernel) fun t hf y => ?_
  blk_simp
  rw [after0_4]
  idx_vars y
  have e0 : ((cfg0.win 4).blk t).view.emb (ix2 y0 y1) 0 = gr t y0 := Fin.ext (by blk_simp [idx_val t])
  have e1 : ((cfg0.win 4).blk t).view.emb (ix2 y0 y1) 1 = y1 := Fin.ext (by blk_simp [idx_val t])
  rw [e0, e1]
  exact (out_4 _ _ _ _ y0 y1).trans (congrFun (S_blk m c t y0) y1)

theorem end5 : (dats m 0 c).arrAt 5 cfg0.N = fun y : S2048x1024.Idx => G (A0 m c) (A1 m c) (A2 m c) (A3 m c) (y 0) (y 1) := by
  refine (dats m 0 c).arrAt_eq_of_covers 5 _ (by decide +kernel) fun t hf y => ?_
  blk_simp
  rw [after0_5]
  idx_vars y
  have e0 : ((cfg0.win 5).blk t).view.emb (ix2 y0 y1) 0 = gr t y0 := Fin.ext (by blk_simp [idx_val t])
  have e1 : ((cfg0.win 5).blk t).view.emb (ix2 y0 y1) 1 = y1 := Fin.ext (by blk_simp [idx_val t])
  rw [e0, e1]
  refine (out_5 _ _ _ _ y0 y1).trans ?_
  rw [S_blk, gain_blk]
  rfl

section
open Cert.Reference16Ideal.Read
variable (X0 : FVec Ideal S2048x1024 .f32) (X1 : FVec Ideal S1024x1024 .f32) (X2 : FVec Ideal S2048x1024 .f32) (X3 : FVec Ideal S4x1x1024 .f32)

theorem ref4 (r : Fin 2048) (l : Fin 1024) : val_main_v1 (F := Ideal) X0 X1 X2 (ix2 r l) = S X0 X1 X2 r l := by
  pointwise [val_main_v1, val_main_v0, S]
  exact add_comm _ _
theorem ref_inv (r : Fin 2048) : val_main_v11 (F := Ideal) X0 X1 X2 (ix2 r 0) = Norm.inv 0x44800000#32 (S X0 X1 X2 r) := by
  pointwise [val_main_v11, val_main_v10, val_main_v9, val_main_cst_1, val_main_v8, val_main_v7, val_main_cst_0, val_main_v6, val_main_v5, val_main_cst, val_main_v4, ref4, Norm.inv, Norm.var]
theorem ref5 (r : Fin 2048) (l : Fin 1024) : val_main_v16 (F := Ideal) X0 X1 X2 X3 (ix2 r l) = G X0 X1 X2 X3 r l := by
  pointwise [val_main_v16, val_main_v15, val_main_v14, val_main_v13, val_main_v12, val_main_v3, val_main_v2, ref4, ref_inv, G, Norm.out, gain]
end

theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)
theorem preserves : Cert.preserves_Kernel16_Kernel16Ideal := trivial

theorem algebraic : Cert.algebraic_Kernel16Ideal_Reference16Ideal := by
  intro m g m' g' _ hag
  refine ⟨fun c => (dats m 0 c).arrAt 4 cfg0.N, fun c => (dats m 0 c).arrAt 5 cfg0.N, Value.run_blocks m g,
    (θ_run Cert.Reference16Ideal.defs _ _).mono (fun r h c => ?_) (Cert.Reference16Ideal.Value.run (F := Ideal) m' g')⟩
  obtain ⟨a0, a1, a2, a3⟩ := hag c
  obtain ⟨e1, e2, k⟩ := h c
  refine ⟨e1.trans ?_, e2.trans ?_, k⟩
  · rw [Cert.Reference16Ideal.Read.val_main_v1_eq, a0, a1, a2]
    refine Eq.trans (funext fun y => ?_) (end4 m c).symm
    idx_vars y
    exact ref4 _ _ _ y0 y1
  · rw [Cert.Reference16Ideal.Read.val_main_v16_eq, a0, a1, a2, a3]
    refine Eq.trans (funext fun y => ?_) (end5 m c).symm
    idx_vars y
    exact ref5 _ _ _ _ y0 y1

end Cert.MoF
end
-- ==== Proof.DownF.lean ====
/- Hand-written: the feed-forward's second product added to the stream and the normalisation of the sum by the next layer's gain. -/
module

public import proofs.«01_k».proof.Defs
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pipeline.ValueKit
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.DownF

open Cert.Kernel17Ideal Cert.Kernel17Ideal.Gen

/-- The stream with the product added, at an index. -/
abbrev S {a k : Nat} (X : (⟨2, ![a, k]⟩ : Shape).Idx → EReal) (W : (⟨2, ![k, 1024]⟩ : Shape).Idx → EReal) (R : (⟨2, ![a, 1024]⟩ : Shape).Idx → EReal)
    (r : Fin a) (l : Fin 1024) : EReal := ∑ q, X (ix2 r q) * W (ix2 q l) + R (ix2 r l)
/-- One gain of the stack. -/
abbrev gain {a : Nat} (g : (⟨3, ![a, 1, 1024]⟩ : Shape).Idx → EReal) (z : Fin a) : Fin 1024 → EReal := fun l => g (ix3 z 0 l)

theorem out_4 (b0 : FVec Ideal S512x2816 .bf16) (b1 : FVec Ideal S2816x1024 .bf16) (b2 : FVec Ideal S512x1024 .f32) (b3 : FVec Ideal S1x1x1024 .f32) (r : Fin 512) (l : Fin 1024) :
    out0_4 (F := Ideal) b0 b1 b2 b3 (ix2 r l) = S b0 b1 b2 r l := by
  frame_out
  open_payloads
  pointwise [S]

theorem out_5 (b0 : FVec Ideal S512x2816 .bf16) (b1 : FVec Ideal S2816x1024 .bf16) (b2 : FVec Ideal S512x1024 .f32) (b3 : FVec Ideal S1x1x1024 .f32) (r : Fin 512) (l : Fin 1024) :
    out0_5 (F := Ideal) b0 b1 b2 b3 (ix2 r l) = Norm.out 0x44800000#32 (S b0 b1 b2 r) (gain b3 0) l := by
  frame_out
  open_payloads
  pointwise [S, gain, Norm.out, Norm.inv, Norm.var]

variable (m : (ℓ : Loc nD τ sig) → Buf (Elt Ideal) ℓ) (c : Dev nD)

abbrev A0 : FVec Ideal S2048x2816 .f32 := m ((c.tc : Thread nD τ).loc main_arg0)
abbrev A1 : FVec Ideal S2816x1024 .f32 := m ((c.tc : Thread nD τ).loc main_arg1)
abbrev A2 : FVec Ideal S2048x1024 .f32 := m ((c.tc : Thread nD τ).loc main_arg2)
abbrev A3 : FVec Ideal S4x1x1024 .f32 := m ((c.tc : Thread nD τ).loc main_arg3)

theorem idx_val : ∀ t : Fin cfg0.N, win0_0.index t = ![t.val, 0] ∧ win0_1.index t = ![0, 0] ∧ win0_2.index t = ![t.val, 0] ∧ win0_3.index t = ![1, 0, 0]
    ∧ win0_4.index t = ![t.val, 0] ∧ win0_5.index t = ![t.val, 0] :=
  (by decide +kernel : ∀ t : Fin grid0.N, _)

/-- Row `r` of point `t`. -/
abbrev gr (t : Fin cfg0.N) (r : Fin 512) : Fin 2048 := ⟨t.val * 512 + r.val, by have := N_0; have := t.isLt; change t.val < grid0.N at this; omega⟩

theorem blk0 (t : Fin cfg0.N) (r : Fin 512) (l : Fin 2816) : (iblk m c 0 t : FVec Ideal S512x2816 .bf16) (ix2 r l) = A0 m c (ix2 (gr t r) l) := by
  blk_point [iblk, V, idx_val t]
theorem blk1 (t : Fin cfg0.N) (r : Fin 2816) (l : Fin 1024) : (iblk m c 1 t : FVec Ideal S2816x1024 .bf16) (ix2 r l) = A1 m c (ix2 r l) := by
  blk_point [iblk, V, idx_val t]
theorem blk2 (t : Fin cfg0.N) (r : Fin 512) (l : Fin 1024) : (iblk m c 2 t : FVec Ideal S512x1024 .f32) (ix2 r l) = A2 m c (ix2 (gr t r) l) := by
  blk_point [iblk, V, idx_val t]
theorem blk3 (t : Fin cfg0.N) (l : Fin 1024) : (iblk m c 3 t : FVec Ideal S1x1x1024 .f32) (ix3 0 0 l) = A3 m c (ix3 1 0 l) := by
  blk_point [iblk, V, idx_val t]

theorem S_blk (t : Fin cfg0.N) (r : Fin 512) :
    S (iblk m c 0 t : FVec Ideal S512x2816 .bf16) (iblk m c 1 t : FVec Ideal S2816x1024 .bf16) (iblk m c 2 t : FVec Ideal S512x1024 .f32) r = S (A0 m c) (A1 m c) (A2 m c) (gr t r) := by
  funext l
  simp only [S, blk0, blk1, blk2]
theorem gain_blk (t : Fin cfg0.N) : gain (iblk m c 3 t : FVec Ideal S1x1x1024 .f32) 0 = gain (A3 m c) 1 := funext fun l => blk3 m c t l

/-- The second result at an index. -/
def G (X0 : FVec Ideal S2048x2816 .f32) (X1 : FVec Ideal S2816x1024 .f32) (X2 : FVec Ideal S2048x1024 .f32) (X3 : FVec Ideal S4x1x1024 .f32) (r : Fin 2048) (l : Fin 1024) : EReal :=
  Norm.out 0x44800000#32 (S X0 X1 X2 r) (gain X3 1) l

theorem end4 : (dats m 0 c).arrAt 4 cfg0.N = fun y : S2048x1024.Idx => S (A0 m c) (A1 m c) (A2 m c) (y 0) (y 1) := by
  refine (dats m 0 c).arrAt_eq_of_covers 4 _ (by decide +kernel) fun t hf y => ?_
  blk_simp
  rw [after0_4]
  idx_vars y
  have e0 : ((cfg0.win 4).blk t).view.emb (ix2 y0 y1) 0 = gr t y0 := Fin.ext (by blk_simp [idx_val t])
  have e1 : ((cfg0.win 4).blk t).view.emb (ix2 y0 y1) 1 = y1 := Fin.ext (by blk_simp [idx_val t])
  rw [e0, e1]
  exact (out_4 _ _ _ _ y0 y1).trans (congrFun (S_blk m c t y0) y1)

theorem end5 : (dats m 0 c).arrAt 5 cfg0.N = fun y : S2048x1024.Idx => G (A0 m c) (A1 m c) (A2 m c) (A3 m c) (y 0) (y 1) := by
  refine (dats m 0 c).arrAt_eq_of_covers 5 _ (by decide +kernel) fun t hf y => ?_
  blk_simp
  rw [after0_5]
  idx_vars y
  have e0 : ((cfg0.win 5).blk t).view.emb (ix2 y0 y1) 0 = gr t y0 := Fin.ext (by blk_simp [idx_val t])
  have e1 : ((cfg0.win 5).blk t).view.emb (ix2 y0 y1) 1 = y1 := Fin.ext (by blk_simp [idx_val t])
  rw [e0, e1]
  refine (out_5 _ _ _ _ y0 y1).trans ?_
  rw [S_blk, gain_blk]
  rfl

section
open Cert.Reference17Ideal.Read
variable (X0 : FVec Ideal S2048x2816 .f32) (X1 : FVec Ideal S2816x1024 .f32) (X2 : FVec Ideal S2048x1024 .f32) (X3 : FVec Ideal S4x1x1024 .f32)

theorem ref4 (r : Fin 2048) (l : Fin 1024) : val_main_v1 (F := Ideal) X0 X1 X2 (ix2 r l) = S X0 X1 X2 r l := by
  pointwise [val_main_v1, val_main_v0, S]
  exact add_comm _ _
theorem ref_inv (r : Fin 2048) : val_main_v11 (F := Ideal) X0 X1 X2 (ix2 r 0) = Norm.inv 0x44800000#32 (S X0 X1 X2 r) := by
  pointwise [val_main_v11, val_main_v10, val_main_v9, val_main_cst_1, val_main_v8, val_main_v7, val_main_cst_0, val_main_v6, val_main_v5, val_main_cst, val_main_v4, ref4, Norm.inv, Norm.var]
theorem ref5 (r : Fin 2048) (l : Fin 1024) : val_main_v16 (F := Ideal) X0 X1 X2 X3 (ix2 r l) = G X0 X1 X2 X3 r l := by
  pointwise [val_main_v16, val_main_v15, val_main_v14, val_main_v13, val_main_v12, val_main_v3, val_main_v2, ref4, ref_inv, G, Norm.out, gain]
end

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)
theorem preserves : Cert.preserves_Kernel17_Kernel17Ideal := trivial

theorem algebraic : Cert.algebraic_Kernel17Ideal_Reference17Ideal := by
  intro m g m' g' _ hag
  refine ⟨fun c => (dats m 0 c).arrAt 4 cfg0.N, fun c => (dats m 0 c).arrAt 5 cfg0.N, Value.run_blocks m g,
    (θ_run Cert.Reference17Ideal.defs _ _).mono (fun r h c => ?_) (Cert.Reference17Ideal.Value.run (F := Ideal) m' g')⟩
  obtain ⟨a0, a1, a2, a3⟩ := hag c
  obtain ⟨e1, e2, k⟩ := h c
  refine ⟨e1.trans ?_, e2.trans ?_, k⟩
  · rw [Cert.Reference17Ideal.Read.val_main_v1_eq, a0, a1, a2]
    refine Eq.trans (funext fun y => ?_) (end4 m c).symm
    idx_vars y
    exact ref4 _ _ _ y0 y1
  · rw [Cert.Reference17Ideal.Read.val_main_v16_eq, a0, a1, a2, a3]
    refine Eq.trans (funext fun y => ?_) (end5 m c).symm
    idx_vars y
    exact ref5 _ _ _ _ y0 y1

end Cert.DownF
end
-- ==== Proof.ProjF.lean ====
/- Hand-written: the input projection, and its two latents normalised in the last column tile. -/
module

public import proofs.«01_k».proof.Defs
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pipeline.ValueKit
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.ProjF

open Cert.Kernel18Ideal Cert.Kernel18Ideal.Gen

/-- A product, at an index. -/
abbrev P {a k b : Nat} (X : (⟨2, ![a, k]⟩ : Shape).Idx → EReal) (W : (⟨2, ![k, b]⟩ : Shape).Idx → EReal) (r : Fin a) (l : Fin b) : EReal :=
  ∑ q, X (ix2 r q) * W (ix2 q l)
/-- One gain of the stack. -/
abbrev gain {a b : Nat} (g : (⟨3, ![a, 1, b]⟩ : Shape).Idx → EReal) (z : Fin a) : Fin b → EReal := fun l => g (ix3 z 0 l)

theorem out_A_4 (c : Dev nD) (i : grid0.Coords) (arg2 : Memref sig .tc .vmem S2048x1024 .bf16) (harg2 : arg2.IsWhole) (arg3 : Memref sig .tc .vmem S1024x768 .bf16) (harg3 : arg3.IsWhole) (arg4 : Memref sig .tc .vmem S1x1x384 .f32) (harg4 : arg4.IsWhole) (arg5 : Memref sig .tc .vmem S1x1x256 .f32) (harg5 : arg5.IsWhole) (arg6 : Memref sig .tc .vmem S2048x768 .f32) (harg6 : arg6.IsWhole) (arg7 : Memref sig .tc .vmem S2048x384 .bf16) (harg7 : arg7.IsWhole) (arg8 : Memref sig .tc .vmem S2048x256 .bf16) (harg8 : arg8.IsWhole) (hc0 : ¬cond0_0 i) (b0 : FVec Ideal S2048x1024 .bf16) (b1 : FVec Ideal S1024x768 .bf16) (b2 : FVec Ideal S1x1x384 .f32) (b3 : FVec Ideal S1x1x256 .f32) (r : Fin 2048) (l : Fin 768) :
    out0_A_4 (F := Ideal) c i arg2 harg2 arg3 harg3 arg4 harg4 arg5 harg5 arg6 harg6 arg7 harg7 arg8 harg8 hc0 b0 b1 b2 b3 (ix2 r l) = P b0 b1 r l := by
  frame_out
  open_payloads
  pointwise [P]

theorem out_B_4 (c : Dev nD) (i : grid0.Coords) (arg2 : Memref sig .tc .vmem S2048x1024 .bf16) (harg2 : arg2.IsWhole) (arg3 : Memref sig .tc .vmem S1024x768 .bf16) (harg3 : arg3.IsWhole) (arg4 : Memref sig .tc .vmem S1x1x384 .f32) (harg4 : arg4.IsWhole) (arg5 : Memref sig .tc .vmem S1x1x256 .f32) (harg5 : arg5.IsWhole) (arg6 : Memref sig .tc .vmem S2048x768 .f32) (harg6 : arg6.IsWhole) (arg7 : Memref sig .tc .vmem S2048x384 .bf16) (harg7 : arg7.IsWhole) (arg8 : Memref sig .tc .vmem S2048x256 .bf16) (harg8 : arg8.IsWhole) (hc0 : cond0_0 i) (b0 : FVec Ideal S2048x1024 .bf16) (b1 : FVec Ideal S1024x768 .bf16) (b2 : FVec Ideal S1x1x384 .f32) (b3 : FVec Ideal S1x1x256 .f32) (r : Fin 2048) (l : Fin 768) :
    out0_B_4 (F := Ideal) c i arg2 harg2 arg3 harg3 arg4 harg4 arg5 harg5 arg6 harg6 arg7 harg7 arg8 harg8 hc0 b0 b1 b2 b3 (ix2 r l) = P b0 b1 r l := by
  frame_out
  open_payloads
  pointwise [P]

theorem out_B_5 (c : Dev nD) (i : grid0.Coords) (arg2 : Memref sig .tc .vmem S2048x1024 .bf16) (harg2 : arg2.IsWhole) (arg3 : Memref sig .tc .vmem S1024x768 .bf16) (harg3 : arg3.IsWhole) (arg4 : Memref sig .tc .vmem S1x1x384 .f32) (harg4 : arg4.IsWhole) (arg5 : Memref sig .tc .vmem S1x1x256 .f32) (harg5 : arg5.IsWhole) (arg6 : Memref sig .tc .vmem S2048x768 .f32) (harg6 : arg6.IsWhole) (arg7 : Memref sig .tc .vmem S2048x384 .bf16) (harg7 : arg7.IsWhole) (arg8 : Memref sig .tc .vmem S2048x256 .bf16) (harg8 : arg8.IsWhole) (hc0 : cond0_0 i) (b0 : FVec Ideal S2048x1024 .bf16) (b1 : FVec Ideal S1024x768 .bf16) (b2 : FVec Ideal S1x1x384 .f32) (b3 : FVec Ideal S1x1x256 .f32) (r : Fin 2048) (l : Fin 384) :
    out0_B_5 (F := Ideal) c i arg2 harg2 arg3 harg3 arg4 harg4 arg5 harg5 arg6 harg6 arg7 harg7 arg8 harg8 hc0 b0 b1 b2 b3 (ix2 r l) = Norm.out 0x43C00000#32 (fun l : Fin 384 => P b0 b1 r ⟨l.val, by omega⟩) (gain b2 0) l := by
  frame_out
  open_payloads
  pointwise [P, gain, Norm.out, Norm.inv, Norm.var]

theorem out_B_6 (c : Dev nD) (i : grid0.Coords) (arg2 : Memref sig .tc .vmem S2048x1024 .bf16) (harg2 : arg2.IsWhole) (arg3 : Memref sig .tc .vmem S1024x768 .bf16) (harg3 : arg3.IsWhole) (arg4 : Memref sig .tc .vmem S1x1x384 .f32) (harg4 : arg4.IsWhole) (arg5 : Memref sig .tc .vmem S1x1x256 .f32) (harg5 : arg5.IsWhole) (arg6 : Memref sig .tc .vmem S2048x768 .f32) (harg6 : arg6.IsWhole) (arg7 : Memref sig .tc .vmem S2048x384 .bf16) (harg7 : arg7.IsWhole) (arg8 : Memref sig .tc .vmem S2048x256 .bf16) (harg8 : arg8.IsWhole) (hc0 : cond0_0 i) (b0 : FVec Ideal S2048x1024 .bf16) (b1 : FVec Ideal S1024x768 .bf16) (b2 : FVec Ideal S1x1x384 .f32) (b3 : FVec Ideal S1x1x256 .f32) (r : Fin 2048) (l : Fin 256) :
    out0_B_6 (F := Ideal) c i arg2 harg2 arg3 harg3 arg4 harg4 arg5 harg5 arg6 harg6 arg7 harg7 arg8 harg8 hc0 b0 b1 b2 b3 (ix2 r l) = Norm.out 0x43800000#32 (fun l : Fin 256 => P b0 b1 r ⟨512 + l.val, by omega⟩) (gain b3 0) l := by
  frame_out
  open_payloads
  pointwise [P, gain, Norm.out, Norm.inv, Norm.var]

variable (m : (ℓ : Loc nD τ sig) → Buf (Elt Ideal) ℓ) (c : Dev nD)

abbrev A0 : FVec Ideal S2048x1024 .f32 := m ((c.tc : Thread nD τ).loc main_arg0)
abbrev A1 : FVec Ideal S1024x3840 .f32 := m ((c.tc : Thread nD τ).loc main_arg1)
abbrev A2 : FVec Ideal S4x1x384 .f32 := m ((c.tc : Thread nD τ).loc main_arg2)
abbrev A3 : FVec Ideal S4x1x256 .f32 := m ((c.tc : Thread nD τ).loc main_arg3)

theorem idx_val : ∀ t : Fin cfg0.N, win0_0.index t = ![0, 0] ∧ win0_1.index t = ![0, t.val] ∧ win0_2.index t = ![0, 0, 0] ∧ win0_3.index t = ![0, 0, 0]
    ∧ win0_4.index t = ![0, t.val] ∧ win0_5.index t = ![0, 0] ∧ win0_6.index t = ![0, 0] :=
  (by decide +kernel : ∀ t : Fin grid0.N, _)

/-- Column `j` of point `t`. -/
abbrev gj (t : Fin cfg0.N) (j : Fin 768) : Fin 3840 := ⟨t.val * 768 + j.val, by have := N_0; have := t.isLt; change t.val < grid0.N at this; omega⟩

theorem blk0 (t : Fin cfg0.N) (r : Fin 2048) (l : Fin 1024) : (iblk m c 0 t : FVec Ideal S2048x1024 .bf16) (ix2 r l) = A0 m c (ix2 r l) := by
  blk_point [iblk, V, idx_val t]
theorem blk1 (t : Fin cfg0.N) (r : Fin 1024) (l : Fin 768) : (iblk m c 1 t : FVec Ideal S1024x768 .bf16) (ix2 r l) = A1 m c (ix2 r (gj t l)) := by
  blk_point [iblk, V, idx_val t]
theorem blk2 (t : Fin cfg0.N) (l : Fin 384) : (iblk m c 2 t : FVec Ideal S1x1x384 .f32) (ix3 0 0 l) = A2 m c (ix3 0 0 l) := by
  blk_point [iblk, V, idx_val t]
theorem blk3 (t : Fin cfg0.N) (l : Fin 256) : (iblk m c 3 t : FVec Ideal S1x1x256 .f32) (ix3 0 0 l) = A3 m c (ix3 0 0 l) := by
  blk_point [iblk, V, idx_val t]

/-- The query latent's columns of a row. -/
abbrev cq (X0 : FVec Ideal S2048x1024 .f32) (X1 : FVec Ideal S1024x3840 .f32) (r : Fin 2048) : Fin 384 → EReal := fun l => P X0 X1 r ⟨3072 + l.val, by omega⟩
/-- The key and value latent's columns of a row. -/
abbrev ckv (X0 : FVec Ideal S2048x1024 .f32) (X1 : FVec Ideal S1024x3840 .f32) (r : Fin 2048) : Fin 256 → EReal := fun l => P X0 X1 r ⟨3584 + l.val, by omega⟩
/-- The normalised query latent. -/
def GQ (X0 : FVec Ideal S2048x1024 .f32) (X1 : FVec Ideal S1024x3840 .f32) (X2 : FVec Ideal S4x1x384 .f32) (r : Fin 2048) (l : Fin 384) : EReal :=
  Norm.out 0x43C00000#32 (cq X0 X1 r) (gain X2 0) l
/-- The normalised key and value latent. -/
def GKV (X0 : FVec Ideal S2048x1024 .f32) (X1 : FVec Ideal S1024x3840 .f32) (X3 : FVec Ideal S4x1x256 .f32) (r : Fin 2048) (l : Fin 256) : EReal :=
  Norm.out 0x43800000#32 (ckv X0 X1 r) (gain X3 0) l

theorem P_blk (t : Fin cfg0.N) (r : Fin 2048) (l : Fin 768) :
    P (iblk m c 0 t : FVec Ideal S2048x1024 .bf16) (iblk m c 1 t : FVec Ideal S1024x768 .bf16) r l = P (A0 m c) (A1 m c) r (gj t l) := by
  simp only [P, blk0, blk1]
theorem gq_blk (t : Fin cfg0.N) : gain (iblk m c 2 t : FVec Ideal S1x1x384 .f32) 0 = gain (A2 m c) 0 := funext fun l => blk2 m c t l
theorem gkv_blk (t : Fin cfg0.N) : gain (iblk m c 3 t : FVec Ideal S1x1x256 .f32) 0 = gain (A3 m c) 0 := funext fun l => blk3 m c t l

theorem step4 (t : Fin cfg0.N) (r : Fin 2048) (l : Fin 768) : (outsAt0 m c t.val t.isLt).1 (ix2 r l) = P (A0 m c) (A1 m c) r (gj t l) := by
  by_cases h : t.val % 5 = 4
  · have e := out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 1 t) (iblk m c 2 t) (iblk m c 3 t) r l
    rw [P_blk] at e
    rw [outsAt0_B m c t h]
    dsimp only
    exact e
  · have e := out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h' => h ((hcond0_0 t).mp h')) (iblk m c 0 t) (iblk m c 1 t) (iblk m c 2 t) (iblk m c 3 t) r l
    rw [P_blk] at e
    rw [outsAt0_A m c t h]
    dsimp only
    exact e

theorem cq_last (t : Fin cfg0.N) (h : t.val = 4) (r : Fin 2048) :
    (fun q : Fin 384 => P (iblk m c 0 t : FVec Ideal S2048x1024 .bf16) (iblk m c 1 t : FVec Ideal S1024x768 .bf16) r ⟨q.val, by omega⟩) = cq (A0 m c) (A1 m c) r :=
  funext fun q => (P_blk m c t r _).trans (congrArg (P (A0 m c) (A1 m c) r) (Fin.ext (by simp only [gj, h])))

theorem step5 (t : Fin cfg0.N) (h : t.val % 5 = 4) (r : Fin 2048) (l : Fin 384) : (outsAt0 m c t.val t.isLt).2.1 (ix2 r l) = GQ (A0 m c) (A1 m c) (A2 m c) r l := by
  have e := out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 1 t) (iblk m c 2 t) (iblk m c 3 t) r l
  have hN := N_0
  have ht := t.isLt
  change t.val < grid0.N at ht
  rw [cq_last m c t (by omega), gq_blk] at e
  rw [outsAt0_B m c t h]
  dsimp only
  exact e

theorem ckv_last (t : Fin cfg0.N) (h : t.val = 4) (r : Fin 2048) :
    (fun q : Fin 256 => P (iblk m c 0 t : FVec Ideal S2048x1024 .bf16) (iblk m c 1 t : FVec Ideal S1024x768 .bf16) r ⟨512 + q.val, by omega⟩) = ckv (A0 m c) (A1 m c) r :=
  funext fun q => (P_blk m c t r _).trans (congrArg (P (A0 m c) (A1 m c) r) (Fin.ext (by simp only [gj, h]; omega)))

theorem step6 (t : Fin cfg0.N) (h : t.val % 5 = 4) (r : Fin 2048) (l : Fin 256) : (outsAt0 m c t.val t.isLt).2.2 (ix2 r l) = GKV (A0 m c) (A1 m c) (A3 m c) r l := by
  have e := out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 1 t) (iblk m c 2 t) (iblk m c 3 t) r l
  have hN := N_0
  have ht := t.isLt
  change t.val < grid0.N at ht
  rw [ckv_last m c t (by omega), gkv_blk] at e
  rw [outsAt0_B m c t h]
  dsimp only
  exact e

theorem end4 : (dats m 0 c).arrAt 4 cfg0.N = fun y : S2048x3840.Idx => P (A0 m c) (A1 m c) (y 0) (y 1) := by
  refine (dats m 0 c).arrAt_eq_of_covers 4 _ (by decide +kernel) fun t hf y => ?_
  blk_simp
  rw [after0_4]
  idx_vars y
  have e0 : ((cfg0.win 4).blk t).view.emb (ix2 y0 y1) 0 = y0 := Fin.ext (by blk_simp [idx_val t])
  have e1 : ((cfg0.win 4).blk t).view.emb (ix2 y0 y1) 1 = gj t y1 := Fin.ext (by blk_simp [idx_val t])
  rw [e0, e1]
  exact step4 m c t y0 y1
theorem end5 : (dats m 0 c).arrAt 5 cfg0.N = fun y : S2048x384.Idx => GQ (A0 m c) (A1 m c) (A2 m c) (y 0) (y 1) := by
  refine (dats m 0 c).arrAt_eq_of_after_last 5 t0_4 (by decide +kernel) _ fun y => ?_
  blk_simp
  rw [after0_5]
  idx_vars y
  exact step5 m c t0_4 (by decide +kernel) y0 y1
theorem end6 : (dats m 0 c).arrAt 6 cfg0.N = fun y : S2048x256.Idx => GKV (A0 m c) (A1 m c) (A3 m c) (y 0) (y 1) := by
  refine (dats m 0 c).arrAt_eq_of_after_last 6 t0_4 (by decide +kernel) _ fun y => ?_
  blk_simp
  rw [after0_6]
  idx_vars y
  exact step6 m c t0_4 (by decide +kernel) y0 y1

section
open Cert.Reference18Ideal.Read
variable (X0 : FVec Ideal S2048x1024 .f32) (X1 : FVec Ideal S1024x3840 .f32) (X2 : FVec Ideal S4x1x384 .f32) (X3 : FVec Ideal S4x1x256 .f32)

theorem ref0 (r : Fin 2048) (l : Fin 3840) : val_main_v0 (F := Ideal) X0 X1 (ix2 r l) = P X0 X1 r l := by
  pointwise [val_main_v0, P]
theorem ref_cq (r : Fin 2048) (l : Fin 384) : val_main_v1 (F := Ideal) X0 X1 (ix2 r l) = cq X0 X1 r l := by
  pointwise [val_main_v1, ref0]
theorem ref_ckv (r : Fin 2048) (l : Fin 256) : val_main_v2 (F := Ideal) X0 X1 (ix2 r l) = ckv X0 X1 r l := by
  pointwise [val_main_v2, ref0]
theorem ref_var1 (r : Fin 2048) : val_main_v11 (F := Ideal) X0 X1 (ix2 r 0) = Norm.var 0x43C00000#32 (cq X0 X1 r) := by
  pointwise [val_main_v11, val_main_v10, val_main_cst_1, val_main_v9, val_main_v8, val_main_cst_0, val_main_v7, val_main_v6, val_main_cst, val_main_v5, ref_cq, Norm.var]
theorem ref5 (r : Fin 2048) (l : Fin 384) : val_main_v17 (F := Ideal) X0 X1 X2 (ix2 r l) = GQ X0 X1 X2 r l := by
  pointwise [val_main_v17, val_main_v16, val_main_v15, val_main_v14, val_main_v13, val_main_v12, val_main_v4, val_main_v3, ref_cq, ref_var1, GQ, Norm.out, Norm.inv, gain]
theorem ref_var2 (r : Fin 2048) : val_main_v26 (F := Ideal) X0 X1 (ix2 r 0) = Norm.var 0x43800000#32 (ckv X0 X1 r) := by
  pointwise [val_main_v26, val_main_v25, val_main_cst_4, val_main_v24, val_main_v23, val_main_cst_3, val_main_v22, val_main_v21, val_main_cst_2, val_main_v20, ref_ckv, Norm.var]
theorem ref6 (r : Fin 2048) (l : Fin 256) : val_main_v32 (F := Ideal) X0 X1 X3 (ix2 r l) = GKV X0 X1 X3 r l := by
  pointwise [val_main_v32, val_main_v31, val_main_v30, val_main_v29, val_main_v28, val_main_v27, val_main_v19, val_main_v18, ref_ckv, ref_var2, GKV, Norm.out, Norm.inv, gain]
end

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)
theorem preserves : Cert.preserves_Kernel18_Kernel18Ideal := trivial

theorem algebraic : Cert.algebraic_Kernel18Ideal_Reference18Ideal := by
  intro m g m' g' _ hag
  refine ⟨fun c => (dats m 0 c).arrAt 4 cfg0.N, fun c => (dats m 0 c).arrAt 5 cfg0.N, fun c => (dats m 0 c).arrAt 6 cfg0.N, Value.run_blocks m g,
    (θ_run Cert.Reference18Ideal.defs _ _).mono (fun r h c => ?_) (Cert.Reference18Ideal.Value.run (F := Ideal) m' g')⟩
  obtain ⟨a0, a1, a2, a3⟩ := hag c
  obtain ⟨e1, e2, e3, k⟩ := h c
  refine ⟨e1.trans ?_, e2.trans ?_, e3.trans ?_, k⟩
  · rw [Cert.Reference18Ideal.Read.val_main_v0_eq, a0, a1]
    refine Eq.trans (funext fun y => ?_) (end4 m c).symm
    idx_vars y
    exact ref0 _ _ y0 y1
  · rw [Cert.Reference18Ideal.Read.val_main_v17_eq, a0, a1, a2]
    refine Eq.trans (funext fun y => ?_) (end5 m c).symm
    idx_vars y
    exact ref5 _ _ _ y0 y1
  · rw [Cert.Reference18Ideal.Read.val_main_v32_eq, a0, a1, a3]
    refine Eq.trans (funext fun y => ?_) (end6 m c).symm
    idx_vars y
    exact ref6 _ _ _ y0 y1

end Cert.ProjF
end
-- ==== Proof.Mq.lean ====
/- Hand-written: the queries of the memory, a product with the query weight. -/
module

public import proofs.«01_k».proof.Defs
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Mq

open Cert.Kernel19Ideal Cert.Kernel19Ideal.Gen

/-- The product at an index. -/
def G (X : FVec Ideal S2048x1024 .f32) (W : FVec Ideal S1024x1024 .f32) (r : Fin 2048) (j : Fin 1024) : EReal := ∑ k, X (ix2 r k) * W (ix2 k j)

theorem body (b0 : FVec Ideal S2048x1024 .bf16) (b1 : FVec Ideal S1024x512 .bf16) (r : Fin 2048) (j : Fin 512) :
    out0_2 (F := Ideal) b0 b1 (ix2 r j) = ∑ k, b0 (ix2 r k) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S1024x1024 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 2048) : Fin 2048 := r
/-- Column `j` of the result's block at point `t`. -/
abbrev gj (t : Fin cfg0.N) (j : Fin 512) : Fin 1024 := ⟨t.val * 512 + j.val, by have := N_0; have := t.isLt; change t.val < grid0.N at this; omega⟩

theorem blk0 (t : Fin cfg0.N) (r : Fin 2048) (l : Fin 1024) : (iblk m c 0 t : FVec Ideal S2048x1024 .bf16) (ix2 r l) = A0 m c (ix2 (gi t r) l) := by
  blk_point [iblk, V, idx_val t]
theorem blk1 (t : Fin cfg0.N) (r : Fin 1024) (l : Fin 512) : (iblk m c 1 t : FVec Ideal S1024x512 .bf16) (ix2 r l) = A1 m c (ix2 r (gj t l)) := by
  blk_point [iblk, V, idx_val t]

theorem point (t : Fin cfg0.N) (r : Fin 2048) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S2048x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S1024x1024 .f32) (r : Fin 2048) (j : Fin 1024) :
    Cert.Reference19Ideal.Read.val_main_v1 (F := Ideal) x0 x1 (ix2 r j) = G x0 x1 r j := by
  pointwise [Cert.Reference19Ideal.Read.val_main_v1, Cert.Reference19Ideal.Read.val_main_v0, G]

theorem frame_p : Cert.quiescent_Kernel19 := fun m ρ _ => Cert.Kernel19.Gen.frame m ρ
theorem frame_pi : Cert.quiescent_Kernel19Ideal := fun m ρ _ => Cert.Kernel19Ideal.Gen.frame m ρ
theorem frame_ri : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)
theorem preserves : Cert.preserves_Kernel19_Kernel19Ideal := trivial

theorem algebraic : Cert.algebraic_Kernel19Ideal_Reference19Ideal := by
  intro m g m' g' _ hag
  refine ⟨fun c => (dats m 0 c).arrAt 2 cfg0.N, Value.run_blocks m g,
    (θ_run Cert.Reference19Ideal.defs _ _).mono (fun r h c => ?_) (Cert.Reference19Ideal.Value.run (F := Ideal) m' g')⟩
  obtain ⟨a0, a1⟩ := hag c
  obtain ⟨e, k⟩ := h c
  refine ⟨e.trans ?_, k⟩
  refine (Cert.Reference19Ideal.Read.val_main_v1_eq _ _).trans ?_
  rw [a0, a1]
  refine Eq.trans (funext fun y => ?_) (final m c).symm
  idx_vars y
  exact ref _ _ y0 y1

end Cert.Mq
end
-- ==== Proof.UqW.lean ====
/- Hand-written: the gradient of the latent attention's query weight, the product of the transposed query latent with the queries' gradient. -/
module

public import proofs.«01_k».proof.Defs
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.UqW

open Cert.Kernel20Ideal Cert.Kernel20Ideal.Gen

/-- The product at an index. -/
def G (X : FVec Ideal S2048x384 .f32) (W : FVec Ideal S2048x2048 .f32) (r : Fin 384) (j : Fin 2048) : EReal := ∑ k, X (ix2 k r) * W (ix2 k j)

theorem body (b0 : FVec Ideal S2048x384 .bf16) (b1 : FVec Ideal S2048x1024 .bf16) (r : Fin 384) (j : Fin 1024) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x384 .f32 := m ((c.tc : Thread nD τ).loc main_arg0)
abbrev A1 : FVec Ideal S2048x2048 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 384) : Fin 384 := r
/-- Column `j` of the result's block at point `t`. -/
abbrev gj (t : Fin cfg0.N) (j : Fin 1024) : Fin 2048 := ⟨t.val * 1024 + j.val, by have := N_0; have := t.isLt; change t.val < grid0.N at this; omega⟩

theorem blk0 (t : Fin cfg0.N) (r : Fin 2048) (l : Fin 384) : (iblk m c 0 t : FVec Ideal S2048x384 .bf16) (ix2 r l) = A0 m c (ix2 r (gi t l)) := by
  blk_point [iblk, V, idx_val t]
theorem blk1 (t : Fin cfg0.N) (r : Fin 2048) (l : Fin 1024) : (iblk m c 1 t : FVec Ideal S2048x1024 .bf16) (ix2 r l) = A1 m c (ix2 r (gj t l)) := by
  blk_point [iblk, V, idx_val t]

theorem point (t : Fin cfg0.N) (r : Fin 384) (j : Fin 1024) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S384x2048.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x384 .f32) (x1 : FVec Ideal S2048x2048 .f32) (r : Fin 384) (j : Fin 2048) :
    Cert.Reference20Ideal.Read.val_main_v4 (F := Ideal) x0 x1 (ix2 r j) = G x0 x1 r j := by
  pointwise [Cert.Reference20Ideal.Read.val_main_v4, Cert.Reference20Ideal.Read.val_main_v3, Cert.Reference20Ideal.Read.val_main_v2, G]
  exact Finset.sum_congr rfl fun _ _ => mul_comm _ _

theorem frame_p : Cert.quiescent_Kernel20 := fun m ρ _ => Cert.Kernel20.Gen.frame m ρ
theorem frame_pi : Cert.quiescent_Kernel20Ideal := fun m ρ _ => Cert.Kernel20Ideal.Gen.frame m ρ
theorem frame_ri : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)
theorem preserves : Cert.preserves_Kernel20_Kernel20Ideal := trivial

theorem algebraic : Cert.algebraic_Kernel20Ideal_Reference20Ideal := by
  intro m g m' g' _ hag
  refine ⟨fun c => (dats m 0 c).arrAt 2 cfg0.N, Value.run_blocks m g,
    (θ_run Cert.Reference20Ideal.defs _ _).mono (fun r h c => ?_) (Cert.Reference20Ideal.Value.run (F := Ideal) m' g')⟩
  obtain ⟨a0, a1⟩ := hag c
  obtain ⟨e, k⟩ := h c
  refine ⟨e.trans ?_, k⟩
  refine (Cert.Reference20Ideal.Read.val_main_v4_eq _ _).trans ?_
  rw [a0, a1]
  refine Eq.trans (funext fun y => ?_) (final m c).symm
  idx_vars y
  exact ref _ _ y0 y1

end Cert.UqW
end
-- ==== Proof.KnW.lean ====
/- Hand-written: the gradient of the latent attention's key weight, the product of the transposed latent with the keys' gradient. -/
module

public import proofs.«01_k».proof.Defs
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.KnW

open Cert.Kernel21Ideal Cert.Kernel21Ideal.Gen

/-- The product at an index. -/
def G (X : FVec Ideal S2048x256 .f32) (W : FVec Ideal S2048x2048 .f32) (r : Fin 256) (j : Fin 2048) : EReal := ∑ k, X (ix2 k r) * W (ix2 k j)

theorem body (b0 : FVec Ideal S2048x256 .bf16) (b1 : FVec Ideal S2048x512 .f32) (r : Fin 256) (j : Fin 512) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x256 .f32 := m ((c.tc : Thread nD τ).loc main_arg0)
abbrev A1 : FVec Ideal S2048x2048 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 256) : Fin 256 := r
/-- Column `j` of the result's block at point `t`. -/
abbrev gj (t : Fin cfg0.N) (j : Fin 512) : Fin 2048 := ⟨t.val * 512 + j.val, by have := N_0; have := t.isLt; change t.val < grid0.N at this; omega⟩

theorem blk0 (t : Fin cfg0.N) (r : Fin 2048) (l : Fin 256) : (iblk m c 0 t : FVec Ideal S2048x256 .bf16) (ix2 r l) = A0 m c (ix2 r (gi t l)) := by
  blk_point [iblk, V, idx_val t]
theorem blk1 (t : Fin cfg0.N) (r : Fin 2048) (l : Fin 512) : (iblk m c 1 t : FVec Ideal S2048x512 .f32) (ix2 r l) = A1 m c (ix2 r (gj t l)) := by
  blk_point [iblk, V, idx_val t]

theorem point (t : Fin cfg0.N) (r : Fin 256) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S256x2048.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x256 .f32) (x1 : FVec Ideal S2048x2048 .f32) (r : Fin 256) (j : Fin 2048) :
    Cert.Reference21Ideal.Read.val_main_v4 (F := Ideal) x0 x1 (ix2 r j) = G x0 x1 r j := by
  pointwise [Cert.Reference21Ideal.Read.val_main_v4, Cert.Reference21Ideal.Read.val_main_v3, Cert.Reference21Ideal.Read.val_main_v2, G]
  exact Finset.sum_congr rfl fun _ _ => mul_comm _ _

theorem frame_p : Cert.quiescent_Kernel21 := fun m ρ _ => Cert.Kernel21.Gen.frame m ρ
theorem frame_pi : Cert.quiescent_Kernel21Ideal := fun m ρ _ => Cert.Kernel21Ideal.Gen.frame m ρ
theorem frame_ri : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)
theorem preserves : Cert.preserves_Kernel21_Kernel21Ideal := trivial

theorem algebraic : Cert.algebraic_Kernel21Ideal_Reference21Ideal := by
  intro m g m' g' _ hag
  refine ⟨fun c => (dats m 0 c).arrAt 2 cfg0.N, Value.run_blocks m g,
    (θ_run Cert.Reference21Ideal.defs _ _).mono (fun r h c => ?_) (Cert.Reference21Ideal.Value.run (F := Ideal) m' g')⟩
  obtain ⟨a0, a1⟩ := hag c
  obtain ⟨e, k⟩ := h c
  refine ⟨e.trans ?_, k⟩
  refine (Cert.Reference21Ideal.Read.val_main_v4_eq _ _).trans ?_
  rw [a0, a1]
  refine Eq.trans (funext fun y => ?_) (final m c).symm
  idx_vars y
  exact ref _ _ y0 y1

end Cert.KnW
end
-- ==== Proof.VW.lean ====
/- Hand-written: the gradient of the latent attention's value weight, the product of the transposed latent with the values' gradient. -/
module

public import proofs.«01_k».proof.Defs
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.VW

open Cert.Kernel22Ideal Cert.Kernel22Ideal.Gen

/-- The product at an index. -/
def G (X : FVec Ideal S2048x256 .f32) (W : FVec Ideal S2048x1024 .f32) (r : Fin 256) (j : Fin 1024) : EReal := ∑ k, X (ix2 k r) * W (ix2 k j)

theorem body (b0 : FVec Ideal S2048x256 .bf16) (b1 : FVec Ideal S2048x512 .f32) (r : Fin 256) (j : Fin 512) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x256 .f32 := m ((c.tc : Thread nD τ).loc main_arg0)
abbrev A1 : FVec Ideal S2048x1024 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 256) : Fin 256 := r
/-- Column `j` of the result's block at point `t`. -/
abbrev gj (t : Fin cfg0.N) (j : Fin 512) : Fin 1024 := ⟨t.val * 512 + j.val, by have := N_0; have := t.isLt; change t.val < grid0.N at this; omega⟩

theorem blk0 (t : Fin cfg0.N) (r : Fin 2048) (l : Fin 256) : (iblk m c 0 t : FVec Ideal S2048x256 .bf16) (ix2 r l) = A0 m c (ix2 r (gi t l)) := by
  blk_point [iblk, V, idx_val t]
theorem blk1 (t : Fin cfg0.N) (r : Fin 2048) (l : Fin 512) : (iblk m c 1 t : FVec Ideal S2048x512 .f32) (ix2 r l) = A1 m c (ix2 r (gj t l)) := by
  blk_point [iblk, V, idx_val t]

theorem point (t : Fin cfg0.N) (r : Fin 256) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S256x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x256 .f32) (x1 : FVec Ideal S2048x1024 .f32) (r : Fin 256) (j : Fin 1024) :
    Cert.Reference22Ideal.Read.val_main_v4 (F := Ideal) x0 x1 (ix2 r j) = G x0 x1 r j := by
  pointwise [Cert.Reference22Ideal.Read.val_main_v4, Cert.Reference22Ideal.Read.val_main_v3, Cert.Reference22Ideal.Read.val_main_v2, G]
  exact Finset.sum_congr rfl fun _ _ => mul_comm _ _

theorem frame_p : Cert.quiescent_Kernel22 := fun m ρ _ => Cert.Kernel22.Gen.frame m ρ
theorem frame_pi : Cert.quiescent_Kernel22Ideal := fun m ρ _ => Cert.Kernel22Ideal.Gen.frame m ρ
theorem frame_ri : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)
theorem preserves : Cert.preserves_Kernel22_Kernel22Ideal := trivial

theorem algebraic : Cert.algebraic_Kernel22Ideal_Reference22Ideal := by
  intro m g m' g' _ hag
  refine ⟨fun c => (dats m 0 c).arrAt 2 cfg0.N, Value.run_blocks m g,
    (θ_run Cert.Reference22Ideal.defs _ _).mono (fun r h c => ?_) (Cert.Reference22Ideal.Value.run (F := Ideal) m' g')⟩
  obtain ⟨a0, a1⟩ := hag c
  obtain ⟨e, k⟩ := h c
  refine ⟨e.trans ?_, k⟩
  refine (Cert.Reference22Ideal.Read.val_main_v4_eq _ _).trans ?_
  rw [a0, a1]
  refine Eq.trans (funext fun y => ?_) (final m c).symm
  idx_vars y
  exact ref _ _ y0 y1

end Cert.VW
end
-- ==== Proof.CqW.lean ====
/- Hand-written: the gradient of the query latent's columns of the input projection's weight. -/
module

public import proofs.«01_k».proof.Defs
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.CqW

open Cert.Kernel23Ideal Cert.Kernel23Ideal.Gen

/-- The product at an index. -/
def G (X : FVec Ideal S2048x1024 .f32) (W : FVec Ideal S2048x384 .f32) (r : Fin 1024) (j : Fin 384) : EReal := ∑ k, X (ix2 k r) * W (ix2 k j)

theorem body (b0 : FVec Ideal S2048x1024 .bf16) (b1 : FVec Ideal S2048x384 .bf16) (r : Fin 1024) (j : Fin 384) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S2048x384 .f32 := m ((c.tc : Thread nD τ).loc main_arg1)

theorem idx_val : ∀ t : Fin cfg0.N, win0_0.index t = ![0, 0] ∧ win0_1.index t = ![0, 0] ∧ win0_2.index t = ![0, 0] :=
  (by decide +kernel : ∀ t : Fin grid0.N, _)

/-- Row `r` of the result's block at point `t`. -/
abbrev gi (t : Fin cfg0.N) (r : Fin 1024) : Fin 1024 := r
/-- Column `j` of the result's block at point `t`. -/
abbrev gj (t : Fin cfg0.N) (j : Fin 384) : Fin 384 := j

theorem blk0 (t : Fin cfg0.N) (r : Fin 2048) (l : Fin 1024) : (iblk m c 0 t : FVec Ideal S2048x1024 .bf16) (ix2 r l) = A0 m c (ix2 r (gi t l)) := by
  blk_point [iblk, V, idx_val t]
theorem blk1 (t : Fin cfg0.N) (r : Fin 2048) (l : Fin 384) : (iblk m c 1 t : FVec Ideal S2048x384 .bf16) (ix2 r l) = A1 m c (ix2 r (gj t l)) := by
  blk_point [iblk, V, idx_val t]

theorem point (t : Fin cfg0.N) (r : Fin 1024) (j : Fin 384) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S1024x384.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S2048x384 .f32) (r : Fin 1024) (j : Fin 384) :
    Cert.Reference23Ideal.Read.val_main_v4 (F := Ideal) x0 x1 (ix2 r j) = G x0 x1 r j := by
  pointwise [Cert.Reference23Ideal.Read.val_main_v4, Cert.Reference23Ideal.Read.val_main_v3, Cert.Reference23Ideal.Read.val_main_v2, G]
  exact Finset.sum_congr rfl fun _ _ => mul_comm _ _

theorem frame_p : Cert.quiescent_Kernel23 := fun m ρ _ => Cert.Kernel23.Gen.frame m ρ
theorem frame_pi : Cert.quiescent_Kernel23Ideal := fun m ρ _ => Cert.Kernel23Ideal.Gen.frame m ρ
theorem frame_ri : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)
theorem preserves : Cert.preserves_Kernel23_Kernel23Ideal := trivial

theorem algebraic : Cert.algebraic_Kernel23Ideal_Reference23Ideal := by
  intro m g m' g' _ hag
  refine ⟨fun c => (dats m 0 c).arrAt 2 cfg0.N, Value.run_blocks m g,
    (θ_run Cert.Reference23Ideal.defs _ _).mono (fun r h c => ?_) (Cert.Reference23Ideal.Value.run (F := Ideal) m' g')⟩
  obtain ⟨a0, a1⟩ := hag c
  obtain ⟨e, k⟩ := h c
  refine ⟨e.trans ?_, k⟩
  refine (Cert.Reference23Ideal.Read.val_main_v4_eq _ _).trans ?_
  rw [a0, a1]
  refine Eq.trans (funext fun y => ?_) (final m c).symm
  idx_vars y
  exact ref _ _ y0 y1

end Cert.CqW
end
-- ==== Proof.CkvW.lean ====
/- Hand-written: the gradient of the key and value latent's columns of the input projection's weight. -/
module

public import proofs.«01_k».proof.Defs
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.CkvW

open Cert.Kernel24Ideal Cert.Kernel24Ideal.Gen

/-- The product at an index. -/
def G (X : FVec Ideal S2048x1024 .f32) (W : FVec Ideal S2048x256 .f32) (r : Fin 1024) (j : Fin 256) : EReal := ∑ k, X (ix2 k r) * W (ix2 k j)

theorem body (b0 : FVec Ideal S2048x1024 .bf16) (b1 : FVec Ideal S2048x256 .bf16) (r : Fin 1024) (j : Fin 256) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S2048x256 .f32 := m ((c.tc : Thread nD τ).loc main_arg1)

theorem idx_val : ∀ t : Fin cfg0.N, win0_0.index t = ![0, 0] ∧ win0_1.index t = ![0, 0] ∧ win0_2.index t = ![0, 0] :=
  (by decide +kernel : ∀ t : Fin grid0.N, _)

/-- Row `r` of the result's block at point `t`. -/
abbrev gi (t : Fin cfg0.N) (r : Fin 1024) : Fin 1024 := r
/-- Column `j` of the result's block at point `t`. -/
abbrev gj (t : Fin cfg0.N) (j : Fin 256) : Fin 256 := j

theorem blk0 (t : Fin cfg0.N) (r : Fin 2048) (l : Fin 1024) : (iblk m c 0 t : FVec Ideal S2048x1024 .bf16) (ix2 r l) = A0 m c (ix2 r (gi t l)) := by
  blk_point [iblk, V, idx_val t]
theorem blk1 (t : Fin cfg0.N) (r : Fin 2048) (l : Fin 256) : (iblk m c 1 t : FVec Ideal S2048x256 .bf16) (ix2 r l) = A1 m c (ix2 r (gj t l)) := by
  blk_point [iblk, V, idx_val t]

theorem point (t : Fin cfg0.N) (r : Fin 1024) (j : Fin 256) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S1024x256.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S2048x256 .f32) (r : Fin 1024) (j : Fin 256) :
    Cert.Reference24Ideal.Read.val_main_v4 (F := Ideal) x0 x1 (ix2 r j) = G x0 x1 r j := by
  pointwise [Cert.Reference24Ideal.Read.val_main_v4, Cert.Reference24Ideal.Read.val_main_v3, Cert.Reference24Ideal.Read.val_main_v2, G]
  exact Finset.sum_congr rfl fun _ _ => mul_comm _ _

theorem frame_p : Cert.quiescent_Kernel24 := fun m ρ _ => Cert.Kernel24.Gen.frame m ρ
theorem frame_pi : Cert.quiescent_Kernel24Ideal := fun m ρ _ => Cert.Kernel24Ideal.Gen.frame m ρ
theorem frame_ri : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)
theorem preserves : Cert.preserves_Kernel24_Kernel24Ideal := trivial

theorem algebraic : Cert.algebraic_Kernel24Ideal_Reference24Ideal := by
  intro m g m' g' _ hag
  refine ⟨fun c => (dats m 0 c).arrAt 2 cfg0.N, Value.run_blocks m g,
    (θ_run Cert.Reference24Ideal.defs _ _).mono (fun r h c => ?_) (Cert.Reference24Ideal.Value.run (F := Ideal) m' g')⟩
  obtain ⟨a0, a1⟩ := hag c
  obtain ⟨e, k⟩ := h c
  refine ⟨e.trans ?_, k⟩
  refine (Cert.Reference24Ideal.Read.val_main_v4_eq _ _).trans ?_
  rw [a0, a1]
  refine Eq.trans (funext fun y => ?_) (final m c).symm
  idx_vars y
  exact ref _ _ y0 y1

end Cert.CkvW
end
-- ==== Proof.SmallW.lean ====
/- Hand-written: the gradient of the step sizes' and rotary key's columns of the input projection's weight. -/
module

public import proofs.«01_k».proof.Defs
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.SmallW

open Cert.Kernel25Ideal Cert.Kernel25Ideal.Gen

/-- The product at an index. -/
def G (X : FVec Ideal S2048x1024 .f32) (W : FVec Ideal S2048x128 .f32) (r : Fin 1024) (j : Fin 128) : EReal := ∑ k, X (ix2 k r) * W (ix2 k j)

theorem body (b0 : FVec Ideal S2048x1024 .bf16) (b1 : FVec Ideal S2048x128 .bf16) (r : Fin 1024) (j : Fin 128) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S2048x1024 .f32 := m ((c.tc : Thread nD τ).loc main_arg0)
abbrev A1 : FVec Ideal S2048x128 .f32 := m ((c.tc : Thread nD τ).loc main_arg1)

theorem idx_val : ∀ t : Fin cfg0.N, win0_0.index t = ![0, 0] ∧ win0_1.index t = ![0, 0] ∧ win0_2.index t = ![0, 0] :=
  (by decide +kernel : ∀ t : Fin grid0.N, _)

/-- Row `r` of the result's block at point `t`. -/
abbrev gi (t : Fin cfg0.N) (r : Fin 1024) : Fin 1024 := r
/-- Column `j` of the result's block at point `t`. -/
abbrev gj (t : Fin cfg0.N) (j : Fin 128) : Fin 128 := j

theorem blk0 (t : Fin cfg0.N) (r : Fin 2048) (l : Fin 1024) : (iblk m c 0 t : FVec Ideal S2048x1024 .bf16) (ix2 r l) = A0 m c (ix2 r (gi t l)) := by
  blk_point [iblk, V, idx_val t]
theorem blk1 (t : Fin cfg0.N) (r : Fin 2048) (l : Fin 128) : (iblk m c 1 t : FVec Ideal S2048x128 .bf16) (ix2 r l) = A1 m c (ix2 r (gj t l)) := by
  blk_point [iblk, V, idx_val t]

theorem point (t : Fin cfg0.N) (r : Fin 1024) (j : Fin 128) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S1024x128.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x1024 .f32) (x1 : FVec Ideal S2048x128 .f32) (r : Fin 1024) (j : Fin 128) :
    Cert.Reference25Ideal.Read.val_main_v4 (F := Ideal) x0 x1 (ix2 r j) = G x0 x1 r j := by
  pointwise [Cert.Reference25Ideal.Read.val_main_v4, Cert.Reference25Ideal.Read.val_main_v3, Cert.Reference25Ideal.Read.val_main_v2, G]
  exact Finset.sum_congr rfl fun _ _ => mul_comm _ _

theorem frame_p : Cert.quiescent_Kernel25 := fun m ρ _ => Cert.Kernel25.Gen.frame m ρ
theorem frame_pi : Cert.quiescent_Kernel25Ideal := fun m ρ _ => Cert.Kernel25Ideal.Gen.frame m ρ
theorem frame_ri : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)
theorem preserves : Cert.preserves_Kernel25_Kernel25Ideal := trivial

theorem algebraic : Cert.algebraic_Kernel25Ideal_Reference25Ideal := by
  intro m g m' g' _ hag
  refine ⟨fun c => (dats m 0 c).arrAt 2 cfg0.N, Value.run_blocks m g,
    (θ_run Cert.Reference25Ideal.defs _ _).mono (fun r h c => ?_) (Cert.Reference25Ideal.Value.run (F := Ideal) m' g')⟩
  obtain ⟨a0, a1⟩ := hag c
  obtain ⟨e, k⟩ := h c
  refine ⟨e.trans ?_, k⟩
  refine (Cert.Reference25Ideal.Read.val_main_v4_eq _ _).trans ?_
  rw [a0, a1]
  refine Eq.trans (funext fun y => ?_) (final m c).symm
  idx_vars y
  exact ref _ _ y0 y1

end Cert.SmallW
end
-- ==== Proof.MkW.lean ====
/- Hand-written: the gradient of the memory's key weight, the product of the transposed memory with the keys' gradient. -/
module

public import proofs.«01_k».proof.Defs
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.MkW

open Cert.Kernel26Ideal Cert.Kernel26Ideal.Gen

/-- The product at an index. -/
def G (X : FVec Ideal S256x1024 .f32) (W : FVec Ideal S256x1024 .f32) (r : Fin 1024) (j : Fin 1024) : EReal := ∑ k, X (ix2 k r) * W (ix2 k j)

theorem body (b0 : FVec Ideal S256x1024 .bf16) (b1 : FVec Ideal S256x1024 .f32) (r : Fin 1024) (j : Fin 1024) :
    out0_2 (F := Ideal) b0 b1 (ix2 r j) = ∑ k, b0 (ix2 k r) * b1 (ix2 k j) := by
  frame_out
  open_payloads
  pointwise []

variable (m : (ℓ : Loc nD τ sig) → Buf (Elt Ideal) ℓ) (c : Dev nD)

abbrev A0 : FVec Ideal S256x1024 .f32 := m ((c.tc : Thread nD τ).loc main_arg0)
abbrev A1 : FVec Ideal S256x1024 .f32 := m ((c.tc : Thread nD τ).loc main_arg1)

theorem idx_val : ∀ t : Fin cfg0.N, win0_0.index t = ![0, 0] ∧ win0_1.index t = ![0, 0] ∧ win0_2.index t = ![0, 0] :=
  (by decide +kernel : ∀ t : Fin grid0.N, _)

/-- Row `r` of the result's block at point `t`. -/
abbrev gi (t : Fin cfg0.N) (r : Fin 1024) : Fin 1024 := r
/-- Column `j` of the result's block at point `t`. -/
abbrev gj (t : Fin cfg0.N) (j : Fin 1024) : Fin 1024 := j

theorem blk0 (t : Fin cfg0.N) (r : Fin 256) (l : Fin 1024) : (iblk m c 0 t : FVec Ideal S256x1024 .bf16) (ix2 r l) = A0 m c (ix2 r (gi t l)) := by
  blk_point [iblk, V, idx_val t]
theorem blk1 (t : Fin cfg0.N) (r : Fin 256) (l : Fin 1024) : (iblk m c 1 t : FVec Ideal S256x1024 .f32) (ix2 r l) = A1 m c (ix2 r (gj t l)) := by
  blk_point [iblk, V, idx_val t]

theorem point (t : Fin cfg0.N) (r : Fin 1024) (j : Fin 1024) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S1024x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S256x1024 .f32) (x1 : FVec Ideal S256x1024 .f32) (r : Fin 1024) (j : Fin 1024) :
    Cert.Reference26Ideal.Read.val_main_v4 (F := Ideal) x0 x1 (ix2 r j) = G x0 x1 r j := by
  pointwise [Cert.Reference26Ideal.Read.val_main_v4, Cert.Reference26Ideal.Read.val_main_v3, Cert.Reference26Ideal.Read.val_main_v2, G]
  exact Finset.sum_congr rfl fun _ _ => mul_comm _ _

theorem frame_p : Cert.quiescent_Kernel26 := fun m ρ _ => Cert.Kernel26.Gen.frame m ρ
theorem frame_pi : Cert.quiescent_Kernel26Ideal := fun m ρ _ => Cert.Kernel26Ideal.Gen.frame m ρ
theorem frame_ri : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)
theorem preserves : Cert.preserves_Kernel26_Kernel26Ideal := trivial

theorem algebraic : Cert.algebraic_Kernel26Ideal_Reference26Ideal := by
  intro m g m' g' _ hag
  refine ⟨fun c => (dats m 0 c).arrAt 2 cfg0.N, Value.run_blocks m g,
    (θ_run Cert.Reference26Ideal.defs _ _).mono (fun r h c => ?_) (Cert.Reference26Ideal.Value.run (F := Ideal) m' g')⟩
  obtain ⟨a0, a1⟩ := hag c
  obtain ⟨e, k⟩ := h c
  refine ⟨e.trans ?_, k⟩
  refine (Cert.Reference26Ideal.Read.val_main_v4_eq _ _).trans ?_
  rw [a0, a1]
  refine Eq.trans (funext fun y => ?_) (final m c).symm
  idx_vars y
  exact ref _ _ y0 y1

end Cert.MkW
end
-- ==== Proof.MkvA.lean ====
/- Hand-written: the gradient of the normalised memory, two products added. -/
module

public import proofs.«01_k».proof.Defs
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.MkvA

open Cert.Kernel27Ideal Cert.Kernel27Ideal.Gen

/-- The result at an index. -/
def G (X0 : FVec Ideal S256x1024 .f32) (X1 : FVec Ideal S1024x1024 .f32) (X2 : FVec Ideal S256x1024 .f32) (X3 : FVec Ideal S1024x1024 .f32) (r : Fin 256) (j : Fin 1024) : EReal := (∑ k, X0 (ix2 r k) * X1 (ix2 j k)) + (∑ k, X2 (ix2 r k) * X3 (ix2 j k))

theorem body (b0 : FVec Ideal S256x1024 .f32) (b1 : FVec Ideal S512x1024 .bf16) (b2 : FVec Ideal S256x1024 .f32) (b3 : FVec Ideal S512x1024 .bf16) (r : Fin 256) (j : Fin 512) :
    out0_4 (F := Ideal) b0 b1 b2 b3 (ix2 r j) = (∑ k, b0 (ix2 r k) * b1 (ix2 j k)) + (∑ k, b2 (ix2 r k) * b3 (ix2 j k)) := by
  frame_out
  open_payloads
  pointwise []

variable (m : (ℓ : Loc nD τ sig) → Buf (Elt Ideal) ℓ) (c : Dev nD)

abbrev A0 : FVec Ideal S256x1024 .f32 := m ((c.tc : Thread nD τ).loc main_arg0)
abbrev A1 : FVec Ideal S1024x1024 .f32 := m ((c.tc : Thread nD τ).loc main_arg1)
abbrev A2 : FVec Ideal S256x1024 .f32 := m ((c.tc : Thread nD τ).loc main_arg2)
abbrev A3 : FVec Ideal S1024x1024 .f32 := m ((c.tc : Thread nD τ).loc main_arg3)

theorem idx_val : ∀ t : Fin cfg0.N, win0_0.index t = ![0, 0] ∧ win0_1.index t = ![t.val, 0] ∧ win0_2.index t = ![0, 0] ∧ win0_3.index t = ![t.val, 0] ∧ win0_4.index t = ![0, t.val] :=
  (by decide +kernel : ∀ t : Fin grid0.N, _)

/-- Row `r` of the result's block at point `t`. -/
abbrev gi (t : Fin cfg0.N) (r : Fin 256) : Fin 256 := r
/-- Column `j` of the result's block at point `t`. -/
abbrev gj (t : Fin cfg0.N) (j : Fin 512) : Fin 1024 := ⟨t.val * 512 + j.val, by have := N_0; have := t.isLt; change t.val < grid0.N at this; omega⟩

theorem blk0 (t : Fin cfg0.N) (r : Fin 256) (l : Fin 1024) : (iblk m c 0 t : FVec Ideal S256x1024 .f32) (ix2 r l) = A0 m c (ix2 (gi t r) l) := by
  blk_point [iblk, V, idx_val t]
theorem blk1 (t : Fin cfg0.N) (r : Fin 512) (l : Fin 1024) : (iblk m c 1 t : FVec Ideal S512x1024 .bf16) (ix2 r l) = A1 m c (ix2 (gj t r) l) := by
  blk_point [iblk, V, idx_val t]
theorem blk2 (t : Fin cfg0.N) (r : Fin 256) (l : Fin 1024) : (iblk m c 2 t : FVec Ideal S256x1024 .f32) (ix2 r l) = A2 m c (ix2 (gi t r) l) := by
  blk_point [iblk, V, idx_val t]
theorem blk3 (t : Fin cfg0.N) (r : Fin 512) (l : Fin 1024) : (iblk m c 3 t : FVec Ideal S512x1024 .bf16) (ix2 r l) = A3 m c (ix2 (gj t r) l) := by
  blk_point [iblk, V, idx_val t]

theorem point (t : Fin cfg0.N) (r : Fin 256) (j : Fin 512) : out0_4 (F := Ideal) (iblk m c 0 t) (iblk m c 1 t) (iblk m c 2 t) (iblk m c 3 t) (ix2 r j) = G (A0 m c) (A1 m c) (A2 m c) (A3 m c) (gi t r) (gj t j) := by
  refine (body _ _ _ _ r j).trans ?_
  unfold G
  simp only [blk0, blk1, blk2, blk3]

theorem final : (dats m 0 c).arrAt 4 cfg0.N = fun y : S256x1024.Idx => G (A0 m c) (A1 m c) (A2 m c) (A3 m c) (y 0) (y 1) := by
  refine (dats m 0 c).arrAt_eq_of_covers 4 _ (by decide +kernel) fun t hf y => ?_
  blk_simp
  rw [after0_4]
  idx_vars y
  have e0 : ((cfg0.win 4).blk t).view.emb (ix2 y0 y1) 0 = gi t y0 := Fin.ext (by blk_simp [idx_val t])
  have e1 : ((cfg0.win 4).blk t).view.emb (ix2 y0 y1) 1 = gj t y1 := Fin.ext (by blk_simp [idx_val t])
  rw [e0, e1]
  exact point m c t y0 y1

section
open Cert.Reference27Ideal.Read
theorem ref (X0 : FVec Ideal S256x1024 .f32) (X1 : FVec Ideal S1024x1024 .f32) (X2 : FVec Ideal S256x1024 .f32) (X3 : FVec Ideal S1024x1024 .f32) (r : Fin 256) (j : Fin 1024) : val_main_v6 (F := Ideal) X0 X1 X2 X3 (ix2 r j) = G X0 X1 X2 X3 r j := by
  pointwise [val_main_v6, val_main_v5, val_main_v4, val_main_v3, G]
  exact add_comm _ _
end

theorem frame_p : Cert.quiescent_Kernel27 := fun m ρ _ => Cert.Kernel27.Gen.frame m ρ
theorem frame_pi : Cert.quiescent_Kernel27Ideal := fun m ρ _ => Cert.Kernel27Ideal.Gen.frame m ρ
theorem frame_ri : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)
theorem preserves : Cert.preserves_Kernel27_Kernel27Ideal := trivial

theorem algebraic : Cert.algebraic_Kernel27Ideal_Reference27Ideal := by
  intro m g m' g' _ hag
  refine ⟨fun c => (dats m 0 c).arrAt 4 cfg0.N, Value.run_blocks m g,
    (θ_run Cert.Reference27Ideal.defs _ _).mono (fun r h c => ?_) (Cert.Reference27Ideal.Value.run (F := Ideal) m' g')⟩
  obtain ⟨a0, a1, a2, a3⟩ := hag c
  obtain ⟨e, k⟩ := h c
  refine ⟨e.trans ?_, k⟩
  rw [Cert.Reference27Ideal.Read.val_main_v6_eq, a0, a1, a2, a3]
  refine Eq.trans (funext fun y => ?_) (final m c).symm
  idx_vars y
  exact ref _ _ _ _ y0 y1

end Cert.MkvA
end
-- ==== Proof.UqA.lean ====
/- Hand-written: the gradient through the query weight's product and the query latent's normalisation, and the gradient of its gain. -/
module

public import proofs.«01_k».proof.Defs
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import Idealize.ShloMosaic.Lib.Pipeline.ValueKit
public import Idealize.ShloMosaic.Lib.Pipeline.ReadBack
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.UqA

open Cert.Kernel28Ideal Cert.Kernel28Ideal.Gen

/-- A product with a transposed right side, at an index. -/
abbrev pr {a b k : Nat} (X : (⟨2, ![a, k]⟩ : Shape).Idx → EReal) (W : (⟨2, ![b, k]⟩ : Shape).Idx → EReal) (r : Fin a) (l : Fin b) : EReal :=
  ∑ q, X (ix2 r q) * W (ix2 l q)
/-- Row `r` of an array. -/
abbrev row {a b : Nat} (X : (⟨2, ![a, b]⟩ : Shape).Idx → EReal) (r : Fin a) : Fin b → EReal := fun l => X (ix2 r l)
/-- The first row of a stack of gains. -/
abbrev gain {a : Nat} (g : (⟨3, ![a, 1, 384]⟩ : Shape).Idx → EReal) (z : Fin a) : Fin 384 → EReal := fun l => g (ix3 z 0 l)

abbrev K : BitVec 32 := 0x43C00000#32

/-- Row `r` of the normalised columns. -/
abbrev lat {a : Nat} (X : (⟨2, ![a, 3840]⟩ : Shape).Idx → EReal) (r : Fin a) : Fin 384 → EReal := fun l => X (ix2 r ⟨3072 + l.val, by have := l.isLt; omega⟩)

theorem out_A_4 (c : Dev nD) (i : grid0.Coords) (arg2 : Memref sig .tc .vmem S1024x2048 .bf16) (harg2 : arg2.IsWhole) (arg3 : Memref sig .tc .vmem S384x2048 .bf16) (harg3 : arg3.IsWhole) (arg4 : Memref sig .tc .vmem S1024x384 .f32) (harg4 : arg4.IsWhole) (arg5 : Memref sig .tc .vmem S1x1x384 .f32) (harg5 : arg5.IsWhole) (arg6 : Memref sig .tc .vmem S1024x384 .bf16) (harg6 : arg6.IsWhole) (arg7 : Memref sig .tc .vmem S1x384 .f32) (harg7 : arg7.IsWhole) (hc0 : cond0_0 i) (b0 : FVec Ideal S1024x2048 .bf16) (b1 : FVec Ideal S384x2048 .bf16) (b2 : FVec Ideal S1024x384 .f32) (b3 : FVec Ideal S1x1x384 .f32) (r : Fin 1024) (l : Fin 384) :
    out0_A_4 (F := Ideal) c i arg2 harg2 arg3 harg3 arg4 harg4 arg5 harg5 arg6 harg6 arg7 harg7 hc0 b0 b1 b2 b3 (ix2 r l) = Norm.dx K (row b2 r) (gain b3 0) (fun l => pr b0 b1 r l) l := by
  frame_out
  open_payloads
  pointwise [Norm.dx, Norm.coef, Norm.slope, Norm.inv, Norm.var, row, gain, pr]
  simp only [Fin.sum_univ_one]

theorem out_B_4 (c : Dev nD) (i : grid0.Coords) (arg2 : Memref sig .tc .vmem S1024x2048 .bf16) (harg2 : arg2.IsWhole) (arg3 : Memref sig .tc .vmem S384x2048 .bf16) (harg3 : arg3.IsWhole) (arg4 : Memref sig .tc .vmem S1024x384 .f32) (harg4 : arg4.IsWhole) (arg5 : Memref sig .tc .vmem S1x1x384 .f32) (harg5 : arg5.IsWhole) (arg6 : Memref sig .tc .vmem S1024x384 .bf16) (harg6 : arg6.IsWhole) (arg7 : Memref sig .tc .vmem S1x384 .f32) (harg7 : arg7.IsWhole) (hc0 : ¬cond0_0 i) (b0 : FVec Ideal S1024x2048 .bf16) (b1 : FVec Ideal S384x2048 .bf16) (b2 : FVec Ideal S1024x384 .f32) (b3 : FVec Ideal S1x1x384 .f32) (bo5 : FVec Ideal S1x384 .f32) (r : Fin 1024) (l : Fin 384) :
    out0_B_4 (F := Ideal) c i arg2 harg2 arg3 harg3 arg4 harg4 arg5 harg5 arg6 harg6 arg7 harg7 hc0 b0 b1 b2 b3 bo5 (ix2 r l) = Norm.dx K (row b2 r) (gain b3 0) (fun l => pr b0 b1 r l) l := by
  frame_out
  open_payloads
  pointwise [Norm.dx, Norm.coef, Norm.slope, Norm.inv, Norm.var, row, gain, pr]
  simp only [Fin.sum_univ_one]

theorem out_A_5 (c : Dev nD) (i : grid0.Coords) (arg2 : Memref sig .tc .vmem S1024x2048 .bf16) (harg2 : arg2.IsWhole) (arg3 : Memref sig .tc .vmem S384x2048 .bf16) (harg3 : arg3.IsWhole) (arg4 : Memref sig .tc .vmem S1024x384 .f32) (harg4 : arg4.IsWhole) (arg5 : Memref sig .tc .vmem S1x1x384 .f32) (harg5 : arg5.IsWhole) (arg6 : Memref sig .tc .vmem S1024x384 .bf16) (harg6 : arg6.IsWhole) (arg7 : Memref sig .tc .vmem S1x384 .f32) (harg7 : arg7.IsWhole) (hc0 : cond0_0 i) (b0 : FVec Ideal S1024x2048 .bf16) (b1 : FVec Ideal S384x2048 .bf16) (b2 : FVec Ideal S1024x384 .f32) (b3 : FVec Ideal S1x1x384 .f32) (l : Fin 384) :
    out0_A_5 (F := Ideal) c i arg2 harg2 arg3 harg3 arg4 harg4 arg5 harg5 arg6 harg6 arg7 harg7 hc0 b0 b1 b2 b3 (ix2 0 l) = 0 + ∑ r, Norm.dg K (row b2 r) (fun l => pr b0 b1 r l) l := by
  frame_open
  simp (disch := decide) only [↓ View.readCov_skip, ↓ View.readCov_cons_toLoadRect, ↓ View.readCov_fill]
  frame_out
  open_payloads
  pointwise [Norm.dg, Norm.inv, Norm.var, row, pr, zero_add]

theorem out_B_5 (c : Dev nD) (i : grid0.Coords) (arg2 : Memref sig .tc .vmem S1024x2048 .bf16) (harg2 : arg2.IsWhole) (arg3 : Memref sig .tc .vmem S384x2048 .bf16) (harg3 : arg3.IsWhole) (arg4 : Memref sig .tc .vmem S1024x384 .f32) (harg4 : arg4.IsWhole) (arg5 : Memref sig .tc .vmem S1x1x384 .f32) (harg5 : arg5.IsWhole) (arg6 : Memref sig .tc .vmem S1024x384 .bf16) (harg6 : arg6.IsWhole) (arg7 : Memref sig .tc .vmem S1x384 .f32) (harg7 : arg7.IsWhole) (hc0 : ¬cond0_0 i) (b0 : FVec Ideal S1024x2048 .bf16) (b1 : FVec Ideal S384x2048 .bf16) (b2 : FVec Ideal S1024x384 .f32) (b3 : FVec Ideal S1x1x384 .f32) (bo5 : FVec Ideal S1x384 .f32) (l : Fin 384) :
    out0_B_5 (F := Ideal) c i arg2 harg2 arg3 harg3 arg4 harg4 arg5 harg5 arg6 harg6 arg7 harg7 hc0 b0 b1 b2 b3 bo5 (ix2 0 l) = bo5 (ix2 0 l) + ∑ r, Norm.dg K (row b2 r) (fun l => pr b0 b1 r l) l := by
  frame_out
  open_payloads
  pointwise [Norm.dg, Norm.inv, Norm.var, row, pr]

variable (m : (ℓ : Loc nD τ sig) → Buf (Elt Ideal) ℓ) (c : Dev nD)

abbrev A0 : FVec Ideal S2048x2048 .f32 := m ((c.tc : Thread nD τ).loc main_arg0)
abbrev A1 : FVec Ideal S384x2048 .f32 := m ((c.tc : Thread nD τ).loc main_arg1)
abbrev A2 : FVec Ideal S2048x3840 .f32 := m ((c.tc : Thread nD τ).loc main_arg2)
abbrev A3 : FVec Ideal S4x1x384 .f32 := m ((c.tc : Thread nD τ).loc main_arg3)

theorem idx_val : ∀ t : Fin cfg0.N, win0_0.index t = ![t.val, 0]
    ∧ win0_1.index t = ![0, 0]
    ∧ win0_2.index t = ![t.val, 8]
    ∧ win0_3.index t = ![0, 0, 0]
    ∧ win0_4.index t = ![t.val, 0]
    ∧ win0_5.index t = ![0, 0] :=
  (by decide +kernel : ∀ t : Fin grid0.N, _)

/-- Row `r` of point `t`. -/
abbrev gr (t : Fin cfg0.N) (r : Fin 1024) : Fin 2048 := ⟨t.val * 1024 + r.val, by have := N_0; have := t.isLt; change t.val < grid0.N at this; omega⟩

theorem blk0 (t : Fin cfg0.N) (r : Fin 1024) (l : Fin 2048) : (iblk m c 0 t : FVec Ideal S1024x2048 .bf16) (ix2 r l) = A0 m c (ix2 (gr t r) l) := by
  blk_point [iblk, V, idx_val t]
theorem blk1 (t : Fin cfg0.N) (r : Fin 384) (l : Fin 2048) : (iblk m c 1 t : FVec Ideal S384x2048 .bf16) (ix2 r l) = A1 m c (ix2 r l) := by
  blk_point [iblk, V, idx_val t]
theorem blk2 (t : Fin cfg0.N) (r : Fin 1024) (l : Fin 384) : (iblk m c 2 t : FVec Ideal S1024x384 .f32) (ix2 r l) = A2 m c (ix2 (gr t r) ⟨3072 + l.val, by have := l.isLt; omega⟩) := by
  blk_point [iblk, V, idx_val t]
theorem blk3 (t : Fin cfg0.N) (l : Fin 384) : (iblk m c 3 t : FVec Ideal S1x1x384 .f32) (ix3 0 0 l) = A3 m c (ix3 0 0 l) := by
  blk_point [iblk, V, idx_val t]

/-- The gradient handed back through the products, at a row. -/
def dh (X0 : FVec Ideal S2048x2048 .f32) (X1 : FVec Ideal S384x2048 .f32) (r : Fin 2048) : Fin 384 → EReal := fun l =>
  ∑ k : Fin 2048, X0 (ix2 r k) * X1 (ix2 l k)
/-- The gradient of the rows. -/
def DX (X0 : FVec Ideal S2048x2048 .f32) (X1 : FVec Ideal S384x2048 .f32) (X2 : FVec Ideal S2048x3840 .f32) (X3 : FVec Ideal S4x1x384 .f32) (r : Fin 2048) (l : Fin 384) : EReal :=
  Norm.dx K (lat X2 r) (gain X3 0) (dh X0 X1 r) l
/-- The gradient of the gain. -/
def DG (X0 : FVec Ideal S2048x2048 .f32) (X1 : FVec Ideal S384x2048 .f32) (X2 : FVec Ideal S2048x3840 .f32) (l : Fin 384) : EReal := ∑ r, Norm.dg K (lat X2 r) (dh X0 X1 r) l

theorem row_x (t : Fin cfg0.N) (r : Fin 1024) : row (iblk m c 2 t : FVec Ideal S1024x384 .f32) r = lat (A2 m c) (gr t r) := funext fun l => blk2 m c t r l
theorem gain_x (t : Fin cfg0.N) : gain (iblk m c 3 t : FVec Ideal S1x1x384 .f32) 0 = gain (A3 m c) 0 := funext fun l => blk3 m c t l
theorem dh_blk (t : Fin cfg0.N) (r : Fin 1024) :
    (fun l => pr (iblk m c 0 t : FVec Ideal S1024x2048 .bf16) (iblk m c 1 t : FVec Ideal S384x2048 .bf16) r l)
      = dh (A0 m c) (A1 m c) (gr t r) := by
  funext l
  simp only [dh, pr, blk0, blk1]

theorem stepg_A (t : Fin cfg0.N) (h : t.val % 2 = 0) (l : Fin 384) : (outsAt0 m c t.val t.isLt).2 (ix2 0 l) = 0 + ∑ r, Norm.dg K (lat (A2 m c) (gr t r)) (dh (A0 m c) (A1 m c) (gr t r)) l := by
  have e := out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h) (iblk m c 0 t) (iblk m c 1 t) (iblk m c 2 t) (iblk m c 3 t) l
  simp only [row_x, dh_blk] at e
  rw [outsAt0_A m c t h]
  dsimp only
  exact e
theorem stepg_B (t : Fin cfg0.N) (h : ¬t.val % 2 = 0) (l : Fin 384) : (outsAt0 m c t.val t.isLt).2 (ix2 0 l) = (outsAt0 m c (t.val - 1) (Nat.lt_of_le_of_lt (Nat.sub_le _ _) t.isLt)).2 (ix2 0 l) + ∑ r, Norm.dg K (lat (A2 m c) (gr t r)) (dh (A0 m c) (A1 m c) (gr t r)) l := by
  have e := out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h' => h ((hcond0_0 t).mp h')) (iblk m c 0 t) (iblk m c 1 t) (iblk m c 2 t) (iblk m c 3 t) (outsAt0 m c (t.val - 1) (Nat.lt_of_le_of_lt (Nat.sub_le _ _) t.isLt)).2 l
  simp only [row_x, dh_blk] at e
  rw [outsAt0_B m c t h]
  dsimp only
  exact e
theorem stepx (t : Fin cfg0.N) (r : Fin 1024) (l : Fin 384) : (outsAt0 m c t.val t.isLt).1 (ix2 r l) = DX (A0 m c) (A1 m c) (A2 m c) (A3 m c) (gr t r) l := by
  by_cases h : t.val % 2 = 0
  · have e := out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h) (iblk m c 0 t) (iblk m c 1 t) (iblk m c 2 t) (iblk m c 3 t) r l
    simp only [row_x, dh_blk, gain_x] at e
    rw [outsAt0_A m c t h]
    dsimp only
    exact e
  · have e := out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h' => h ((hcond0_0 t).mp h')) (iblk m c 0 t) (iblk m c 1 t) (iblk m c 2 t) (iblk m c 3 t) (outsAt0 m c (t.val - 1) (Nat.lt_of_le_of_lt (Nat.sub_le _ _) t.isLt)).2 r l
    simp only [row_x, dh_blk, gain_x] at e
    rw [outsAt0_B m c t h]
    dsimp only
    exact e

/-- The rows of the 2 points are the 2048 rows. -/
theorem sum_pts (f : Fin 2048 → EReal) : ∑ t : Fin cfg0.N, ∑ r : Fin 1024, f (gr t r) = ∑ r, f r :=
  Fin.sum_mul_add_congr (fun s k hl => rfl) (show 2048 = grid0.N * 1024 by rw [N_0])

theorem end_g : (dats m 0 c).arrAt 5 cfg0.N = fun y : S1x384.Idx => DG (A0 m c) (A1 m c) (A2 m c) (y 1) := by
  refine (dats m 0 c).arrAt_eq_of_after_last 5 t0_1 (by decide +kernel) _ fun y => ?_
  blk_simp
  rw [after0_5, Pipeline.eq_sum_fin_of_reset_step_apply_last (fun n h => (outsAt0 m c n h).2) 2 (fun _ => 0)
    (fun t (y : S1x384.Idx) => ∑ r, Norm.dg K (lat (A2 m c) (gr t r)) (dh (A0 m c) (A1 m c) (gr t r)) (y 1))
    (fun t h y => by idx_vars y; obtain rfl : y0 = 0 := Subsingleton.elim _ _; exact stepg_A m c t h y1)
    (fun t h y => by idx_vars y; obtain rfl : y0 = 0 := Subsingleton.elim _ _; exact stepg_B m c t h y1) (le_of_eq N_0) t0_1 rfl, zero_add]
  exact sum_pts fun r => Norm.dg K (lat (A2 m c) r) (dh (A0 m c) (A1 m c) r) _

theorem end_x : (dats m 0 c).arrAt 4 cfg0.N = fun y : S2048x384.Idx => DX (A0 m c) (A1 m c) (A2 m c) (A3 m c) (y 0) (y 1) := by
  refine (dats m 0 c).arrAt_eq_of_covers 4 _ (by decide +kernel) fun t hf y => ?_
  blk_simp
  rw [after0_4]
  idx_vars y
  have e0 : ((cfg0.win 4).blk t).view.emb (ix2 y0 y1) 0 = gr t y0 := Fin.ext (by blk_simp [idx_val t])
  have e1 : ((cfg0.win 4).blk t).view.emb (ix2 y0 y1) 1 = y1 := Fin.ext (by blk_simp [idx_val t])
  rw [e0, e1]
  exact stepx m c t y0 y1

section
open Cert.Reference28Ideal.Read
variable (X0 : FVec Ideal S2048x2048 .f32) (X1 : FVec Ideal S384x2048 .f32) (X2 : FVec Ideal S2048x3840 .f32) (X3 : FVec Ideal S4x1x384 .f32)

theorem ref_dh (r : Fin 2048) (l : Fin 384) : val_main_v19 (F := Ideal) X0 X1 (ix2 r l) = dh X0 X1 r l := by
  pointwise [val_main_v19, dh]
theorem ref_x (r : Fin 2048) (l : Fin 384) : val_main_v0 (F := Ideal) X2 (ix2 r l) = lat X2 r l := by
  pointwise [val_main_v0]
theorem ref_var (r : Fin 2048) : val_main_v9 (F := Ideal) X2 (ix2 r 0) = Norm.var K (lat X2 r) := by
  pointwise [val_main_v3, val_main_cst, val_main_v4, val_main_v5, val_main_cst_0, val_main_v6, val_main_v7, val_main_cst_1, val_main_v8, val_main_v9, Norm.var, ref_x]
theorem ref_inv (r : Fin 2048) : val_main_v10 (F := Ideal) X2 (ix2 r 0) = Norm.inv K (lat X2 r) := by
  pointwise [val_main_v10, ref_var, Norm.inv]
theorem ref_slope (r : Fin 2048) : val_main_v13 (F := Ideal) X2 (ix2 r 0) = Norm.slope K (lat X2 r) := by
  pointwise [val_main_v11, val_main_cst_2, val_main_v12, val_main_v13, ref_var, ref_inv, Norm.slope]
theorem ref_dg (l : Fin 384) : val_main_v22 (F := Ideal) X0 X1 X2 (ix2 0 l) = DG X0 X1 X2 l := by
  pointwise [val_main_v20, val_main_cst_3, val_main_v21, val_main_v22, val_main_v14, val_main_v15, ref_inv, ref_dh, DG, Norm.dg, ref_x]
theorem ref_dhg (r : Fin 2048) (l : Fin 384) : val_main_v24 (F := Ideal) X0 X1 X3 (ix2 r l) = dh X0 X1 r l * gain X3 0 l := by
  pointwise [val_main_v23, val_main_v24, val_main_v0, val_main_v1, val_main_v2, ref_dh, gain]
theorem ref_coef (r : Fin 2048) (l : Fin 384) : val_main_v34 (F := Ideal) X0 X1 X2 X3 (ix2 r l) = Norm.coef K (lat X2 r) (gain X3 0) (dh X0 X1 r) := by
  pointwise [val_main_v25, val_main_cst_4, val_main_v26, val_main_v27, val_main_v28, val_main_v29, val_main_v30, val_main_cst_5, val_main_v31, val_main_v32, val_main_cst_6, val_main_v33, val_main_v34, ref_dhg, ref_slope, Norm.coef, ref_x]
  simp only [Fin.sum_univ_one, ref_slope]
theorem ref_dx (r : Fin 2048) (l : Fin 384) : val_main_v39 (F := Ideal) X0 X1 X2 X3 (ix2 r l) = DX X0 X1 X2 X3 r l := by
  pointwise [val_main_v25, val_main_cst_4, val_main_v26, val_main_v27, val_main_v28, val_main_v29, val_main_v35, val_main_v36, val_main_v37, val_main_v38, val_main_v39, ref_coef, ref_dhg, ref_inv, DX, Norm.dx, ref_x]
end

theorem frame_p : Cert.quiescent_Kernel28 := fun m ρ _ => Cert.Kernel28.Gen.frame m ρ
theorem frame_pi : Cert.quiescent_Kernel28Ideal := fun m ρ _ => Cert.Kernel28Ideal.Gen.frame m ρ
theorem frame_ri : Cert.quiescent_Reference28Ideal := fun m ρ _ =>
  (θ_run Cert.Reference28Ideal.defs _ _).mono (fun r h => ⟨fun c => (h c).2.2, sem_eq_zero_of_no_sems (by decide) r.2⟩)
    (Cert.Reference28Ideal.Value.run (F := Ideal) m ρ)
theorem preserves : Cert.preserves_Kernel28_Kernel28Ideal := trivial

theorem algebraic : Cert.algebraic_Kernel28Ideal_Reference28Ideal := by
  intro m g m' g' _ hag
  refine ⟨fun c => (dats m 0 c).arrAt 4 cfg0.N, fun c => (dats m 0 c).arrAt 5 cfg0.N, Value.run_blocks m g,
    (θ_run Cert.Reference28Ideal.defs _ _).mono (fun r h c => ?_) (Cert.Reference28Ideal.Value.run (F := Ideal) m' g')⟩
  obtain ⟨a0, a1, a2, a3⟩ := hag c
  obtain ⟨e1, e2, k⟩ := h c
  refine ⟨e1.trans ?_, e2.trans ?_, k⟩
  · rw [Cert.Reference28Ideal.Read.val_main_v39_eq, a0, a1, a2, a3]
    refine Eq.trans (funext fun y => ?_) (end_x m c).symm
    idx_vars y
    exact ref_dx _ _ _ _ y0 y1
  · rw [Cert.Reference28Ideal.Read.val_main_v22_eq, a0, a1, a2]
    refine Eq.trans (funext fun y => ?_) (end_g m c).symm
    idx_vars y
    obtain rfl : y0 = 0 := Subsingleton.elim _ _
    exact ref_dg _ _ _ y1

end Cert.UqA
end
-- ==== Proof.UkvA.lean ====
/- Hand-written: the gradient through the key and value weights' products and the latent's normalisation, and the gradient of its gain. -/
module

public import proofs.«01_k».proof.Defs
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import Idealize.ShloMosaic.Lib.Pipeline.ValueKit
public import Idealize.ShloMosaic.Lib.Pipeline.ReadBack
public import Idealize.ShloMosaic.Lib.Claim
public import proofs.«01_k».proof.Proof.NormGrad

@[expose] public section

set_option maxRecDepth 16384

noncomputable section

open Idealize.ShloMosaic Idealize.ShloMosaic.TcCoe Idealize.SL.Sem
open scoped BigOperators

namespace Cert.UkvA

open Cert.Kernel29Ideal Cert.Kernel29Ideal.Gen

/-- A product with a transposed right side, at an index. -/
abbrev pr {a b k : Nat} (X : (⟨2, ![a, k]⟩ : Shape).Idx → EReal) (W : (⟨2, ![b, k]⟩ : Shape).Idx → EReal) (r : Fin a) (l : Fin b) : EReal :=
  ∑ q, X (ix2 r q) * W (ix2 l q)
/-- Row `r` of an array. -/
abbrev row {a b : Nat} (X : (⟨2, ![a, b]⟩ : Shape).Idx → EReal) (r : Fin a) : Fin b → EReal := fun l => X (ix2 r l)
/-- The first row of a stack of gains. -/
abbrev gain {a : Nat} (g : (⟨3, ![a, 1, 256]⟩ : Shape).Idx → EReal) (z : Fin a) : Fin 256 → EReal := fun l => g (ix3 z 0 l)

abbrev K : BitVec 32 := 0x43800000#32

/-- Row `r` of the normalised columns. -/
abbrev lat {a : Nat} (X : (⟨2, ![a, 3840]⟩ : Shape).Idx → EReal) (r : Fin a) : Fin 256 → EReal := fun l => X (ix2 r ⟨3584 + l.val, by have := l.isLt; omega⟩)

theorem out_A_6 (c : Dev nD) (i : grid0.Coords) (arg2 : Memref sig .tc .vmem S512x2048 .f32) (harg2 : arg2.IsWhole) (arg3 : Memref sig .tc .vmem S256x2048 .bf16) (harg3 : arg3.IsWhole) (arg4 : Memref sig .tc .vmem S512x1024 .f32) (harg4 : arg4.IsWhole) (arg5 : Memref sig .tc .vmem S256x1024 .bf16) (harg5 : arg5.IsWhole) (arg6 : Memref sig .tc .vmem S512x256 .f32) (harg6 : arg6.IsWhole) (arg7 : Memref sig .tc .vmem S1x1x256 .f32) (harg7 : arg7.IsWhole) (arg8 : Memref sig .tc .vmem S512x256 .bf16) (harg8 : arg8.IsWhole) (arg9 : Memref sig .tc .vmem S1x256 .f32) (harg9 : arg9.IsWhole) (hc0 : cond0_0 i) (b0 : FVec Ideal S512x2048 .f32) (b1 : FVec Ideal S256x2048 .bf16) (b2 : FVec Ideal S512x1024 .f32) (b3 : FVec Ideal S256x1024 .bf16) (b4 : FVec Ideal S512x256 .f32) (b5 : FVec Ideal S1x1x256 .f32) (r : Fin 512) (l : Fin 256) :
    out0_A_6 (F := Ideal) c i arg2 harg2 arg3 harg3 arg4 harg4 arg5 harg5 arg6 harg6 arg7 harg7 arg8 harg8 arg9 harg9 hc0 b0 b1 b2 b3 b4 b5 (ix2 r l) = Norm.dx K (row b4 r) (gain b5 0) (fun l => pr b0 b1 r l + pr b2 b3 r l) l := by
  frame_out
  open_payloads
  pointwise [Norm.dx, Norm.coef, Norm.slope, Norm.inv, Norm.var, row, gain, pr]
  simp only [Fin.sum_univ_one]

theorem out_B_6 (c : Dev nD) (i : grid0.Coords) (arg2 : Memref sig .tc .vmem S512x2048 .f32) (harg2 : arg2.IsWhole) (arg3 : Memref sig .tc .vmem S256x2048 .bf16) (harg3 : arg3.IsWhole) (arg4 : Memref sig .tc .vmem S512x1024 .f32) (harg4 : arg4.IsWhole) (arg5 : Memref sig .tc .vmem S256x1024 .bf16) (harg5 : arg5.IsWhole) (arg6 : Memref sig .tc .vmem S512x256 .f32) (harg6 : arg6.IsWhole) (arg7 : Memref sig .tc .vmem S1x1x256 .f32) (harg7 : arg7.IsWhole) (arg8 : Memref sig .tc .vmem S512x256 .bf16) (harg8 : arg8.IsWhole) (arg9 : Memref sig .tc .vmem S1x256 .f32) (harg9 : arg9.IsWhole) (hc0 : ¬cond0_0 i) (b0 : FVec Ideal S512x2048 .f32) (b1 : FVec Ideal S256x2048 .bf16) (b2 : FVec Ideal S512x1024 .f32) (b3 : FVec Ideal S256x1024 .bf16) (b4 : FVec Ideal S512x256 .f32) (b5 : FVec Ideal S1x1x256 .f32) (bo7 : FVec Ideal S1x256 .f32) (r : Fin 512) (l : Fin 256) :
    out0_B_6 (F := Ideal) c i arg2 harg2 arg3 harg3 arg4 harg4 arg5 harg5 arg6 harg6 arg7 harg7 arg8 harg8 arg9 harg9 hc0 b0 b1 b2 b3 b4 b5 bo7 (ix2 r l) = Norm.dx K (row b4 r) (gain b5 0) (fun l => pr b0 b1 r l + pr b2 b3 r l) l := by
  frame_out
  open_payloads
  pointwise [Norm.dx, Norm.coef, Norm.slope, Norm.inv, Norm.var, row, gain, pr]
  simp only [Fin.sum_univ_one]

theorem out_A_7 (c : Dev nD) (i : grid0.Coords) (arg2 : Memref sig .tc .vmem S512x2048 .f32) (harg2 : arg2.IsWhole) (arg3 : Memref sig .tc .vmem S256x2048 .bf16) (harg3 : arg3.IsWhole) (arg4 : Memref sig .tc .vmem S512x1024 .f32) (harg4 : arg4.IsWhole) (arg5 : Memref sig .tc .vmem S256x1024 .bf16) (harg5 : arg5.IsWhole) (arg6 : Memref sig .tc .vmem S512x256 .f32) (harg6 : arg6.IsWhole) (arg7 : Memref sig .tc .vmem S1x1x256 .f32) (harg7 : arg7.IsWhole) (arg8 : Memref sig .tc .vmem S512x256 .bf16) (harg8 : arg8.IsWhole) (arg9 : Memref sig .tc .vmem S1x256 .f32) (harg9 : arg9.IsWhole) (hc0 : cond0_0 i) (b0 : FVec Ideal S512x2048 .f32) (b1 : FVec Ideal S256x2048 .bf16) (b2 : FVec Ideal S512x1024 .f32) (b3 : FVec Ideal S256x1024 .bf16) (b4 : FVec Ideal S512x256 .f32) (b5 : FVec Ideal S1x1x256 .f32) (l : Fin 256) :
    out0_A_7 (F := Ideal) c i arg2 harg2 arg3 harg3 arg4 harg4 arg5 harg5 arg6 harg6 arg7 harg7 arg8 harg8 arg9 harg9 hc0 b0 b1 b2 b3 b4 b5 (ix2 0 l) = 0 + ∑ r, Norm.dg K (row b4 r) (fun l => pr b0 b1 r l + pr b2 b3 r l) l := by
  frame_open
  simp (disch := decide) only [↓ View.readCov_skip, ↓ View.readCov_cons_toLoadRect, ↓ View.readCov_fill]
  frame_out
  open_payloads
  pointwise [Norm.dg, Norm.inv, Norm.var, row, pr, zero_add]

theorem out_B_7 (c : Dev nD) (i : grid0.Coords) (arg2 : Memref sig .tc .vmem S512x2048 .f32) (harg2 : arg2.IsWhole) (arg3 : Memref sig .tc .vmem S256x2048 .bf16) (harg3 : arg3.IsWhole) (arg4 : Memref sig .tc .vmem S512x1024 .f32) (harg4 : arg4.IsWhole) (arg5 : Memref sig .tc .vmem S256x1024 .bf16) (harg5 : arg5.IsWhole) (arg6 : Memref sig .tc .vmem S512x256 .f32) (harg6 : arg6.IsWhole) (arg7 : Memref sig .tc .vmem S1x1x256 .f32) (harg7 : arg7.IsWhole) (arg8 : Memref sig .tc .vmem S512x256 .bf16) (harg8 : arg8.IsWhole) (arg9 : Memref sig .tc .vmem S1x256 .f32) (harg9 : arg9.IsWhole) (hc0 : ¬cond0_0 i) (b0 : FVec Ideal S512x2048 .f32) (b1 : FVec Ideal S256x2048 .bf16) (b2 : FVec Ideal S512x1024 .f32) (b3 : FVec Ideal S256x1024 .bf16) (b4 : FVec Ideal S512x256 .f32) (b5 : FVec Ideal S1x1x256 .f32) (bo7 : FVec Ideal S1x256 .f32) (l : Fin 256) :
    out0_B_7 (F := Ideal) c i arg2 harg2 arg3 harg3 arg4 harg4 arg5 harg5 arg6 harg6 arg7 harg7 arg8 harg8 arg9 harg9 hc0 b0 b1 b2 b3 b4 b5 bo7 (ix2 0 l) = bo7 (ix2 0 l) + ∑ r, Norm.dg K (row b4 r) (fun l => pr b0 b1 r l + pr b2 b3 r l) l := by
  frame_out
  open_payloads
  pointwise [Norm.dg, Norm.inv, Norm.var, row, pr]

variable (m : (ℓ : Loc nD τ sig) → Buf (Elt Ideal) ℓ) (c : Dev nD)

abbrev A0 : FVec Ideal S2048x2048 .f32 := m ((c.tc : Thread nD τ).loc main_arg0)
abbrev A1 : FVec Ideal S256x2048 .f32 := m ((c.tc : Thread nD τ).loc main_arg1)
abbrev A2 : FVec Ideal S2048x1024 .f32 := m ((c.tc : Thread nD τ).loc main_arg2)
abbrev A3 : FVec Ideal S256x1024 .f32 := m ((c.tc : Thread nD τ).loc main_arg3)
abbrev A4 : FVec Ideal S2048x3840 .f32 := m ((c.tc : Thread nD τ).loc main_arg4)
abbrev A5 : FVec Ideal S4x1x256 .f32 := m ((c.tc : Thread nD τ).loc main_arg5)

theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 14]
    ∧ win0_5.index t = ![0, 0, 0]
    ∧ win0_6.index t = ![t.val, 0]
    ∧ win0_7.index t = ![0, 0] :=
  (by decide +kernel : ∀ t : Fin grid0.N, _)

/-- Row `r` of point `t`. -/
abbrev gr (t : Fin cfg0.N) (r : Fin 512) : Fin 2048 := ⟨t.val * 512 + r.val, by have := N_0; have := t.isLt; change t.val < grid0.N at this; omega⟩

theorem blk0 (t : Fin cfg0.N) (r : Fin 512) (l : Fin 2048) : (iblk m c 0 t : FVec Ideal S512x2048 .f32) (ix2 r l) = A0 m c (ix2 (gr t r) l) := by
  blk_point [iblk, V, idx_val t]
theorem blk1 (t : Fin cfg0.N) (r : Fin 256) (l : Fin 2048) : (iblk m c 1 t : FVec Ideal S256x2048 .bf16) (ix2 r l) = A1 m c (ix2 r l) := by
  blk_point [iblk, V, idx_val t]
theorem blk2 (t : Fin cfg0.N) (r : Fin 512) (l : Fin 1024) : (iblk m c 2 t : FVec Ideal S512x1024 .f32) (ix2 r l) = A2 m c (ix2 (gr t r) l) := by
  blk_point [iblk, V, idx_val t]
theorem blk3 (t : Fin cfg0.N) (r : Fin 256) (l : Fin 1024) : (iblk m c 3 t : FVec Ideal S256x1024 .bf16) (ix2 r l) = A3 m c (ix2 r l) := by
  blk_point [iblk, V, idx_val t]
theorem blk4 (t : Fin cfg0.N) (r : Fin 512) (l : Fin 256) : (iblk m c 4 t : FVec Ideal S512x256 .f32) (ix2 r l) = A4 m c (ix2 (gr t r) ⟨3584 + l.val, by have := l.isLt; omega⟩) := by
  blk_point [iblk, V, idx_val t]
theorem blk5 (t : Fin cfg0.N) (l : Fin 256) : (iblk m c 5 t : FVec Ideal S1x1x256 .f32) (ix3 0 0 l) = A5 m c (ix3 0 0 l) := by
  blk_point [iblk, V, idx_val t]

/-- The gradient handed back through the products, at a row. -/
def dh (X0 : FVec Ideal S2048x2048 .f32) (X1 : FVec Ideal S256x2048 .f32) (X2 : FVec Ideal S2048x1024 .f32) (X3 : FVec Ideal S256x1024 .f32) (r : Fin 2048) : Fin 256 → EReal := fun l =>
  ∑ k : Fin 2048, X0 (ix2 r k) * X1 (ix2 l k)
    + ∑ k : Fin 1024, X2 (ix2 r k) * X3 (ix2 l k)
/-- The gradient of the rows. -/
def DX (X0 : FVec Ideal S2048x2048 .f32) (X1 : FVec Ideal S256x2048 .f32) (X2 : FVec Ideal S2048x1024 .f32) (X3 : FVec Ideal S256x1024 .f32) (X4 : FVec Ideal S2048x3840 .f32) (X5 : FVec Ideal S4x1x256 .f32) (r : Fin 2048) (l : Fin 256) : EReal :=
  Norm.dx K (lat X4 r) (gain X5 0) (dh X0 X1 X2 X3 r) l
/-- The gradient of the gain. -/
def DG (X0 : FVec Ideal S2048x2048 .f32) (X1 : FVec Ideal S256x2048 .f32) (X2 : FVec Ideal S2048x1024 .f32) (X3 : FVec Ideal S256x1024 .f32) (X4 : FVec Ideal S2048x3840 .f32) (l : Fin 256) : EReal := ∑ r, Norm.dg K (lat X4 r) (dh X0 X1 X2 X3 r) l

theorem row_x (t : Fin cfg0.N) (r : Fin 512) : row (iblk m c 4 t : FVec Ideal S512x256 .f32) r = lat (A4 m c) (gr t r) := funext fun l => blk4 m c t r l
theorem gain_x (t : Fin cfg0.N) : gain (iblk m c 5 t : FVec Ideal S1x1x256 .f32) 0 = gain (A5 m c) 0 := funext fun l => blk5 m c t l
theorem dh_blk (t : Fin cfg0.N) (r : Fin 512) :
    (fun l => pr (iblk m c 0 t : FVec Ideal S512x2048 .f32) (iblk m c 1 t : FVec Ideal S256x2048 .bf16) r l + pr (iblk m c 2 t : FVec Ideal S512x1024 .f32) (iblk m c 3 t : FVec Ideal S256x1024 .bf16) r l)
      = dh (A0 m c) (A1 m c) (A2 m c) (A3 m c) (gr t r) := by
  funext l
  simp only [dh, pr, blk0, blk1, blk2, blk3]

theorem stepg_A (t : Fin cfg0.N) (h : t.val % 4 = 0) (l : Fin 256) : (outsAt0 m c t.val t.isLt).2 (ix2 0 l) = 0 + ∑ r, Norm.dg K (lat (A4 m c) (gr t r)) (dh (A0 m c) (A1 m c) (A2 m c) (A3 m c) (gr t r)) l := by
  have e := out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk m c 0 t) (iblk m c 1 t) (iblk m c 2 t) (iblk m c 3 t) (iblk m c 4 t) (iblk m c 5 t) l
  simp only [row_x, dh_blk] at e
  rw [outsAt0_A m c t h]
  dsimp only
  exact e
theorem stepg_B (t : Fin cfg0.N) (h : ¬t.val % 4 = 0) (l : Fin 256) : (outsAt0 m c t.val t.isLt).2 (ix2 0 l) = (outsAt0 m c (t.val - 1) (Nat.lt_of_le_of_lt (Nat.sub_le _ _) t.isLt)).2 (ix2 0 l) + ∑ r, Norm.dg K (lat (A4 m c) (gr t r)) (dh (A0 m c) (A1 m c) (A2 m c) (A3 m c) (gr t r)) l := by
  have e := out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h' => h ((hcond0_0 t).mp h')) (iblk m c 0 t) (iblk m c 1 t) (iblk m c 2 t) (iblk m c 3 t) (iblk m c 4 t) (iblk m c 5 t) (outsAt0 m c (t.val - 1) (Nat.lt_of_le_of_lt (Nat.sub_le _ _) t.isLt)).2 l
  simp only [row_x, dh_blk] at e
  rw [outsAt0_B m c t h]
  dsimp only
  exact e
theorem stepx (t : Fin cfg0.N) (r : Fin 512) (l : Fin 256) : (outsAt0 m c t.val t.isLt).1 (ix2 r l) = DX (A0 m c) (A1 m c) (A2 m c) (A3 m c) (A4 m c) (A5 m c) (gr t r) l := by
  by_cases h : t.val % 4 = 0
  · have e := out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk m c 0 t) (iblk m c 1 t) (iblk m c 2 t) (iblk m c 3 t) (iblk m c 4 t) (iblk m c 5 t) r l
    simp only [row_x, dh_blk, gain_x] at e
    rw [outsAt0_A m c t h]
    dsimp only
    exact e
  · have e := out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h' => h ((hcond0_0 t).mp h')) (iblk m c 0 t) (iblk m c 1 t) (iblk m c 2 t) (iblk m c 3 t) (iblk m c 4 t) (iblk m c 5 t) (outsAt0 m c (t.val - 1) (Nat.lt_of_le_of_lt (Nat.sub_le _ _) t.isLt)).2 r l
    simp only [row_x, dh_blk, gain_x] at e
    rw [outsAt0_B m c t h]
    dsimp only
    exact e

/-- The rows of the 4 points are the 2048 rows. -/
theorem sum_pts (f : Fin 2048 → EReal) : ∑ t : Fin cfg0.N, ∑ r : Fin 512, f (gr t r) = ∑ r, f r :=
  Fin.sum_mul_add_congr (fun s k hl => rfl) (show 2048 = grid0.N * 512 by rw [N_0])

theorem end_g : (dats m 0 c).arrAt 7 cfg0.N = fun y : S1x256.Idx => DG (A0 m c) (A1 m c) (A2 m c) (A3 m c) (A4 m c) (y 1) := by
  refine (dats m 0 c).arrAt_eq_of_after_last 7 t0_3 (by decide +kernel) _ fun y => ?_
  blk_simp
  rw [after0_7, Pipeline.eq_sum_fin_of_reset_step_apply_last (fun n h => (outsAt0 m c n h).2) 4 (fun _ => 0)
    (fun t (y : S1x256.Idx) => ∑ r, Norm.dg K (lat (A4 m c) (gr t r)) (dh (A0 m c) (A1 m c) (A2 m c) (A3 m c) (gr t r)) (y 1))
    (fun t h y => by idx_vars y; obtain rfl : y0 = 0 := Subsingleton.elim _ _; exact stepg_A m c t h y1)
    (fun t h y => by idx_vars y; obtain rfl : y0 = 0 := Subsingleton.elim _ _; exact stepg_B m c t h y1) (le_of_eq N_0) t0_3 rfl, zero_add]
  exact sum_pts fun r => Norm.dg K (lat (A4 m c) r) (dh (A0 m c) (A1 m c) (A2 m c) (A3 m c) r) _

theorem end_x : (dats m 0 c).arrAt 6 cfg0.N = fun y : S2048x256.Idx => DX (A0 m c) (A1 m c) (A2 m c) (A3 m c) (A4 m c) (A5 m c) (y 0) (y 1) := by
  refine (dats m 0 c).arrAt_eq_of_covers 6 _ (by decide +kernel) fun t hf y => ?_
  blk_simp
  rw [after0_6]
  idx_vars y
  have e0 : ((cfg0.win 6).blk t).view.emb (ix2 y0 y1) 0 = gr t y0 := Fin.ext (by blk_simp [idx_val t])
  have e1 : ((cfg0.win 6).blk t).view.emb (ix2 y0 y1) 1 = y1 := Fin.ext (by blk_simp [idx_val t])
  rw [e0, e1]
  exact stepx m c t y0 y1

section
open Cert.Reference29Ideal.Read
variable (X0 : FVec Ideal S2048x2048 .f32) (X1 : FVec Ideal S256x2048 .f32) (X2 : FVec Ideal S2048x1024 .f32) (X3 : FVec Ideal S256x1024 .f32) (X4 : FVec Ideal S2048x3840 .f32) (X5 : FVec Ideal S4x1x256 .f32)

theorem ref_dh (r : Fin 2048) (l : Fin 256) : val_main_v22 (F := Ideal) X0 X1 X2 X3 (ix2 r l) = dh X0 X1 X2 X3 r l := by
  pointwise [val_main_v22, val_main_v21, val_main_v20, dh]
  exact add_comm _ _
theorem ref_x (r : Fin 2048) (l : Fin 256) : val_main_v0 (F := Ideal) X4 (ix2 r l) = lat X4 r l := by
  pointwise [val_main_v0]
theorem ref_var (r : Fin 2048) : val_main_v9 (F := Ideal) X4 (ix2 r 0) = Norm.var K (lat X4 r) := by
  pointwise [val_main_v3, val_main_cst, val_main_v4, val_main_v5, val_main_cst_0, val_main_v6, val_main_v7, val_main_cst_1, val_main_v8, val_main_v9, Norm.var, ref_x]
theorem ref_inv (r : Fin 2048) : val_main_v10 (F := Ideal) X4 (ix2 r 0) = Norm.inv K (lat X4 r) := by
  pointwise [val_main_v10, ref_var, Norm.inv]
theorem ref_slope (r : Fin 2048) : val_main_v13 (F := Ideal) X4 (ix2 r 0) = Norm.slope K (lat X4 r) := by
  pointwise [val_main_v11, val_main_cst_2, val_main_v12, val_main_v13, ref_var, ref_inv, Norm.slope]
theorem ref_dg (l : Fin 256) : val_main_v25 (F := Ideal) X0 X1 X2 X3 X4 (ix2 0 l) = DG X0 X1 X2 X3 X4 l := by
  pointwise [val_main_v23, val_main_cst_3, val_main_v24, val_main_v25, val_main_v14, val_main_v15, ref_inv, ref_dh, DG, Norm.dg, ref_x]
theorem ref_dhg (r : Fin 2048) (l : Fin 256) : val_main_v27 (F := Ideal) X0 X1 X2 X3 X5 (ix2 r l) = dh X0 X1 X2 X3 r l * gain X5 0 l := by
  pointwise [val_main_v26, val_main_v27, val_main_v0, val_main_v1, val_main_v2, ref_dh, gain]
theorem ref_coef (r : Fin 2048) (l : Fin 256) : val_main_v37 (F := Ideal) X0 X1 X2 X3 X4 X5 (ix2 r l) = Norm.coef K (lat X4 r) (gain X5 0) (dh X0 X1 X2 X3 r) := by
  pointwise [val_main_v28, val_main_cst_4, val_main_v29, val_main_v30, val_main_v31, val_main_v32, val_main_v33, val_main_cst_5, val_main_v34, val_main_v35, val_main_cst_6, val_main_v36, val_main_v37, ref_dhg, ref_slope, Norm.coef, ref_x]
  simp only [Fin.sum_univ_one, ref_slope]
theorem ref_dx (r : Fin 2048) (l : Fin 256) : val_main_v42 (F := Ideal) X0 X1 X2 X3 X4 X5 (ix2 r l) = DX X0 X1 X2 X3 X4 X5 r l := by
  pointwise [val_main_v28, val_main_cst_4, val_main_v29, val_main_v30, val_main_v31, val_main_v32, val_main_v38, val_main_v39, val_main_v40, val_main_v41, val_main_v42, ref_coef, ref_dhg, ref_inv, DX, Norm.dx, ref_x]
end

theorem frame_p : Cert.quiescent_Kernel29 := fun m ρ _ => Cert.Kernel29.Gen.frame m ρ
theorem frame_pi : Cert.quiescent_Kernel29Ideal := fun m ρ _ => Cert.Kernel29Ideal.Gen.frame m ρ
theorem frame_ri : Cert.quiescent_Reference29Ideal := fun m ρ _ =>
  (θ_run Cert.Reference29Ideal.defs _ _).mono (fun r h => ⟨fun c => (h c).2.2, sem_eq_zero_of_no_sems (by decide) r.2⟩)
    (Cert.Reference29Ideal.Value.run (F := Ideal) m ρ)
theorem preserves : Cert.preserves_Kernel29_Kernel29Ideal := trivial

theorem algebraic : Cert.algebraic_Kernel29Ideal_Reference29Ideal := by
  intro m g m' g' _ hag
  refine ⟨fun c => (dats m 0 c).arrAt 6 cfg0.N, fun c => (dats m 0 c).arrAt 7 cfg0.N, Value.run_blocks m g,
    (θ_run Cert.Reference29Ideal.defs _ _).mono (fun r h c => ?_) (Cert.Reference29Ideal.Value.run (F := Ideal) m' g')⟩
  obtain ⟨a0, a1, a2, a3, a4, a5⟩ := hag c
  obtain ⟨e1, e2, k⟩ := h c
  refine ⟨e1.trans ?_, e2.trans ?_, k⟩
  · rw [Cert.Reference29Ideal.Read.val_main_v42_eq, a0, a1, a2, a3, a4, a5]
    refine Eq.trans (funext fun y => ?_) (end_x m c).symm
    idx_vars y
    exact ref_dx _ _ _ _ _ _ y0 y1
  · rw [Cert.Reference29Ideal.Read.val_main_v25_eq, a0, a1, a2, a3, a4]
    refine Eq.trans (funext fun y => ?_) (end_g m c).symm
    idx_vars y
    obtain rfl : y0 = 0 := Subsingleton.elim _ _
    exact ref_dg _ _ _ _ _ y1

end Cert.UkvA
end
-- ==== Proof.Mk.lean ====
/- Hand-written: the keys of the memory attention, a product with the key weight. -/
module

public import proofs.«01_k».proof.Defs
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Mk

open Cert.Kernel30Ideal Cert.Kernel30Ideal.Gen

/-- The product at an index. -/
def G (X : FVec Ideal S256x1024 .f32) (W : FVec Ideal S1024x1024 .f32) (r : Fin 256) (j : Fin 1024) : EReal := ∑ k, X (ix2 r k) * W (ix2 k j)

theorem body (b0 : FVec Ideal S256x1024 .bf16) (b1 : FVec Ideal S1024x512 .bf16) (r : Fin 256) (j : Fin 512) :
    out0_2 (F := Ideal) b0 b1 (ix2 r j) = ∑ k, b0 (ix2 r k) * b1 (ix2 k j) := by
  frame_out
  open_payloads
  pointwise []

variable (m : (ℓ : Loc nD τ sig) → Buf (Elt Ideal) ℓ) (c : Dev nD)

abbrev A0 : FVec Ideal S256x1024 .f32 := m ((c.tc : Thread nD τ).loc main_arg0)
abbrev A1 : FVec Ideal S1024x1024 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 256) : Fin 256 := r
/-- Column `j` of the result's block at point `t`. -/
abbrev gj (t : Fin cfg0.N) (j : Fin 512) : Fin 1024 := ⟨t.val * 512 + j.val, by have := N_0; have := t.isLt; change t.val < grid0.N at this; omega⟩

theorem blk0 (t : Fin cfg0.N) (r : Fin 256) (l : Fin 1024) : (iblk m c 0 t : FVec Ideal S256x1024 .bf16) (ix2 r l) = A0 m c (ix2 (gi t r) l) := by
  blk_point [iblk, V, idx_val t]
theorem blk1 (t : Fin cfg0.N) (r : Fin 1024) (l : Fin 512) : (iblk m c 1 t : FVec Ideal S1024x512 .bf16) (ix2 r l) = A1 m c (ix2 r (gj t l)) := by
  blk_point [iblk, V, idx_val t]

theorem point (t : Fin cfg0.N) (r : Fin 256) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S256x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S256x1024 .f32) (x1 : FVec Ideal S1024x1024 .f32) (r : Fin 256) (j : Fin 1024) :
    Cert.Reference30Ideal.Read.val_main_v1 (F := Ideal) x0 x1 (ix2 r j) = G x0 x1 r j := by
  pointwise [Cert.Reference30Ideal.Read.val_main_v1, Cert.Reference30Ideal.Read.val_main_v0, G]

theorem frame_p : Cert.quiescent_Kernel30 := fun m ρ _ => Cert.Kernel30.Gen.frame m ρ
theorem frame_pi : Cert.quiescent_Kernel30Ideal := fun m ρ _ => Cert.Kernel30Ideal.Gen.frame m ρ
theorem frame_ri : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)
theorem preserves : Cert.preserves_Kernel30_Kernel30Ideal := trivial

theorem algebraic : Cert.algebraic_Kernel30Ideal_Reference30Ideal := by
  intro m g m' g' _ hag
  refine ⟨fun c => (dats m 0 c).arrAt 2 cfg0.N, Value.run_blocks m g,
    (θ_run Cert.Reference30Ideal.defs _ _).mono (fun r h c => ?_) (Cert.Reference30Ideal.Value.run (F := Ideal) m' g')⟩
  obtain ⟨a0, a1⟩ := hag c
  obtain ⟨e, k⟩ := h c
  refine ⟨e.trans ?_, k⟩
  refine (Cert.Reference30Ideal.Read.val_main_v1_eq _ _).trans ?_
  rw [a0, a1]
  refine Eq.trans (funext fun y => ?_) (final m c).symm
  idx_vars y
  exact ref _ _ y0 y1

end Cert.Mk
end
-- ==== Proof.VFwd.lean ====
/- Hand-written: the values of the latent attention, a product with the value weight. -/
module

public import proofs.«01_k».proof.Defs
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.VFwd

open Cert.Kernel31Ideal Cert.Kernel31Ideal.Gen

/-- The product at an index. -/
def G (X : FVec Ideal S2048x256 .f32) (W : FVec Ideal S256x1024 .f32) (r : Fin 2048) (j : Fin 1024) : EReal := ∑ k, X (ix2 r k) * W (ix2 k j)

theorem body (b0 : FVec Ideal S2048x256 .bf16) (b1 : FVec Ideal S256x512 .bf16) (r : Fin 2048) (j : Fin 512) :
    out0_2 (F := Ideal) b0 b1 (ix2 r j) = ∑ k, b0 (ix2 r k) * b1 (ix2 k j) := by
  frame_out
  open_payloads
  pointwise []

variable (m : (ℓ : Loc nD τ sig) → Buf (Elt Ideal) ℓ) (c : Dev nD)

abbrev A0 : FVec Ideal S2048x256 .f32 := m ((c.tc : Thread nD τ).loc main_arg0)
abbrev A1 : FVec Ideal S256x1024 .f32 := m ((c.tc : Thread nD τ).loc main_arg1)

theorem idx_val : ∀ t : Fin cfg0.N, win0_0.index t = ![0, 0] ∧ win0_1.index t = ![0, t.val] ∧ win0_2.index t = ![0, t.val] :=
  (by decide +kernel : ∀ t : Fin grid0.N, _)

/-- Row `r` of the result's block at point `t`. -/
abbrev gi (t : Fin cfg0.N) (r : Fin 2048) : Fin 2048 := r
/-- Column `j` of the result's block at point `t`. -/
abbrev gj (t : Fin cfg0.N) (j : Fin 512) : Fin 1024 := ⟨t.val * 512 + j.val, by have := N_0; have := t.isLt; change t.val < grid0.N at this; omega⟩

theorem blk0 (t : Fin cfg0.N) (r : Fin 2048) (l : Fin 256) : (iblk m c 0 t : FVec Ideal S2048x256 .bf16) (ix2 r l) = A0 m c (ix2 (gi t r) l) := by
  blk_point [iblk, V, idx_val t]
theorem blk1 (t : Fin cfg0.N) (r : Fin 256) (l : Fin 512) : (iblk m c 1 t : FVec Ideal S256x512 .bf16) (ix2 r l) = A1 m c (ix2 r (gj t l)) := by
  blk_point [iblk, V, idx_val t]

theorem point (t : Fin cfg0.N) (r : Fin 2048) (j : Fin 512) : out0_2 (F := Ideal) (iblk m c 0 t) (iblk m c 1 t) (ix2 r j) = G (A0 m c) (A1 m c) (gi t r) (gj t j) :=
  (body _ _ r j).trans (Finset.sum_congr rfl fun k _ => by rw [blk0, blk1])

theorem final : (dats m 0 c).arrAt 2 cfg0.N = fun y : S2048x1024.Idx => G (A0 m c) (A1 m c) (y 0) (y 1) := by
  refine (dats m 0 c).arrAt_eq_of_covers 2 _ (by decide +kernel) fun t hf y => ?_
  blk_simp
  rw [after0_2]
  idx_vars y
  have e0 : ((cfg0.win 2).blk t).view.emb (ix2 y0 y1) 0 = gi t y0 := Fin.ext (by blk_simp [idx_val t])
  have e1 : ((cfg0.win 2).blk t).view.emb (ix2 y0 y1) 1 = gj t y1 := Fin.ext (by blk_simp [idx_val t])
  rw [e0, e1]
  exact point m c t y0 y1

theorem ref (x0 : FVec Ideal S2048x256 .f32) (x1 : FVec Ideal S256x1024 .f32) (r : Fin 2048) (j : Fin 1024) :
    Cert.Reference31Ideal.Read.val_main_v1 (F := Ideal) x0 x1 (ix2 r j) = G x0 x1 r j := by
  pointwise [Cert.Reference31Ideal.Read.val_main_v1, Cert.Reference31Ideal.Read.val_main_v0, G]

theorem frame_p : Cert.quiescent_Kernel31 := fun m ρ _ => Cert.Kernel31.Gen.frame m ρ
theorem frame_pi : Cert.quiescent_Kernel31Ideal := fun m ρ _ => Cert.Kernel31Ideal.Gen.frame m ρ
theorem frame_ri : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)
theorem preserves : Cert.preserves_Kernel31_Kernel31Ideal := trivial

theorem algebraic : Cert.algebraic_Kernel31Ideal_Reference31Ideal := by
  intro m g m' g' _ hag
  refine ⟨fun c => (dats m 0 c).arrAt 2 cfg0.N, Value.run_blocks m g,
    (θ_run Cert.Reference31Ideal.defs _ _).mono (fun r h c => ?_) (Cert.Reference31Ideal.Value.run (F := Ideal) m' g')⟩
  obtain ⟨a0, a1⟩ := hag c
  obtain ⟨e, k⟩ := h c
  refine ⟨e.trans ?_, k⟩
  refine (Cert.Reference31Ideal.Read.val_main_v1_eq _ _).trans ?_
  rw [a0, a1]
  refine Eq.trans (funext fun y => ?_) (final m c).symm
  idx_vars y
  exact ref _ _ y0 y1

end Cert.VFwd
end
-- ==== Proof.MemF.lean ====
/- Hand-written: the memory attention, head by head. -/
module

public import proofs.«01_k».proof.Defs
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import Idealize.ShloMosaic.Lib.Pipeline.ValueKit
public import Idealize.ShloMosaic.Lib.Claim
public import proofs.«01_k».proof.Proof.MemFinal

@[expose] public section

set_option maxRecDepth 16384

noncomputable section

open Idealize.ShloMosaic Idealize.ShloMosaic.TcCoe Idealize.SL.Sem
open scoped BigOperators

namespace Cert.MemF

open Cert.Kernel32Ideal Cert.Kernel32Ideal.Gen

open Cert.Soft
open Cert.Mem (score pr col row qrow krow hd ln col_hd col0)

/-- What a point leaves for its query rows. -/
def oPart (x0 x1 x2 : FVec Ideal S256x1024 .bf16) (h : Fin 4) (r d : Fin 256) : EReal := ∑ j, pr (row x0 h r) (row x1 h) j * x2 (ix2 j (col h d))
/-- The attention's output at a head. -/
def oAll (X0 : FVec Ideal S2048x1024 .f32) (X1 X2 : FVec Ideal S256x1024 .f32) (h : Fin 4) (r : Fin 2048) (d : Fin 256) : EReal :=
  ∑ j, pr (qrow X0 h r) (krow X1 h) j * X2 (ix2 j (col h d))

set_option maxHeartbeats 1600000 in
theorem out_3 (b0 b1 b2 : FVec Ideal S256x1024 .bf16) (h : Fin 4) (j d : Fin 256) :
    out0_3 (F := Ideal) b0 b1 b2 (ix2 j (col h d)) = oPart b0 b1 b2 h j d := by
  frame_out
  canon_tiles x hx <;> idx_vars x
  · obtain rfl : h = 3 := Fin.ext (by omega)
    obtain rfl : j = x0 := Fin.ext (by omega)
    obtain rfl : d = x1 := Fin.ext (by omega)
    open_payloads
    pointwise [oPart, pr, prob, ex, tot, top, score]
    rfl
  · obtain rfl : h = 2 := Fin.ext (by omega)
    obtain rfl : j = x0 := Fin.ext (by omega)
    obtain rfl : d = x1 := Fin.ext (by omega)
    open_payloads
    pointwise [oPart, pr, prob, ex, tot, top, score]
    rfl
  · obtain rfl : h = 1 := Fin.ext (by omega)
    obtain rfl : j = x0 := Fin.ext (by omega)
    obtain rfl : d = x1 := Fin.ext (by omega)
    open_payloads
    pointwise [oPart, pr, prob, ex, tot, top, score]
    rfl
  · obtain rfl : h = 0 := Fin.ext (by omega)
    obtain rfl : j = x0 := Fin.ext (by omega)
    obtain rfl : d = x1 := Fin.ext (by omega)
    open_payloads
    pointwise [oPart, pr, prob, ex, tot, top, score]
    simp only [row, col0]

variable (m : (ℓ : Loc nD τ sig) → Buf (Elt Ideal) ℓ) (c : Dev nD)

abbrev A0 : FVec Ideal S2048x1024 .f32 := m ((c.tc : Thread nD τ).loc main_arg0)
abbrev A1 : FVec Ideal S256x1024 .f32 := m ((c.tc : Thread nD τ).loc main_arg1)
abbrev A2 : FVec Ideal S256x1024 .f32 := m ((c.tc : Thread nD τ).loc main_arg2)

theorem idx_val : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Row `r` of point `t`. -/
abbrev gr (t : Fin cfg0.N) (r : Fin 256) : Fin 2048 := ⟨t.val * 256 + r.val, by have := N_0; have := t.isLt; change t.val < grid0.N at this; omega⟩

theorem blk0 (t : Fin cfg0.N) (r : Fin 256) (l : Fin 1024) : (iblk m c 0 t : FVec Ideal S256x1024 .bf16) (ix2 r l) = A0 m c (ix2 (gr t r) l) := by
  blk_point [iblk, V, idx_val t]
theorem blk1 (t : Fin cfg0.N) (r : Fin 256) (l : Fin 1024) : (iblk m c 1 t : FVec Ideal S256x1024 .bf16) (ix2 r l) = A1 m c (ix2 r l) := by
  blk_point [iblk, V, idx_val t]
theorem blk2 (t : Fin cfg0.N) (r : Fin 256) (l : Fin 1024) : (iblk m c 2 t : FVec Ideal S256x1024 .bf16) (ix2 r l) = A2 m c (ix2 r l) := by
  blk_point [iblk, V, idx_val t]
theorem row0 (t : Fin cfg0.N) (h : Fin 4) (r : Fin 256) : row (iblk m c 0 t : FVec Ideal S256x1024 .bf16) h r = qrow (A0 m c) h (gr t r) := funext fun d => blk0 m c t r _
theorem row1 (t : Fin cfg0.N) (h : Fin 4) : row (iblk m c 1 t : FVec Ideal S256x1024 .bf16) h = krow (A1 m c) h := funext fun j => funext fun d => blk1 m c t j _

theorem part (t : Fin cfg0.N) (h : Fin 4) (r d : Fin 256) :
    oPart (iblk m c 0 t : FVec Ideal S256x1024 .bf16) (iblk m c 1 t : FVec Ideal S256x1024 .bf16) (iblk m c 2 t : FVec Ideal S256x1024 .bf16) h r d
      = oAll (A0 m c) (A1 m c) (A2 m c) h (gr t r) d := by
  simp only [oPart, oAll, row0, row1, blk2]

theorem step (t : Fin cfg0.N) (r : Fin 256) (l : Fin 1024) :
    out0_3 (F := Ideal) (iblk m c 0 t) (iblk m c 1 t) (iblk m c 2 t) (ix2 r l) = oAll (A0 m c) (A1 m c) (A2 m c) (hd l) (gr t r) (ln l) := by
  have e := (out_3 (iblk m c 0 t) (iblk m c 1 t) (iblk m c 2 t) (hd l) r (ln l)).trans (part m c t _ _ _)
  rwa [col_hd] at e

theorem final : (dats m 0 c).arrAt 3 cfg0.N = fun y : S2048x1024.Idx => oAll (A0 m c) (A1 m c) (A2 m c) (hd (y 1)) (y 0) (ln (y 1)) := by
  refine (dats m 0 c).arrAt_eq_of_covers 3 _ (by decide +kernel) fun t hf y => ?_
  blk_simp
  rw [after0_3]
  idx_vars y
  have e0 : ((cfg0.win 3).blk t).view.emb (ix2 y0 y1) 0 = gr t y0 := Fin.ext (by blk_simp [idx_val t])
  have e1 : ((cfg0.win 3).blk t).view.emb (ix2 y0 y1) 1 = y1 := Fin.ext (by blk_simp [idx_val t])
  rw [e0, e1]
  exact step m c t y0 y1

section
open Cert.Reference32Ideal.Read
variable (X0 : FVec Ideal S2048x1024 .f32) (X1 X2 : FVec Ideal S256x1024 .f32)
theorem at0 (r : Fin 2048) (h : Fin 4) (d : Fin 256) : val_main_v0 (F := Ideal) X0 (ix3 r h d) = X0 (ix2 r (col h d)) := by
  pointwise [val_main_v0]
theorem at1 (r : Fin 256) (h : Fin 4) (d : Fin 256) : val_main_v1 (F := Ideal) X1 (ix3 r h d) = X1 (ix2 r (col h d)) := by
  pointwise [val_main_v1]
theorem at2 (r : Fin 256) (h : Fin 4) (d : Fin 256) : val_main_v2 (F := Ideal) X2 (ix3 r h d) = X2 (ix2 r (col h d)) := by
  pointwise [val_main_v2]
theorem at5 (h : Fin 4) (r : Fin 2048) (j : Fin 256) : val_main_v5 (F := Ideal) X0 X1 (ix3 h r j) = score (qrow X0 h r) (krow X1 h) j := by
  pointwise [val_main_v5, val_main_v4, val_main_v3, val_main_cst, at0, at1, score]
theorem at6 (h : Fin 4) (r : Fin 2048) : val_main_v6 (F := Ideal) X0 X1 (ix2 h r) = top (score (qrow X0 h r) (krow X1 h)) := by
  pointwise [val_main_v6, val_main_cst_0, at5, top]
theorem at8' (h : Fin 4) (r : Fin 2048) : val_main_v8 (F := Ideal) X0 X1 (ix2 h r) = max (Ideal.ofBits .f32 0xFF800000#32) (val_main_v6 (F := Ideal) X0 X1 (ix2 h r)) := by
  rw [val_main_v8_apply, val_main_v7_apply]
  rfl
theorem at8 (h : Fin 4) (r : Fin 2048) : val_main_v8 (F := Ideal) X0 X1 (ix2 h r) = top (score (qrow X0 h r) (krow X1 h)) :=
  (at8' X0 X1 h r).trans ((congrArg₂ max ninf (at6 X0 X1 h r)).trans (max_bot_left _))
theorem at12 (h : Fin 4) (r : Fin 2048) (j : Fin 256) : val_main_v12 (F := Ideal) X0 X1 (ix3 h r j) = ex (score (qrow X0 h r) (krow X1 h)) j := by
  pointwise [val_main_v12, val_main_v11, val_main_v10, val_main_v9, at5, at8, ex]
theorem at13 (h : Fin 4) (r : Fin 2048) : val_main_v13 (F := Ideal) X0 X1 (ix2 h r) = tot (score (qrow X0 h r) (krow X1 h)) := by
  pointwise [val_main_v13, val_main_cst_2, at12, tot]
theorem at16 (h : Fin 4) (r : Fin 2048) (j : Fin 256) : val_main_v16 (F := Ideal) X0 X1 (ix3 h r j) = pr (qrow X0 h r) (krow X1 h) j := by
  pointwise [val_main_v16, val_main_v15, val_main_v14, at12, at13, pr, prob]
theorem at_last (r : Fin 2048) (l : Fin 1024) : val_main_v20 (F := Ideal) X0 X1 X2 (ix2 r l) = oAll X0 X1 X2 (hd l) r (ln l) := by
  pointwise [val_main_v20, val_main_v19, val_main_v18, val_main_v17, at16, at2, oAll]
  exact Finset.sum_congr rfl fun j _ => mul_comm _ _
end

theorem frame_p : Cert.quiescent_Kernel32 := fun m ρ _ => Cert.Kernel32.Gen.frame m ρ
theorem frame_pi : Cert.quiescent_Kernel32Ideal := fun m ρ _ => Cert.Kernel32Ideal.Gen.frame m ρ
theorem frame_ri : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)
theorem preserves : Cert.preserves_Kernel32_Kernel32Ideal := trivial

theorem algebraic : Cert.algebraic_Kernel32Ideal_Reference32Ideal := by
  intro m g m' g' _ hag
  refine ⟨fun c => (dats m 0 c).arrAt 3 cfg0.N, Value.run_blocks m g,
    (θ_run Cert.Reference32Ideal.defs _ _).mono (fun r h c => ?_) (Cert.Reference32Ideal.Value.run (F := Ideal) m' g')⟩
  obtain ⟨a0, a1, a2⟩ := hag c
  obtain ⟨e, k⟩ := h c
  refine ⟨e.trans ?_, k⟩
  rw [Cert.Reference32Ideal.Read.val_main_v20_eq, a0, a1, a2]
  refine Eq.trans (funext fun y => ?_) (final m c).symm
  idx_vars y
  exact at_last _ _ _ y0 y1

end Cert.MemF
end
-- ==== Proof.DownL.lean ====
/- Hand-written: the feed-forward's second product added to the stream, in the last layer. -/
module

public import proofs.«01_k».proof.Defs
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.DownL

open Cert.Kernel33Ideal Cert.Kernel33Ideal.Gen

/-- The result at an index. -/
def G (X0 : FVec Ideal S2048x2816 .f32) (X1 : FVec Ideal S2816x1024 .f32) (X2 : FVec Ideal S2048x1024 .f32) (r : Fin 2048) (j : Fin 1024) : EReal := (∑ k, X0 (ix2 r k) * X1 (ix2 k j)) + X2 (ix2 r j)

theorem body (b0 : FVec Ideal S1024x2816 .bf16) (b1 : FVec Ideal S2816x512 .bf16) (b2 : FVec Ideal S1024x512 .f32) (r : Fin 1024) (j : Fin 512) :
    out0_3 (F := Ideal) b0 b1 b2 (ix2 r j) = (∑ k, b0 (ix2 r k) * b1 (ix2 k j)) + b2 (ix2 r j) := by
  frame_out
  open_payloads
  pointwise []

variable (m : (ℓ : Loc nD τ sig) → Buf (Elt Ideal) ℓ) (c : Dev nD)

abbrev A0 : FVec Ideal S2048x2816 .f32 := m ((c.tc : Thread nD τ).loc main_arg0)
abbrev A1 : FVec Ideal S2816x1024 .f32 := m ((c.tc : Thread nD τ).loc main_arg1)
abbrev A2 : FVec Ideal S2048x1024 .f32 := m ((c.tc : Thread nD τ).loc main_arg2)

theorem idx_val : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- Row `r` of the result's block at point `t`. -/
abbrev gi (t : Fin cfg0.N) (r : Fin 1024) : Fin 2048 := ⟨(t.val / 2) * 1024 + r.val, by have := N_0; have := t.isLt; change t.val < grid0.N at this; omega⟩
/-- Column `j` of the result's block at point `t`. -/
abbrev gj (t : Fin cfg0.N) (j : Fin 512) : Fin 1024 := ⟨(t.val % 2) * 512 + j.val, by have := N_0; have := t.isLt; change t.val < grid0.N at this; omega⟩

theorem blk0 (t : Fin cfg0.N) (r : Fin 1024) (l : Fin 2816) : (iblk m c 0 t : FVec Ideal S1024x2816 .bf16) (ix2 r l) = A0 m c (ix2 (gi t r) l) := by
  blk_point [iblk, V, idx_val t]
theorem blk1 (t : Fin cfg0.N) (r : Fin 2816) (l : Fin 512) : (iblk m c 1 t : FVec Ideal S2816x512 .bf16) (ix2 r l) = A1 m c (ix2 r (gj t l)) := by
  blk_point [iblk, V, idx_val t]
theorem blk2 (t : Fin cfg0.N) (r : Fin 1024) (l : Fin 512) : (iblk m c 2 t : FVec Ideal S1024x512 .f32) (ix2 r l) = A2 m c (ix2 (gi t r) (gj t l)) := by
  blk_point [iblk, V, idx_val t]

theorem point (t : Fin cfg0.N) (r : Fin 1024) (j : Fin 512) : out0_3 (F := Ideal) (iblk m c 0 t) (iblk m c 1 t) (iblk m c 2 t) (ix2 r j) = G (A0 m c) (A1 m c) (A2 m c) (gi t r) (gj t j) := by
  refine (body _ _ _ r j).trans ?_
  unfold G
  simp only [blk0, blk1, blk2]

theorem final : (dats m 0 c).arrAt 3 cfg0.N = fun y : S2048x1024.Idx => G (A0 m c) (A1 m c) (A2 m c) (y 0) (y 1) := by
  refine (dats m 0 c).arrAt_eq_of_covers 3 _ (by decide +kernel) fun t hf y => ?_
  blk_simp
  rw [after0_3]
  idx_vars y
  have e0 : ((cfg0.win 3).blk t).view.emb (ix2 y0 y1) 0 = gi t y0 := Fin.ext (by blk_simp [idx_val t])
  have e1 : ((cfg0.win 3).blk t).view.emb (ix2 y0 y1) 1 = gj t y1 := Fin.ext (by blk_simp [idx_val t])
  rw [e0, e1]
  exact point m c t y0 y1

section
open Cert.Reference33Ideal.Read
theorem ref (X0 : FVec Ideal S2048x2816 .f32) (X1 : FVec Ideal S2816x1024 .f32) (X2 : FVec Ideal S2048x1024 .f32) (r : Fin 2048) (j : Fin 1024) : val_main_v1 (F := Ideal) X0 X1 X2 (ix2 r j) = G X0 X1 X2 r j := by
  pointwise [val_main_v1, val_main_v0, G]
  exact add_comm _ _
end

theorem frame_p : Cert.quiescent_Kernel33 := fun m ρ _ => Cert.Kernel33.Gen.frame m ρ
theorem frame_pi : Cert.quiescent_Kernel33Ideal := fun m ρ _ => Cert.Kernel33Ideal.Gen.frame m ρ
theorem frame_ri : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)
theorem preserves : Cert.preserves_Kernel33_Kernel33Ideal := trivial

theorem algebraic : Cert.algebraic_Kernel33Ideal_Reference33Ideal := by
  intro m g m' g' _ hag
  refine ⟨fun c => (dats m 0 c).arrAt 3 cfg0.N, Value.run_blocks m g,
    (θ_run Cert.Reference33Ideal.defs _ _).mono (fun r h c => ?_) (Cert.Reference33Ideal.Value.run (F := Ideal) m' g')⟩
  obtain ⟨a0, a1, a2⟩ := hag c
  obtain ⟨e, k⟩ := h c
  refine ⟨e.trans ?_, k⟩
  rw [Cert.Reference33Ideal.Read.val_main_v1_eq, a0, a1, a2]
  refine Eq.trans (funext fun y => ?_) (final m c).symm
  idx_vars y
  exact ref _ _ _ y0 y1

end Cert.DownL
end
-- ==== Proof.AttnRow.lean ====
/- Hand-written: a row of masked scores whose tail is masked out as a whole. The largest score, the exponentials, their
   sum and every weighted sum are those of the row cut before the tail; and dividing a weighted sum by the row's
   sum is the same as weighing with the softmax. -/
module

public import proofs.«01_k».proof.Proof.SoftmaxGrad

@[expose] public section

set_option maxRecDepth 16384

noncomputable section

open Idealize.ShloMosaic
open scoped BigOperators

namespace Cert.Soft

variable {n N : ℕ}

/-- A sum whose terms vanish from `n` on. -/
theorem sum_cut (hn : n ≤ N) (f : Fin N → EReal) (h : ∀ j : Fin N, n ≤ j.val → f j = 0) : ∑ j, f j = ∑ k : Fin n, f (Fin.castLE hn k) := by
  obtain ⟨d, rfl⟩ := Nat.exists_eq_add_of_le hn
  rw [Fin.sum_univ_add, Finset.sum_eq_zero (fun i _ => h (Fin.natAdd n i) (by simp)), add_zero]
  rfl

/-- The row `s` begins with `s'` and is masked from there on. -/
def Cut (hn : n ≤ N) (s : Fin N → EReal) (s' : Fin n → EReal) : Prop := (∀ k, s (Fin.castLE hn k) = s' k) ∧ ∀ j : Fin N, n ≤ j.val → s j = ⊥

variable {hn : n ≤ N} {s : Fin N → EReal} {s' : Fin n → EReal}

theorem Cut.top (h : Cut hn s s') : top s = top s' := by
  unfold Soft.top
  rw [ninf]
  apply le_antisymm
  · rw [Finset.fold_max_le]
    refine ⟨bot_le, fun j _ => ?_⟩
    by_cases hj : n ≤ j.val
    · rw [h.2 j hj]; exact bot_le
    · rw [show j = Fin.castLE hn ⟨j.val, by omega⟩ from rfl, h.1, Finset.le_fold_max]
      exact Or.inr ⟨_, Finset.mem_univ _, le_rfl⟩
  · rw [Finset.fold_max_le]
    refine ⟨bot_le, fun k _ => ?_⟩
    rw [← h.1, Finset.le_fold_max]
    exact Or.inr ⟨_, Finset.mem_univ _, le_rfl⟩

theorem Cut.ex_tail (h : Cut hn s s') (j : Fin N) (hj : n ≤ j.val) : ex s j = 0 := by
  unfold ex
  rw [h.2 j hj, EReal.bot_sub]
  rfl

theorem Cut.ex (h : Cut hn s s') (k : Fin n) : ex s (Fin.castLE hn k) = ex s' k := by
  unfold Soft.ex
  rw [h.1, h.top]

theorem Cut.tot (h : Cut hn s s') : tot s = tot s' := by
  unfold Soft.tot
  rw [sum_cut hn _ h.ex_tail]
  exact Finset.sum_congr rfl fun k _ => h.ex k

theorem Cut.weighted (h : Cut hn s s') (v : Fin N → EReal) : ∑ j, Soft.ex s j * v j = ∑ k, Soft.ex s' k * v (Fin.castLE hn k) := by
  rw [sum_cut hn _ fun j hj => by rw [h.ex_tail j hj, zero_mul]]
  exact Finset.sum_congr rfl fun k _ => by rw [h.ex k]

/-- Weighing real values with the softmax is dividing the weighted sum of the exponentials by their sum. -/
theorem prob_sum (h : Row s) (v : Fin N → EReal) (hv : ∀ j, Re (v j)) : ∑ j, prob s j * v j = Ideal.div (∑ j, Soft.ex s j * v j) (Soft.tot s) := by
  obtain ⟨e, he, hL⟩ := ex_real h
  choose w hw using hv
  unfold prob Soft.tot
  simp only [he, hw, ← coe_sum, ← EReal.coe_mul]
  simp only [div_real _ hL.ne', ← EReal.coe_mul, ← coe_sum]
  rw [Finset.sum_div]
  exact congrArg _ (Finset.sum_congr rfl fun j _ => by ring)

/-- A weighted sum of zeros divided by the row's sum is zero. -/
theorem div_zero_sum (h : Row s) : Ideal.div 0 (Soft.tot s) = 0 := by
  obtain ⟨e, he, hL⟩ := ex_real h
  unfold Soft.tot
  simp only [he, ← coe_sum]
  rw [← EReal.coe_zero, div_real _ hL.ne', zero_div]

/-- The logarithm of the sum of the exponentials of a row. -/
def lse (s : Fin N → EReal) : EReal := Soft.top s + Ideal.log (Soft.tot s)

theorem Cut.lse (h : Cut hn s s') : lse s = lse s' := by
  unfold Soft.lse
  rw [h.top, h.tot]

end Cert.Soft

namespace Cert.Mla

/-- The scale of the scores. -/
abbrev scale : EReal := Ideal.ofBits .f32 0x3DD105EC#32
/-- The scores of the query at position `R`, masked out from the next key on. -/
def sc {n : ℕ} (q : Fin 128 → EReal) (k : Fin n → Fin 128 → EReal) (R : ℕ) (j : Fin n) : EReal := if j.val ≤ R then (∑ d, q d * k j d) * scale else ⊥

end Cert.Mla
end
-- ==== Proof.MlaBase.lean ====
/- Hand-written: what one point of the latent attention leaves, for a block of queries and the keys up to the block's end. -/
module

public import proofs.«01_k».proof.Proof.Gen.Kernel34Ideal
public import proofs.«01_k».proof.Proof.Gen.Kernel34Ideal.Frame
public import proofs.«01_k».proof.Proof.AttnRow
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Mla

open Cert.Soft Cert.Kernel34Ideal Cert.Kernel34Ideal.Gen

/-- The mask's value. -/
theorem mask : Named.named (F := Ideal) Cert.Kernel34Ideal.κ "mask" (φ := .f32) 0xF149F2CA#32 = (⊥ : EReal) :=
  IdealRules.named_const.ideal_named_scalar _ _ _ _ rfl

/-- Row `r` of a block. -/
abbrev rw2 {a b : ℕ} (x : (⟨2, ![a, b]⟩ : Shape).Idx → EReal) (r : Fin a) : Fin b → EReal := fun d => x (ix2 r d)
/-- Column `d` of head `h` of a pair. -/
abbrev hc (h : Fin 2) (d : Fin 128) : Fin 256 := ⟨h.val * 128 + d.val, by omega⟩
/-- The queries of head `h` of a pair. -/
abbrev qb (x : FVec Ideal S512x256 .bf16) (h : Fin 2) (r : Fin 512) : Fin 128 → EReal := fun d => x (ix2 r (hc h d))
/-- The first `n` keys of head `h` of a pair. -/
abbrev kb (n : ℕ) (hn : n ≤ 2048) (x : FVec Ideal S2048x256 .bf16) (h : Fin 2) (j : Fin n) : Fin 128 → EReal := fun d => x (ix2 (Fin.castLE hn j) (hc h d))
/-- The first `n` values at a lane. -/
abbrev vb (n : ℕ) (hn : n ≤ 2048) (x : FVec Ideal S2048x128 .bf16) (l : Fin 128) (j : Fin n) : EReal := x (ix2 (Fin.castLE hn j) l)

theorem ldq0 (b0 : FVec Ideal S512x256 .bf16) (r : Fin 512) : rw2 (a := 512) (b := 128) (View.ld (Val := Elt Ideal) (e' := .bf16) b0 (Rect.unit ![0, 0] ![512, 128] inb_S512x256_S512x128_0_0)) r = qb b0 0 r := funext fun d => by
  pointwise [rw2, qb, hc]
theorem ldq1 (b0 : FVec Ideal S512x256 .bf16) (r : Fin 512) : rw2 (a := 512) (b := 128) (View.ld (Val := Elt Ideal) (e' := .bf16) b0 (Rect.unit ![0, 128] ![512, 128] inb_S512x256_S512x128_0_128)) r = qb b0 1 r := funext fun d => by
  pointwise [rw2, qb, hc]
end Cert.Mla
end
-- ==== Proof.MlaA.lean ====
/- Hand-written: what one point of the latent attention leaves, for a block of queries and the keys up to position 512. -/
module

public import proofs.«01_k».proof.Proof.Gen.Kernel34Ideal
public import proofs.«01_k».proof.Proof.Gen.Kernel34Ideal.Frame
public import proofs.«01_k».proof.Proof.MlaBase
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Mla

open Cert.Soft Cert.Kernel34Ideal Cert.Kernel34Ideal.Gen

theorem sel_A (j : Fin 512) (r : Fin 512) (x y : EReal) : Scalar.select (Scalar.cmpi .sle (BitVec.ofNat 32 j.val) (IntOp.addi (BitVec.ofNat 32 r.val) 0#32)) x y = if j.val ≤ r.val then x else y := by
  rw [show IntOp.addi (BitVec.ofNat 32 r.val) 0#32 = BitVec.ofNat 32 (r.val) from by simp [IntOp.addi, BitVec.ofNat_add, BitVec.add_comm]]
  word_cmp
theorem pay_A (v : FVec Ideal S512x128 .bf16) (j : Fin 512) (l : Fin 128) : k0_pay1 (F := Ideal) v (ix2 j l) = v (ix2 j l) := by
  pointwise [k0_pay1]
theorem sc_A0 (a : FVec Ideal S512x128 .bf16) (b : FVec Ideal S512x128 .bf16) (r : Fin 512) (j : Fin 512) : k0_pay2 (F := Ideal) a b (ix2 r j) = sc (rw2 a r) (rw2 b) (0 + r.val) j := by
  pointwise [k0_pay2, mask, sc, hlo_ix]
  exact sel_A j r _ _
theorem top_A0 (a : FVec Ideal S512x128 .bf16) (b : FVec Ideal S512x128 .bf16) (r : Fin 512) : k0_pay3 (F := Ideal) a b (ix2 r 0) = top (sc (rw2 a r) (rw2 b) (0 + r.val)) := by
  pointwise [k0_pay3, sc_A0, top]
theorem ex_A0 (a : FVec Ideal S512x128 .bf16) (b : FVec Ideal S512x128 .bf16) (r : Fin 512) (j : Fin 512) : k0_pay4 (F := Ideal) a b (ix2 r j) = ex (sc (rw2 a r) (rw2 b) (0 + r.val)) j := by
  pointwise [k0_pay4, sc_A0, top_A0, ex]
theorem tot_A0 (a : FVec Ideal S512x128 .bf16) (b : FVec Ideal S512x128 .bf16) (r : Fin 512) : k0_pay5 (F := Ideal) a b (ix2 r 0) = tot (sc (rw2 a r) (rw2 b) (0 + r.val)) := by
  pointwise [k0_pay5, ex_A0, tot]
theorem sc_A1 (a : FVec Ideal S512x128 .bf16) (b : FVec Ideal S512x128 .bf16) (r : Fin 512) (j : Fin 512) : k0_pay8 (F := Ideal) a b (ix2 r j) = sc (rw2 a r) (rw2 b) (0 + r.val) j := by
  pointwise [k0_pay8, mask, sc, hlo_ix]
  exact sel_A j r _ _
theorem top_A1 (a : FVec Ideal S512x128 .bf16) (b : FVec Ideal S512x128 .bf16) (r : Fin 512) : k0_pay9 (F := Ideal) a b (ix2 r 0) = top (sc (rw2 a r) (rw2 b) (0 + r.val)) := by
  pointwise [k0_pay9, sc_A1, top]
theorem ex_A1 (a : FVec Ideal S512x128 .bf16) (b : FVec Ideal S512x128 .bf16) (r : Fin 512) (j : Fin 512) : k0_pay10 (F := Ideal) a b (ix2 r j) = ex (sc (rw2 a r) (rw2 b) (0 + r.val)) j := by
  pointwise [k0_pay10, sc_A1, top_A1, ex]
theorem tot_A1 (a : FVec Ideal S512x128 .bf16) (b : FVec Ideal S512x128 .bf16) (r : Fin 512) : k0_pay11 (F := Ideal) a b (ix2 r 0) = tot (sc (rw2 a r) (rw2 b) (0 + r.val)) := by
  pointwise [k0_pay11, ex_A1, tot]
theorem o_A0 (v : FVec Ideal S512x128 .bf16) (a : FVec Ideal S512x128 .bf16) (b : FVec Ideal S512x128 .bf16) (r : Fin 512) (l : Fin 128) : k0_pay6 (F := Ideal) v a b (ix2 r l) = Ideal.div (∑ j, ex (sc (rw2 a r) (rw2 b) (0 + r.val)) j * (if l.val < 64 then v (ix2 j l) else 0)) (tot (sc (rw2 a r) (rw2 b) (0 + r.val))) := by
  pointwise [k0_pay6, k0_pay1, ex_A0, tot_A0, hlo_ix]
  word_cmp
  simp only [mul_ite, mul_zero]
theorem o_A1 (v : FVec Ideal S512x128 .bf16) (u : FVec Ideal S512x128 .f32) (a : FVec Ideal S512x128 .bf16) (b : FVec Ideal S512x128 .bf16) (r : Fin 512) (l : Fin 128) : k0_pay12 (F := Ideal) v (iota .tc S512x128 32 [1] iota_S512x128_d1_w32) u a b (ix2 r l) = u (ix2 r l) + Ideal.div (∑ j, ex (sc (rw2 a r) (rw2 b) (0 + r.val)) j * (if 64 ≤ l.val then v (ix2 j l) else 0)) (tot (sc (rw2 a r) (rw2 b) (0 + r.val))) := by
  pointwise [k0_pay12, ex_A1, tot_A1, hlo_ix]
  word_cmp
  simp only [mul_ite, mul_zero]
theorem l_A0 (a : FVec Ideal S512x128 .bf16) (b : FVec Ideal S512x128 .bf16) (r : Fin 512) (l : Fin 128) : k0_pay7 (F := Ideal) (iota .tc S512x128 32 [1] iota_S512x128_d1_w32) a b (ix2 r l) = if l.val < 64 then lse (sc (rw2 a r) (rw2 b) (0 + r.val)) else 0 := by
  pointwise [k0_pay7, top_A0, tot_A0, lse, hlo_ix]
  word_cmp
theorem l_A1 (u : FVec Ideal S512x128 .f32) (a : FVec Ideal S512x128 .bf16) (b : FVec Ideal S512x128 .bf16) (r : Fin 512) (l : Fin 128) : k0_pay13 (F := Ideal) (iota .tc S512x128 32 [1] iota_S512x128_d1_w32) u a b (ix2 r l) = u (ix2 r l) + if 64 ≤ l.val then lse (sc (rw2 a r) (rw2 b) (0 + r.val)) else 0 := by
  pointwise [k0_pay13, top_A1, tot_A1, lse, hlo_ix]
  word_cmp

theorem ldk_A0 (b1 : FVec Ideal S2048x256 .bf16) : rw2 (a := 512) (b := 128) (View.ld (Val := Elt Ideal) (e' := .bf16) b1 (Rect.unit ![0, 0] ![512, 128] inb_S2048x256_S512x128_0_0)) = kb 512 (by decide) b1 0 := funext fun j => funext fun d => by
  pointwise [rw2, kb, hc]
  rfl
theorem ldk_A1 (b1 : FVec Ideal S2048x256 .bf16) : rw2 (a := 512) (b := 128) (View.ld (Val := Elt Ideal) (e' := .bf16) b1 (Rect.unit ![0, 128] ![512, 128] inb_S2048x256_S512x128_0_128)) = kb 512 (by decide) b1 1 := funext fun j => funext fun d => by
  pointwise [rw2, kb, hc]
  rfl
theorem ldv_A (b2 : FVec Ideal S2048x128 .bf16) (j : Fin 512) (l : Fin 128) : View.ld (Val := Elt Ideal) (e' := .bf16) b2 (Rect.unit ![0, 0] ![512, 128] inb_S2048x128_S512x128_0_0) (ix2 j l) = vb 512 (by decide) b2 l j := by
  pointwise [vb]
  rfl

theorem out_A_3 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond0_0 i) (hc1 : ¬cond0_1 i) (hc2 : ¬cond0_2 i) (hc3 : ¬cond0_3 i) (b0 : FVec Ideal S512x256 .bf16) (b1 : FVec Ideal S2048x256 .bf16) (b2 : FVec Ideal S2048x128 .bf16) (r : Fin 512) (l : Fin 128) :
    out0_A_3 (F := Ideal) c i arg2 harg2 arg3 harg3 arg4 harg4 arg5 harg5 arg6 harg6 hc0 hc1 hc2 hc3 b0 b1 b2 (ix2 r l)
      = Ideal.div (∑ j, ex (sc (qb b0 0 r) (kb 512 (by decide) b1 0) (0 + r.val)) j * (if l.val < 64 then vb 512 (by decide) b2 l j else 0)) (tot (sc (qb b0 0 r) (kb 512 (by decide) b1 0) (0 + r.val)))
        + Ideal.div (∑ j, ex (sc (qb b0 1 r) (kb 512 (by decide) b1 1) (0 + r.val)) j * (if 64 ≤ l.val then vb 512 (by decide) b2 l j else 0)) (tot (sc (qb b0 1 r) (kb 512 (by decide) b1 1) (0 + r.val))) := by
  frame_out
  rw [o_A1, o_A0, ldq0, ldq1, ldk_A0, ldk_A1]
  refine congrArg₂ (· + ·) (congrArg₂ Ideal.div (Finset.sum_congr rfl fun j _ => ?_) rfl) (congrArg₂ Ideal.div (Finset.sum_congr rfl fun j _ => ?_) rfl)
  · rw [ldv_A]
  · rw [pay_A, ldv_A]

theorem out_A_4 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : cond0_0 i) (hc1 : ¬cond0_1 i) (hc2 : ¬cond0_2 i) (hc3 : ¬cond0_3 i) (b0 : FVec Ideal S512x256 .bf16) (b1 : FVec Ideal S2048x256 .bf16) (b2 : FVec Ideal S2048x128 .bf16) (r : Fin 512) (l : Fin 128) :
    out0_A_4 (F := Ideal) c i arg2 harg2 arg3 harg3 arg4 harg4 arg5 harg5 arg6 harg6 hc0 hc1 hc2 hc3 b0 b1 b2 (ix2 r l)
      = (if l.val < 64 then lse (sc (qb b0 0 r) (kb 512 (by decide) b1 0) (0 + r.val)) else 0) + if 64 ≤ l.val then lse (sc (qb b0 1 r) (kb 512 (by decide) b1 1) (0 + r.val)) else 0 := by
  frame_out
  rw [l_A1, l_A0, ldq0, ldq1, ldk_A0, ldk_A1]

end Cert.Mla
end
-- ==== Proof.MlaB.lean ====
/- Hand-written: what one point of the latent attention leaves, for a block of queries and the keys up to position 1024. -/
module

public import proofs.«01_k».proof.Proof.Gen.Kernel34Ideal
public import proofs.«01_k».proof.Proof.Gen.Kernel34Ideal.Frame
public import proofs.«01_k».proof.Proof.MlaBase
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Mla

open Cert.Soft Cert.Kernel34Ideal Cert.Kernel34Ideal.Gen

theorem sel_B (j : Fin 1024) (r : Fin 512) (x y : EReal) : Scalar.select (Scalar.cmpi .sle (BitVec.ofNat 32 j.val) (IntOp.addi (BitVec.ofNat 32 r.val) 512#32)) x y = if j.val ≤ 512 + r.val then x else y := by
  rw [show IntOp.addi (BitVec.ofNat 32 r.val) 512#32 = BitVec.ofNat 32 (512 + r.val) from by simp [IntOp.addi, BitVec.ofNat_add, BitVec.add_comm]]
  word_cmp
theorem pay_B (v : FVec Ideal S1024x128 .bf16) (j : Fin 1024) (l : Fin 128) : k0_pay14 (F := Ideal) v (ix2 j l) = v (ix2 j l) := by
  pointwise [k0_pay14]
theorem sc_B0 (a : FVec Ideal S512x128 .bf16) (b : FVec Ideal S1024x128 .bf16) (r : Fin 512) (j : Fin 1024) : k0_pay15 (F := Ideal) a b (ix2 r j) = sc (rw2 a r) (rw2 b) (512 + r.val) j := by
  pointwise [k0_pay15, mask, sc, hlo_ix]
  exact sel_B j r _ _
theorem top_B0 (a : FVec Ideal S512x128 .bf16) (b : FVec Ideal S1024x128 .bf16) (r : Fin 512) : k0_pay16 (F := Ideal) a b (ix2 r 0) = top (sc (rw2 a r) (rw2 b) (512 + r.val)) := by
  pointwise [k0_pay16, sc_B0, top]
theorem ex_B0 (a : FVec Ideal S512x128 .bf16) (b : FVec Ideal S1024x128 .bf16) (r : Fin 512) (j : Fin 1024) : k0_pay17 (F := Ideal) a b (ix2 r j) = ex (sc (rw2 a r) (rw2 b) (512 + r.val)) j := by
  pointwise [k0_pay17, sc_B0, top_B0, ex]
theorem tot_B0 (a : FVec Ideal S512x128 .bf16) (b : FVec Ideal S1024x128 .bf16) (r : Fin 512) : k0_pay18 (F := Ideal) a b (ix2 r 0) = tot (sc (rw2 a r) (rw2 b) (512 + r.val)) := by
  pointwise [k0_pay18, ex_B0, tot]
theorem sc_B1 (a : FVec Ideal S512x128 .bf16) (b : FVec Ideal S1024x128 .bf16) (r : Fin 512) (j : Fin 1024) : k0_pay21 (F := Ideal) a b (ix2 r j) = sc (rw2 a r) (rw2 b) (512 + r.val) j := by
  pointwise [k0_pay21, mask, sc, hlo_ix]
  exact sel_B j r _ _
theorem top_B1 (a : FVec Ideal S512x128 .bf16) (b : FVec Ideal S1024x128 .bf16) (r : Fin 512) : k0_pay22 (F := Ideal) a b (ix2 r 0) = top (sc (rw2 a r) (rw2 b) (512 + r.val)) := by
  pointwise [k0_pay22, sc_B1, top]
theorem ex_B1 (a : FVec Ideal S512x128 .bf16) (b : FVec Ideal S1024x128 .bf16) (r : Fin 512) (j : Fin 1024) : k0_pay23 (F := Ideal) a b (ix2 r j) = ex (sc (rw2 a r) (rw2 b) (512 + r.val)) j := by
  pointwise [k0_pay23, sc_B1, top_B1, ex]
theorem tot_B1 (a : FVec Ideal S512x128 .bf16) (b : FVec Ideal S1024x128 .bf16) (r : Fin 512) : k0_pay24 (F := Ideal) a b (ix2 r 0) = tot (sc (rw2 a r) (rw2 b) (512 + r.val)) := by
  pointwise [k0_pay24, ex_B1, tot]
theorem o_B0 (v : FVec Ideal S1024x128 .bf16) (a : FVec Ideal S512x128 .bf16) (b : FVec Ideal S1024x128 .bf16) (r : Fin 512) (l : Fin 128) : k0_pay19 (F := Ideal) v a b (ix2 r l) = Ideal.div (∑ j, ex (sc (rw2 a r) (rw2 b) (512 + r.val)) j * (if l.val < 64 then v (ix2 j l) else 0)) (tot (sc (rw2 a r) (rw2 b) (512 + r.val))) := by
  pointwise [k0_pay19, k0_pay14, ex_B0, tot_B0, hlo_ix]
  word_cmp
  simp only [mul_ite, mul_zero]
theorem o_B1 (v : FVec Ideal S1024x128 .bf16) (u : FVec Ideal S512x128 .f32) (a : FVec Ideal S512x128 .bf16) (b : FVec Ideal S1024x128 .bf16) (r : Fin 512) (l : Fin 128) : k0_pay25 (F := Ideal) v (iota .tc S1024x128 32 [1] iota_S1024x128_d1_w32) u a b (ix2 r l) = u (ix2 r l) + Ideal.div (∑ j, ex (sc (rw2 a r) (rw2 b) (512 + r.val)) j * (if 64 ≤ l.val then v (ix2 j l) else 0)) (tot (sc (rw2 a r) (rw2 b) (512 + r.val))) := by
  pointwise [k0_pay25, ex_B1, tot_B1, hlo_ix]
  word_cmp
  simp only [mul_ite, mul_zero]
theorem l_B0 (a : FVec Ideal S512x128 .bf16) (b : FVec Ideal S1024x128 .bf16) (r : Fin 512) (l : Fin 128) : k0_pay20 (F := Ideal) (iota .tc S512x128 32 [1] iota_S512x128_d1_w32) a b (ix2 r l) = if l.val < 64 then lse (sc (rw2 a r) (rw2 b) (512 + r.val)) else 0 := by
  pointwise [k0_pay20, top_B0, tot_B0, lse, hlo_ix]
  word_cmp
theorem l_B1 (u : FVec Ideal S512x128 .f32) (a : FVec Ideal S512x128 .bf16) (b : FVec Ideal S1024x128 .bf16) (r : Fin 512) (l : Fin 128) : k0_pay26 (F := Ideal) (iota .tc S512x128 32 [1] iota_S512x128_d1_w32) u a b (ix2 r l) = u (ix2 r l) + if 64 ≤ l.val then lse (sc (rw2 a r) (rw2 b) (512 + r.val)) else 0 := by
  pointwise [k0_pay26, top_B1, tot_B1, lse, hlo_ix]
  word_cmp

theorem ldk_B0 (b1 : FVec Ideal S2048x256 .bf16) : rw2 (a := 1024) (b := 128) (View.ld (Val := Elt Ideal) (e' := .bf16) b1 (Rect.unit ![0, 0] ![1024, 128] inb_S2048x256_S1024x128_0_0)) = kb 1024 (by decide) b1 0 := funext fun j => funext fun d => by
  pointwise [rw2, kb, hc]
  rfl
theorem ldk_B1 (b1 : FVec Ideal S2048x256 .bf16) : rw2 (a := 1024) (b := 128) (View.ld (Val := Elt Ideal) (e' := .bf16) b1 (Rect.unit ![0, 128] ![1024, 128] inb_S2048x256_S1024x128_0_128)) = kb 1024 (by decide) b1 1 := funext fun j => funext fun d => by
  pointwise [rw2, kb, hc]
  rfl
theorem ldv_B (b2 : FVec Ideal S2048x128 .bf16) (j : Fin 1024) (l : Fin 128) : View.ld (Val := Elt Ideal) (e' := .bf16) b2 (Rect.unit ![0, 0] ![1024, 128] inb_S2048x128_S1024x128_0_0) (ix2 j l) = vb 1024 (by decide) b2 l j := by
  pointwise [vb]
  rfl

theorem out_B_3 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : cond0_1 i) (hc2 : ¬cond0_2 i) (hc3 : ¬cond0_3 i) (b0 : FVec Ideal S512x256 .bf16) (b1 : FVec Ideal S2048x256 .bf16) (b2 : FVec Ideal S2048x128 .bf16) (r : Fin 512) (l : Fin 128) :
    out0_B_3 (F := Ideal) c i arg2 harg2 arg3 harg3 arg4 harg4 arg5 harg5 arg6 harg6 hc0 hc1 hc2 hc3 b0 b1 b2 (ix2 r l)
      = Ideal.div (∑ j, ex (sc (qb b0 0 r) (kb 1024 (by decide) b1 0) (512 + r.val)) j * (if l.val < 64 then vb 1024 (by decide) b2 l j else 0)) (tot (sc (qb b0 0 r) (kb 1024 (by decide) b1 0) (512 + r.val)))
        + Ideal.div (∑ j, ex (sc (qb b0 1 r) (kb 1024 (by decide) b1 1) (512 + r.val)) j * (if 64 ≤ l.val then vb 1024 (by decide) b2 l j else 0)) (tot (sc (qb b0 1 r) (kb 1024 (by decide) b1 1) (512 + r.val))) := by
  frame_out
  rw [o_B1, o_B0, ldq0, ldq1, ldk_B0, ldk_B1]
  refine congrArg₂ (· + ·) (congrArg₂ Ideal.div (Finset.sum_congr rfl fun j _ => ?_) rfl) (congrArg₂ Ideal.div (Finset.sum_congr rfl fun j _ => ?_) rfl)
  · rw [ldv_B]
  · rw [pay_B, ldv_B]

theorem out_B_4 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : cond0_1 i) (hc2 : ¬cond0_2 i) (hc3 : ¬cond0_3 i) (b0 : FVec Ideal S512x256 .bf16) (b1 : FVec Ideal S2048x256 .bf16) (b2 : FVec Ideal S2048x128 .bf16) (r : Fin 512) (l : Fin 128) :
    out0_B_4 (F := Ideal) c i arg2 harg2 arg3 harg3 arg4 harg4 arg5 harg5 arg6 harg6 hc0 hc1 hc2 hc3 b0 b1 b2 (ix2 r l)
      = (if l.val < 64 then lse (sc (qb b0 0 r) (kb 1024 (by decide) b1 0) (512 + r.val)) else 0) + if 64 ≤ l.val then lse (sc (qb b0 1 r) (kb 1024 (by decide) b1 1) (512 + r.val)) else 0 := by
  frame_out
  rw [l_B1, l_B0, ldq0, ldq1, ldk_B0, ldk_B1]

end Cert.Mla
end
-- ==== Proof.MlaC.lean ====
/- Hand-written: what one point of the latent attention leaves, for a block of queries and the keys up to position 1536. -/
module

public import proofs.«01_k».proof.Proof.Gen.Kernel34Ideal
public import proofs.«01_k».proof.Proof.Gen.Kernel34Ideal.Frame
public import proofs.«01_k».proof.Proof.MlaBase
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Mla

open Cert.Soft Cert.Kernel34Ideal Cert.Kernel34Ideal.Gen

theorem sel_C (j : Fin 1536) (r : Fin 512) (x y : EReal) : Scalar.select (Scalar.cmpi .sle (BitVec.ofNat 32 j.val) (IntOp.addi (BitVec.ofNat 32 r.val) 1024#32)) x y = if j.val ≤ 1024 + r.val then x else y := by
  rw [show IntOp.addi (BitVec.ofNat 32 r.val) 1024#32 = BitVec.ofNat 32 (1024 + r.val) from by simp [IntOp.addi, BitVec.ofNat_add, BitVec.add_comm]]
  word_cmp
theorem pay_C (v : FVec Ideal S1536x128 .bf16) (j : Fin 1536) (l : Fin 128) : k0_pay27 (F := Ideal) v (ix2 j l) = v (ix2 j l) := by
  pointwise [k0_pay27]
theorem sc_C0 (a : FVec Ideal S512x128 .bf16) (b : FVec Ideal S1536x128 .bf16) (r : Fin 512) (j : Fin 1536) : k0_pay28 (F := Ideal) a b (ix2 r j) = sc (rw2 a r) (rw2 b) (1024 + r.val) j := by
  pointwise [k0_pay28, mask, sc, hlo_ix]
  exact sel_C j r _ _
theorem top_C0 (a : FVec Ideal S512x128 .bf16) (b : FVec Ideal S1536x128 .bf16) (r : Fin 512) : k0_pay29 (F := Ideal) a b (ix2 r 0) = top (sc (rw2 a r) (rw2 b) (1024 + r.val)) := by
  pointwise [k0_pay29, sc_C0, top]
theorem ex_C0 (a : FVec Ideal S512x128 .bf16) (b : FVec Ideal S1536x128 .bf16) (r : Fin 512) (j : Fin 1536) : k0_pay30 (F := Ideal) a b (ix2 r j) = ex (sc (rw2 a r) (rw2 b) (1024 + r.val)) j := by
  pointwise [k0_pay30, sc_C0, top_C0, ex]
theorem tot_C0 (a : FVec Ideal S512x128 .bf16) (b : FVec Ideal S1536x128 .bf16) (r : Fin 512) : k0_pay31 (F := Ideal) a b (ix2 r 0) = tot (sc (rw2 a r) (rw2 b) (1024 + r.val)) := by
  pointwise [k0_pay31, ex_C0, tot]
theorem sc_C1 (a : FVec Ideal S512x128 .bf16) (b : FVec Ideal S1536x128 .bf16) (r : Fin 512) (j : Fin 1536) : k0_pay34 (F := Ideal) a b (ix2 r j) = sc (rw2 a r) (rw2 b) (1024 + r.val) j := by
  pointwise [k0_pay34, mask, sc, hlo_ix]
  exact sel_C j r _ _
theorem top_C1 (a : FVec Ideal S512x128 .bf16) (b : FVec Ideal S1536x128 .bf16) (r : Fin 512) : k0_pay35 (F := Ideal) a b (ix2 r 0) = top (sc (rw2 a r) (rw2 b) (1024 + r.val)) := by
  pointwise [k0_pay35, sc_C1, top]
theorem ex_C1 (a : FVec Ideal S512x128 .bf16) (b : FVec Ideal S1536x128 .bf16) (r : Fin 512) (j : Fin 1536) : k0_pay36 (F := Ideal) a b (ix2 r j) = ex (sc (rw2 a r) (rw2 b) (1024 + r.val)) j := by
  pointwise [k0_pay36, sc_C1, top_C1, ex]
theorem tot_C1 (a : FVec Ideal S512x128 .bf16) (b : FVec Ideal S1536x128 .bf16) (r : Fin 512) : k0_pay37 (F := Ideal) a b (ix2 r 0) = tot (sc (rw2 a r) (rw2 b) (1024 + r.val)) := by
  pointwise [k0_pay37, ex_C1, tot]
theorem o_C0 (v : FVec Ideal S1536x128 .bf16) (a : FVec Ideal S512x128 .bf16) (b : FVec Ideal S1536x128 .bf16) (r : Fin 512) (l : Fin 128) : k0_pay32 (F := Ideal) v a b (ix2 r l) = Ideal.div (∑ j, ex (sc (rw2 a r) (rw2 b) (1024 + r.val)) j * (if l.val < 64 then v (ix2 j l) else 0)) (tot (sc (rw2 a r) (rw2 b) (1024 + r.val))) := by
  pointwise [k0_pay32, k0_pay27, ex_C0, tot_C0, hlo_ix]
  word_cmp
  simp only [mul_ite, mul_zero]
theorem o_C1 (v : FVec Ideal S1536x128 .bf16) (u : FVec Ideal S512x128 .f32) (a : FVec Ideal S512x128 .bf16) (b : FVec Ideal S1536x128 .bf16) (r : Fin 512) (l : Fin 128) : k0_pay38 (F := Ideal) v (iota .tc S1536x128 32 [1] iota_S1536x128_d1_w32) u a b (ix2 r l) = u (ix2 r l) + Ideal.div (∑ j, ex (sc (rw2 a r) (rw2 b) (1024 + r.val)) j * (if 64 ≤ l.val then v (ix2 j l) else 0)) (tot (sc (rw2 a r) (rw2 b) (1024 + r.val))) := by
  pointwise [k0_pay38, ex_C1, tot_C1, hlo_ix]
  word_cmp
  simp only [mul_ite, mul_zero]
theorem l_C0 (a : FVec Ideal S512x128 .bf16) (b : FVec Ideal S1536x128 .bf16) (r : Fin 512) (l : Fin 128) : k0_pay33 (F := Ideal) (iota .tc S512x128 32 [1] iota_S512x128_d1_w32) a b (ix2 r l) = if l.val < 64 then lse (sc (rw2 a r) (rw2 b) (1024 + r.val)) else 0 := by
  pointwise [k0_pay33, top_C0, tot_C0, lse, hlo_ix]
  word_cmp
theorem l_C1 (u : FVec Ideal S512x128 .f32) (a : FVec Ideal S512x128 .bf16) (b : FVec Ideal S1536x128 .bf16) (r : Fin 512) (l : Fin 128) : k0_pay39 (F := Ideal) (iota .tc S512x128 32 [1] iota_S512x128_d1_w32) u a b (ix2 r l) = u (ix2 r l) + if 64 ≤ l.val then lse (sc (rw2 a r) (rw2 b) (1024 + r.val)) else 0 := by
  pointwise [k0_pay39, top_C1, tot_C1, lse, hlo_ix]
  word_cmp

theorem ldk_C0 (b1 : FVec Ideal S2048x256 .bf16) : rw2 (a := 1536) (b := 128) (View.ld (Val := Elt Ideal) (e' := .bf16) b1 (Rect.unit ![0, 0] ![1536, 128] inb_S2048x256_S1536x128_0_0)) = kb 1536 (by decide) b1 0 := funext fun j => funext fun d => by
  pointwise [rw2, kb, hc]
  rfl
theorem ldk_C1 (b1 : FVec Ideal S2048x256 .bf16) : rw2 (a := 1536) (b := 128) (View.ld (Val := Elt Ideal) (e' := .bf16) b1 (Rect.unit ![0, 128] ![1536, 128] inb_S2048x256_S1536x128_0_128)) = kb 1536 (by decide) b1 1 := funext fun j => funext fun d => by
  pointwise [rw2, kb, hc]
  rfl
theorem ldv_C (b2 : FVec Ideal S2048x128 .bf16) (j : Fin 1536) (l : Fin 128) : View.ld (Val := Elt Ideal) (e' := .bf16) b2 (Rect.unit ![0, 0] ![1536, 128] inb_S2048x128_S1536x128_0_0) (ix2 j l) = vb 1536 (by decide) b2 l j := by
  pointwise [vb]
  rfl

theorem out_C_3 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : ¬cond0_1 i) (hc2 : cond0_2 i) (hc3 : ¬cond0_3 i) (b0 : FVec Ideal S512x256 .bf16) (b1 : FVec Ideal S2048x256 .bf16) (b2 : FVec Ideal S2048x128 .bf16) (r : Fin 512) (l : Fin 128) :
    out0_C_3 (F := Ideal) c i arg2 harg2 arg3 harg3 arg4 harg4 arg5 harg5 arg6 harg6 hc0 hc1 hc2 hc3 b0 b1 b2 (ix2 r l)
      = Ideal.div (∑ j, ex (sc (qb b0 0 r) (kb 1536 (by decide) b1 0) (1024 + r.val)) j * (if l.val < 64 then vb 1536 (by decide) b2 l j else 0)) (tot (sc (qb b0 0 r) (kb 1536 (by decide) b1 0) (1024 + r.val)))
        + Ideal.div (∑ j, ex (sc (qb b0 1 r) (kb 1536 (by decide) b1 1) (1024 + r.val)) j * (if 64 ≤ l.val then vb 1536 (by decide) b2 l j else 0)) (tot (sc (qb b0 1 r) (kb 1536 (by decide) b1 1) (1024 + r.val))) := by
  frame_out
  rw [o_C1, o_C0, ldq0, ldq1, ldk_C0, ldk_C1]
  refine congrArg₂ (· + ·) (congrArg₂ Ideal.div (Finset.sum_congr rfl fun j _ => ?_) rfl) (congrArg₂ Ideal.div (Finset.sum_congr rfl fun j _ => ?_) rfl)
  · rw [ldv_C]
  · rw [pay_C, ldv_C]

theorem out_C_4 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : ¬cond0_1 i) (hc2 : cond0_2 i) (hc3 : ¬cond0_3 i) (b0 : FVec Ideal S512x256 .bf16) (b1 : FVec Ideal S2048x256 .bf16) (b2 : FVec Ideal S2048x128 .bf16) (r : Fin 512) (l : Fin 128) :
    out0_C_4 (F := Ideal) c i arg2 harg2 arg3 harg3 arg4 harg4 arg5 harg5 arg6 harg6 hc0 hc1 hc2 hc3 b0 b1 b2 (ix2 r l)
      = (if l.val < 64 then lse (sc (qb b0 0 r) (kb 1536 (by decide) b1 0) (1024 + r.val)) else 0) + if 64 ≤ l.val then lse (sc (qb b0 1 r) (kb 1536 (by decide) b1 1) (1024 + r.val)) else 0 := by
  frame_out
  rw [l_C1, l_C0, ldq0, ldq1, ldk_C0, ldk_C1]

end Cert.Mla
end
-- ==== Proof.MlaD.lean ====
/- Hand-written: what one point of the latent attention leaves, for a block of queries and the keys up to position 2048. -/
module

public import proofs.«01_k».proof.Proof.Gen.Kernel34Ideal
public import proofs.«01_k».proof.Proof.Gen.Kernel34Ideal.Frame
public import proofs.«01_k».proof.Proof.MlaBase
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.Mla

open Cert.Soft Cert.Kernel34Ideal Cert.Kernel34Ideal.Gen

theorem sel_D (j : Fin 2048) (r : Fin 512) (x y : EReal) : Scalar.select (Scalar.cmpi .sle (BitVec.ofNat 32 j.val) (IntOp.addi (BitVec.ofNat 32 r.val) 1536#32)) x y = if j.val ≤ 1536 + r.val then x else y := by
  rw [show IntOp.addi (BitVec.ofNat 32 r.val) 1536#32 = BitVec.ofNat 32 (1536 + r.val) from by simp [IntOp.addi, BitVec.ofNat_add, BitVec.add_comm]]
  word_cmp
theorem pay_D (v : FVec Ideal S2048x128 .bf16) (j : Fin 2048) (l : Fin 128) : k0_pay40 (F := Ideal) v (ix2 j l) = v (ix2 j l) := by
  pointwise [k0_pay40]
theorem sc_D0 (a : FVec Ideal S512x128 .bf16) (b : FVec Ideal S2048x128 .bf16) (r : Fin 512) (j : Fin 2048) : k0_pay41 (F := Ideal) a b (ix2 r j) = sc (rw2 a r) (rw2 b) (1536 + r.val) j := by
  pointwise [k0_pay41, mask, sc, hlo_ix]
  exact sel_D j r _ _
theorem top_D0 (a : FVec Ideal S512x128 .bf16) (b : FVec Ideal S2048x128 .bf16) (r : Fin 512) : k0_pay42 (F := Ideal) a b (ix2 r 0) = top (sc (rw2 a r) (rw2 b) (1536 + r.val)) := by
  pointwise [k0_pay42, sc_D0, top]
theorem ex_D0 (a : FVec Ideal S512x128 .bf16) (b : FVec Ideal S2048x128 .bf16) (r : Fin 512) (j : Fin 2048) : k0_pay43 (F := Ideal) a b (ix2 r j) = ex (sc (rw2 a r) (rw2 b) (1536 + r.val)) j := by
  pointwise [k0_pay43, sc_D0, top_D0, ex]
theorem tot_D0 (a : FVec Ideal S512x128 .bf16) (b : FVec Ideal S2048x128 .bf16) (r : Fin 512) : k0_pay44 (F := Ideal) a b (ix2 r 0) = tot (sc (rw2 a r) (rw2 b) (1536 + r.val)) := by
  pointwise [k0_pay44, ex_D0, tot]
theorem sc_D1 (a : FVec Ideal S512x128 .bf16) (b : FVec Ideal S2048x128 .bf16) (r : Fin 512) (j : Fin 2048) : k0_pay47 (F := Ideal) a b (ix2 r j) = sc (rw2 a r) (rw2 b) (1536 + r.val) j := by
  pointwise [k0_pay47, mask, sc, hlo_ix]
  exact sel_D j r _ _
theorem top_D1 (a : FVec Ideal S512x128 .bf16) (b : FVec Ideal S2048x128 .bf16) (r : Fin 512) : k0_pay48 (F := Ideal) a b (ix2 r 0) = top (sc (rw2 a r) (rw2 b) (1536 + r.val)) := by
  pointwise [k0_pay48, sc_D1, top]
theorem ex_D1 (a : FVec Ideal S512x128 .bf16) (b : FVec Ideal S2048x128 .bf16) (r : Fin 512) (j : Fin 2048) : k0_pay49 (F := Ideal) a b (ix2 r j) = ex (sc (rw2 a r) (rw2 b) (1536 + r.val)) j := by
  pointwise [k0_pay49, sc_D1, top_D1, ex]
theorem tot_D1 (a : FVec Ideal S512x128 .bf16) (b : FVec Ideal S2048x128 .bf16) (r : Fin 512) : k0_pay50 (F := Ideal) a b (ix2 r 0) = tot (sc (rw2 a r) (rw2 b) (1536 + r.val)) := by
  pointwise [k0_pay50, ex_D1, tot]
theorem o_D0 (v : FVec Ideal S2048x128 .bf16) (a : FVec Ideal S512x128 .bf16) (b : FVec Ideal S2048x128 .bf16) (r : Fin 512) (l : Fin 128) : k0_pay45 (F := Ideal) v a b (ix2 r l) = Ideal.div (∑ j, ex (sc (rw2 a r) (rw2 b) (1536 + r.val)) j * (if l.val < 64 then v (ix2 j l) else 0)) (tot (sc (rw2 a r) (rw2 b) (1536 + r.val))) := by
  pointwise [k0_pay45, k0_pay40, ex_D0, tot_D0, hlo_ix]
  word_cmp
  simp only [mul_ite, mul_zero]
theorem o_D1 (v : FVec Ideal S2048x128 .bf16) (u : FVec Ideal S512x128 .f32) (a : FVec Ideal S512x128 .bf16) (b : FVec Ideal S2048x128 .bf16) (r : Fin 512) (l : Fin 128) : k0_pay51 (F := Ideal) v (iota .tc S2048x128 32 [1] iota_S2048x128_d1_w32) u a b (ix2 r l) = u (ix2 r l) + Ideal.div (∑ j, ex (sc (rw2 a r) (rw2 b) (1536 + r.val)) j * (if 64 ≤ l.val then v (ix2 j l) else 0)) (tot (sc (rw2 a r) (rw2 b) (1536 + r.val))) := by
  pointwise [k0_pay51, ex_D1, tot_D1, hlo_ix]
  word_cmp
  simp only [mul_ite, mul_zero]
theorem l_D0 (a : FVec Ideal S512x128 .bf16) (b : FVec Ideal S2048x128 .bf16) (r : Fin 512) (l : Fin 128) : k0_pay46 (F := Ideal) (iota .tc S512x128 32 [1] iota_S512x128_d1_w32) a b (ix2 r l) = if l.val < 64 then lse (sc (rw2 a r) (rw2 b) (1536 + r.val)) else 0 := by
  pointwise [k0_pay46, top_D0, tot_D0, lse, hlo_ix]
  word_cmp
theorem l_D1 (u : FVec Ideal S512x128 .f32) (a : FVec Ideal S512x128 .bf16) (b : FVec Ideal S2048x128 .bf16) (r : Fin 512) (l : Fin 128) : k0_pay52 (F := Ideal) (iota .tc S512x128 32 [1] iota_S512x128_d1_w32) u a b (ix2 r l) = u (ix2 r l) + if 64 ≤ l.val then lse (sc (rw2 a r) (rw2 b) (1536 + r.val)) else 0 := by
  pointwise [k0_pay52, top_D1, tot_D1, lse, hlo_ix]
  word_cmp

theorem ldk_D0 (b1 : FVec Ideal S2048x256 .bf16) : rw2 (a := 2048) (b := 128) (View.ld (Val := Elt Ideal) (e' := .bf16) b1 (Rect.unit ![0, 0] ![2048, 128] inb_S2048x256_S2048x128_0_0)) = kb 2048 (by decide) b1 0 := funext fun j => funext fun d => by
  pointwise [rw2, kb, hc]
  rfl
theorem ldk_D1 (b1 : FVec Ideal S2048x256 .bf16) : rw2 (a := 2048) (b := 128) (View.ld (Val := Elt Ideal) (e' := .bf16) b1 (Rect.unit ![0, 128] ![2048, 128] inb_S2048x256_S2048x128_0_128)) = kb 2048 (by decide) b1 1 := funext fun j => funext fun d => by
  pointwise [rw2, kb, hc]
  rfl
theorem ldv_D (b2 : FVec Ideal S2048x128 .bf16) (j : Fin 2048) (l : Fin 128) : View.ld (Val := Elt Ideal) (e' := .bf16) b2 (Rect.unit ![0, 0] ![2048, 128] inb_S2048x128_S2048x128_0_0) (ix2 j l) = vb 2048 (by decide) b2 l j := by
  pointwise [vb]
  rfl

theorem out_D_3 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : ¬cond0_1 i) (hc2 : ¬cond0_2 i) (hc3 : cond0_3 i) (b0 : FVec Ideal S512x256 .bf16) (b1 : FVec Ideal S2048x256 .bf16) (b2 : FVec Ideal S2048x128 .bf16) (r : Fin 512) (l : Fin 128) :
    out0_D_3 (F := Ideal) c i arg2 harg2 arg3 harg3 arg4 harg4 arg5 harg5 arg6 harg6 hc0 hc1 hc2 hc3 b0 b1 b2 (ix2 r l)
      = Ideal.div (∑ j, ex (sc (qb b0 0 r) (kb 2048 (by decide) b1 0) (1536 + r.val)) j * (if l.val < 64 then vb 2048 (by decide) b2 l j else 0)) (tot (sc (qb b0 0 r) (kb 2048 (by decide) b1 0) (1536 + r.val)))
        + Ideal.div (∑ j, ex (sc (qb b0 1 r) (kb 2048 (by decide) b1 1) (1536 + r.val)) j * (if 64 ≤ l.val then vb 2048 (by decide) b2 l j else 0)) (tot (sc (qb b0 1 r) (kb 2048 (by decide) b1 1) (1536 + r.val))) := by
  frame_out
  rw [o_D1, o_D0, ldq0, ldq1, ldk_D0, ldk_D1]
  refine congrArg₂ (· + ·) (congrArg₂ Ideal.div (Finset.sum_congr rfl fun j _ => ?_) rfl) (congrArg₂ Ideal.div (Finset.sum_congr rfl fun j _ => ?_) rfl)
  · rw [show vb 2048 (by decide) b2 l j = b2 (ix2 j l) from rfl]
  · rw [pay_D, show vb 2048 (by decide) b2 l j = b2 (ix2 j l) from rfl]

theorem out_D_4 (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S512x128 .f32) (harg6 : arg6.IsWhole) (hc0 : ¬cond0_0 i) (hc1 : ¬cond0_1 i) (hc2 : ¬cond0_2 i) (hc3 : cond0_3 i) (b0 : FVec Ideal S512x256 .bf16) (b1 : FVec Ideal S2048x256 .bf16) (b2 : FVec Ideal S2048x128 .bf16) (r : Fin 512) (l : Fin 128) :
    out0_D_4 (F := Ideal) c i arg2 harg2 arg3 harg3 arg4 harg4 arg5 harg5 arg6 harg6 hc0 hc1 hc2 hc3 b0 b1 b2 (ix2 r l)
      = (if l.val < 64 then lse (sc (qb b0 0 r) (kb 2048 (by decide) b1 0) (1536 + r.val)) else 0) + if 64 ≤ l.val then lse (sc (qb b0 1 r) (kb 2048 (by decide) b1 1) (1536 + r.val)) else 0 := by
  frame_out
  rw [l_D1, l_D0, ldq0, ldq1, ldk_D0, ldk_D1]

end Cert.Mla
end
-- ==== Proof.MlaRef.lean ====
/- Hand-written: the reference's latent attention, read at an index. -/
module

public import proofs.«01_k».proof.Proof.AttnRow
public import proofs.«01_k».proof.Proof.Gen.Reference34Ideal
public import proofs.«01_k».proof.Proof.Gen.Reference34Ideal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open scoped BigOperators

namespace Cert.MlaRef

open Cert.Soft Cert.Mla Cert.Reference34Ideal Cert.Reference34Ideal.Gen Cert.Reference34Ideal.Read

/-- Column `d` of head `h` of the queries and of the keys. -/
abbrev qcol (h : Fin 16) (d : Fin 128) : Fin 2048 := ⟨h.val * 128 + d.val, by omega⟩
/-- The head a lane of the values lies in. -/
abbrev hd (l : Fin 1024) : Fin 16 := ⟨l.val / 64, by omega⟩
/-- The scores of query `r` at head `h`. -/
def row (X0 X1 : FVec Ideal S2048x2048 .f32) (h : Fin 16) (r : Fin 2048) : Fin 2048 → EReal :=
  sc (fun d => X0 (ix2 r (qcol h d))) (fun j d => X1 (ix2 j (qcol h d))) r.val

variable (X0 X1 : FVec Ideal S2048x2048 .f32) (X2 : FVec Ideal S2048x1024 .f32)

theorem at0 (r : Fin 2048) (h : Fin 16) (d : Fin 128) : val_main_v0 (F := Ideal) X0 (ix3 r h d) = X0 (ix2 r (qcol h d)) := by
  pointwise [val_main_v0]
theorem at1 (r : Fin 2048) (h : Fin 16) (d : Fin 128) : val_main_v1 (F := Ideal) X1 (ix3 r h d) = X1 (ix2 r (qcol h d)) := by
  pointwise [val_main_v1]
theorem at2 (r : Fin 2048) (h : Fin 16) (e : Fin 64) : val_main_v2 (F := Ideal) X2 (ix3 r h e) = X2 (ix2 r ⟨h.val * 64 + e.val, by omega⟩) := by
  pointwise [val_main_v2]
theorem at5 (h : Fin 16) (r j : Fin 2048) : val_main_v5 (F := Ideal) X0 X1 (ix3 h r j)
    = (∑ d, X0 (ix2 r (qcol h d)) * X1 (ix2 j (qcol h d))) * scale := by
  pointwise [val_main_v5, val_main_v4, val_main_v3, val_main_cst, at0, at1]
theorem sel_le (r j : Fin 2048) (a b : EReal) : Scalar.select (Scalar.cmpi .sge (BitVec.ofNat 32 r.val) (BitVec.ofNat 32 j.val)) a b = if j.val ≤ r.val then a else b := by
  word_cmp
theorem at13 (h : Fin 16) (r j : Fin 2048) : val_main_v13 (F := Ideal) X0 X1 (ix3 h r j) = row X0 X1 h r j := by
  pointwise [val_main_v13, val_main_call0_v0, val_main_call0_v1, val_main_call0_v2, val_main_v12, val_main_v11, val_main_v10, val_main_v9, val_main_v8, val_main_v7, val_main_v6, val_main_cst_0, at5, row, sc, hlo_ix]
  rw [show (id (constant (F := Ideal) S_ .f32 0xFF800000#32) ix0 : EReal) = ⊥ from ninf]
  exact sel_le r j _ _
theorem at14 (h : Fin 16) (r : Fin 2048) : val_main_v14 (F := Ideal) X0 X1 (ix2 h r) = top (row X0 X1 h r) := by
  pointwise [val_main_v14, val_main_cst_1, at13, top]
theorem at16' (h : Fin 16) (r : Fin 2048) : val_main_v16 (F := Ideal) X0 X1 (ix2 h r) = max (Ideal.ofBits .f32 0xFF800000#32) (val_main_v14 (F := Ideal) X0 X1 (ix2 h r)) := by
  rw [val_main_v16_apply, val_main_v15_apply]
  rfl
theorem at16 (h : Fin 16) (r : Fin 2048) : val_main_v16 (F := Ideal) X0 X1 (ix2 h r) = top (row X0 X1 h r) :=
  (at16' X0 X1 h r).trans ((congrArg₂ max ninf (at14 X0 X1 h r)).trans (max_bot_left _))
theorem at20 (h : Fin 16) (r j : Fin 2048) : val_main_v20 (F := Ideal) X0 X1 (ix3 h r j) = ex (row X0 X1 h r) j := by
  pointwise [val_main_v20, val_main_v19, val_main_v18, val_main_v17, at13, at16, ex]
theorem at21 (h : Fin 16) (r : Fin 2048) : val_main_v21 (F := Ideal) X0 X1 (ix2 h r) = tot (row X0 X1 h r) := by
  pointwise [val_main_v21, val_main_cst_3, at20, tot]
theorem at24 (h : Fin 16) (r j : Fin 2048) : val_main_v24 (F := Ideal) X0 X1 (ix3 h r j) = prob (row X0 X1 h r) j := by
  pointwise [val_main_v24, val_main_v23, val_main_v22, at20, at21, prob]
theorem at27 (h : Fin 16) (r : Fin 2048) : val_main_v27 (F := Ideal) X0 X1 (ix2 h r) = top (row X0 X1 h r) := by
  pointwise [val_main_v27, val_main_cst_4, at13, top]
theorem at31 (h : Fin 16) (r j : Fin 2048) : val_main_v31 (F := Ideal) X0 X1 (ix3 h r j) = ex (row X0 X1 h r) j := by
  pointwise [val_main_v31, val_main_v30, val_main_v29, val_main_v28, at13, at27, ex]
theorem at32 (h : Fin 16) (r : Fin 2048) : val_main_v32 (F := Ideal) X0 X1 (ix2 h r) = tot (row X0 X1 h r) := by
  pointwise [val_main_v32, val_main_cst_5, at31, tot]
theorem at35 (h : Fin 16) (r : Fin 2048) : val_main_v35 (F := Ideal) X0 X1 (ix3 h r 0) = lse (row X0 X1 h r) := by
  rw [val_main_v35_apply, val_main_v34_apply, val_main_v33_apply, val_main_v28_apply,
    show idx_main_v28 (ix3 h r 0) = ix2 h r from funext fun a => match a with | ⟨0, _⟩ => rfl | ⟨1, _⟩ => rfl,
    show idx_main_v33 (ix3 h r 0) = ix2 h r from funext fun a => match a with | ⟨0, _⟩ => rfl | ⟨1, _⟩ => rfl, at27, at32]
  unfold lse
  generalize top (row X0 X1 h r) = x
  generalize tot (row X0 X1 h r) = y
  rfl
theorem at39 (r : Fin 2048) (l : Fin 1024) : val_main_v39 (F := Ideal) X0 X1 (ix2 r l) = lse (row X0 X1 (hd l) r) := by
  rw [val_main_v39_apply, val_main_v38_apply, val_main_v37_apply,
    show idx_main_v37 (idx_main_v38 (idx_main_v39 (ix2 r l))) = ix3 (hd l) r 0 from funext fun a => match a with
      | ⟨0, _⟩ => Fin.ext (show (r.val * 1024 + l.val) / 64 % 16 = l.val / 64 by omega)
      | ⟨1, _⟩ => Fin.ext (show (r.val * 1024 + l.val) / 1024 = r.val by omega)
      | ⟨2, _⟩ => rfl, at35]
theorem at36 (r : Fin 2048) (l : Fin 1024) : val_main_v36 (F := Ideal) X0 X1 X2 (ix2 r l) = ∑ j, prob (row X0 X1 (hd l) r) j * X2 (ix2 j l) := by
  pointwise [val_main_v36, val_main_v26, val_main_v25, at2, at24]
  refine Finset.sum_congr rfl fun j _ => ?_
  rw [mul_comm]
  congr 3
  exact Fin.ext (by simp only [hd]; omega)

end Cert.MlaRef
end
-- ==== Proof.MlaFwd.lean ====
/- Hand-written: the claims about the latent attention's forward kernel and its reference. -/
module

public import proofs.«01_k».proof.Defs
public import proofs.«01_k».proof.Proof.MlaA
public import proofs.«01_k».proof.Proof.MlaB
public import proofs.«01_k».proof.Proof.MlaC
public import proofs.«01_k».proof.Proof.MlaD
public import proofs.«01_k».proof.Proof.MlaRef
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Pre_finite34
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

namespace Cert.MlaFwd

open Cert.Soft Cert.Mla Cert.Kernel34Ideal Cert.Kernel34Ideal.Gen
open Cert.MlaRef (qcol hd row)

theorem scale_re : Re scale := ⟨13698540 / 134217728, by simp [scale, Ideal.ofBits, Ideal.ieee]; rw [← EReal.coe_mul]; norm_num⟩

/-- The scores of real queries and keys, masked: none is `⊤`, and the first is not masked. -/
theorem row_ok {N : ℕ} (hN : 0 < N) {q : Fin 128 → EReal} {k : Fin N → Fin 128 → EReal} (hq : ∀ d, Re (q d)) (hk : ∀ j d, Re (k j d)) (R : ℕ) : Row (sc q k R) := by
  have hs : ∀ j, Re ((∑ d, q d * k j d) * scale) := fun j => (Re.sum fun d => (hq d).mul (hk j d)).mul scale_re
  refine ⟨fun j => ?_, ⟨0, hN⟩, ?_⟩
  · unfold sc
    split
    · obtain ⟨x, hx⟩ := hs j; rw [hx]; exact EReal.coe_ne_top x
    · exact bot_ne_top
  · unfold sc
    rw [if_pos (Nat.zero_le R)]
    obtain ⟨x, hx⟩ := hs ⟨0, hN⟩; rw [hx]; exact EReal.coe_ne_bot x

section halves

variable {n N : ℕ} {hn : n ≤ N} {s0 s1 : Fin N → EReal} {s0' s1' : Fin n → EReal}

/-- The two heads of a pair side by side: a lane takes its own head's weighted sum, the other head's adds nothing. -/
theorem pair (c0 : Cut hn s0 s0') (c1 : Cut hn s1 s1') (R0 : Row s0) (R1 : Row s1) (v : Fin N → EReal) (hv : ∀ j, Re (v j)) (w : Fin n → EReal)
    (hw : ∀ k, w k = v (Fin.castLE hn k)) (l : Fin 128) :
    Ideal.div (∑ j, ex s0' j * (if l.val < 64 then w j else 0)) (tot s0') + Ideal.div (∑ j, ex s1' j * (if 64 ≤ l.val then w j else 0)) (tot s1')
      = if l.val < 64 then ∑ j, prob s0 j * v j else ∑ j, prob s1 j * v j := by
  obtain rfl : w = fun k => v (Fin.castLE hn k) := funext hw
  rw [← c0.tot, ← c1.tot]
  by_cases h : l.val < 64
  · have h' : ¬64 ≤ l.val := by omega
    simp only [h, h', if_true, if_false, mul_zero, Finset.sum_const_zero]
    rw [div_zero_sum R1, add_zero, prob_sum R0 v hv, c0.weighted v]
  · have h' : 64 ≤ l.val := by omega
    simp only [h, h', if_true, if_false, mul_zero, Finset.sum_const_zero]
    rw [div_zero_sum R0, zero_add, prob_sum R1 v hv, c1.weighted v]

/-- The same of the logarithms. -/
theorem pair_lse (c0 : Cut hn s0 s0') (c1 : Cut hn s1 s1') (l : Fin 128) :
    ((if l.val < 64 then lse s0' else 0) + if 64 ≤ l.val then lse s1' else 0) = if l.val < 64 then lse s0 else lse s1 := by
  rw [← c0.lse, ← c1.lse]
  by_cases h : l.val < 64
  · have h' : ¬64 ≤ l.val := by omega
    simp only [h, h', if_true, if_false, add_zero]
  · have h' : 64 ≤ l.val := by omega
    simp only [h, h', if_true, if_false, zero_add]

end halves

variable (m : (ℓ : Loc nD τ sig) → Buf (Elt Ideal) ℓ) (c : Dev nD)

abbrev A0 : FVec Ideal S2048x2048 .f32 := m ((c.tc : Thread nD τ).loc main_arg0)
abbrev A1 : FVec Ideal S2048x2048 .f32 := m ((c.tc : Thread nD τ).loc main_arg1)
abbrev A2 : FVec Ideal S2048x1024 .f32 := m ((c.tc : Thread nD τ).loc main_arg2)

theorem idx_val : ∀ t : Fin cfg0.N, win0_0.index t = ![t.val % 4, t.val / 4] ∧ win0_1.index t = ![0, t.val / 4] ∧ win0_2.index t = ![0, t.val / 4]
    ∧ win0_3.index t = ![t.val % 4, t.val / 4] ∧ win0_4.index t = ![t.val % 4, t.val / 4] :=
  (by decide +kernel : ∀ t : Fin grid0.N, _)

theorem lt32 (t : Fin cfg0.N) : t.val < 32 := Nat.lt_of_lt_of_eq t.isLt N_0
/-- The query at row `r` of point `t`. -/
abbrev gi (t : Fin cfg0.N) (r : Fin 512) : Fin 2048 := ⟨t.val % 4 * 512 + r.val, by have := lt32 t; omega⟩
/-- Lane `l` of the values and of the results at point `t`. -/
abbrev gj (t : Fin cfg0.N) (l : Fin 128) : Fin 1024 := ⟨t.val / 4 * 128 + l.val, by have := lt32 t; omega⟩
/-- Lane `l` of the queries and keys at point `t`. -/
abbrev gq (t : Fin cfg0.N) (l : Fin 256) : Fin 2048 := ⟨t.val / 4 * 256 + l.val, by have := lt32 t; omega⟩
/-- Head `h` of the pair of point `t`. -/
abbrev hh (t : Fin cfg0.N) (h : Fin 2) : Fin 16 := ⟨t.val / 4 * 2 + h.val, by have := lt32 t; omega⟩

theorem gq_hc (t : Fin cfg0.N) (h : Fin 2) (d : Fin 128) : gq t (hc h d) = qcol (hh t h) d := Fin.ext (by simp only [gq, hc, qcol, hh]; omega)

theorem blk0 (t : Fin cfg0.N) (r : Fin 512) (l : Fin 256) : (iblk m c 0 t : FVec Ideal S512x256 .bf16) (ix2 r l) = A0 m c (ix2 (gi t r) (gq t l)) := by
  blk_point [iblk, V, idx_val t]
theorem blk1 (t : Fin cfg0.N) (r : Fin 2048) (l : Fin 256) : (iblk m c 1 t : FVec Ideal S2048x256 .bf16) (ix2 r l) = A1 m c (ix2 r (gq t l)) := by
  blk_point [iblk, V, idx_val t]
theorem blk2 (t : Fin cfg0.N) (r : Fin 2048) (l : Fin 128) : (iblk m c 2 t : FVec Ideal S2048x128 .bf16) (ix2 r l) = A2 m c (ix2 r (gj t l)) := by
  blk_point [iblk, V, idx_val t]

/-- The reference's row of scores is the point's row and a masked tail. -/
theorem cut (n : ℕ) (hn : n ≤ 2048) (t : Fin cfg0.N) (h : Fin 2) (r : Fin 512) (q0 : ℕ) (hq : q0 + r.val = (gi t r).val) (hl : (gi t r).val < n) :
    Cut hn (row (A0 m c) (A1 m c) (hh t h) (gi t r)) (sc (qb (iblk m c 0 t) h r) (kb n hn (iblk m c 1 t) h) (q0 + r.val)) := by
  have e0 : qb (iblk m c 0 t) h r = fun d => A0 m c (ix2 (gi t r) (qcol (hh t h) d)) := funext fun d => by rw [← gq_hc]; exact blk0 m c t r _
  have e1 : kb n hn (iblk m c 1 t) h = fun j d => A1 m c (ix2 (Fin.castLE hn j) (qcol (hh t h) d)) := funext fun j => funext fun d => by
    rw [← gq_hc]; exact blk1 m c t _ _
  rw [hq, e0, e1]
  exact ⟨fun k => rfl, fun j hj => if_neg (by omega)⟩

variable {m c} (h0 : ∀ i, Re (A0 m c i)) (h1 : ∀ i, Re (A1 m c i)) (h2 : ∀ i, Re (A2 m c i))

/-- The result at an index. -/
def G (X0 X1 : FVec Ideal S2048x2048 .f32) (X2 : FVec Ideal S2048x1024 .f32) (r : Fin 2048) (l : Fin 1024) : EReal := ∑ j, prob (row X0 X1 (hd l) r) j * X2 (ix2 j l)

theorem hd_gj (t : Fin cfg0.N) (l : Fin 128) : hd (gj t l) = if l.val < 64 then hh t 0 else hh t 1 := by
  split <;> exact Fin.ext (by simp only [hd, gj, hh]; omega)
theorem pick {α : Type} (f : Fin 16 → α) (t : Fin cfg0.N) (l : Fin 128) : (if l.val < 64 then f (hh t 0) else f (hh t 1)) = f (hd (gj t l)) := by
  rw [hd_gj]; split <;> rfl

include h0 h1 h2 in
theorem pt3 (t : Fin cfg0.N) (r : Fin 512) (l : Fin 128) : (outsAt0 m c t.val t.isLt).1 (ix2 r l) = G (A0 m c) (A1 m c) (A2 m c) (gi t r) (gj t l) := by
  have R : ∀ h, Row (row (A0 m c) (A1 m c) (hh t h) (gi t r)) := fun h => row_ok (by decide) (fun d => h0 _) (fun j d => h1 _) _
  refine Eq.trans ?_ (pick (fun h => ∑ j, prob (row (A0 m c) (A1 m c) h (gi t r)) j * A2 m c (ix2 j (gj t l))) t l)
  have hk : t.val % 4 = 0 ∨ t.val % 4 = 1 ∨ t.val % 4 = 2 ∨ t.val % 4 = 3 := by omega
  have hr := r.isLt
  rcases hk with k | k | k | k
  · rw [outsAt0_A m c t k (by omega) (by omega) (by omega)]
    dsimp only
    rw [out_A_3]
    exact pair (cut m c 512 (by decide) t 0 r 0 (by simp only [gi]; omega) (by simp only [gi]; omega)) (cut m c 512 (by decide) t 1 r 0 (by simp only [gi]; omega) (by simp only [gi]; omega))
      (R 0) (R 1) (fun j => A2 m c (ix2 j (gj t l))) (fun j => h2 _) _ (fun k => blk2 m c t _ l) l
  · rw [outsAt0_B m c t (by omega) k (by omega) (by omega)]
    dsimp only
    rw [out_B_3]
    exact pair (cut m c 1024 (by decide) t 0 r 512 (by simp only [gi]; omega) (by simp only [gi]; omega)) (cut m c 1024 (by decide) t 1 r 512 (by simp only [gi]; omega) (by simp only [gi]; omega))
      (R 0) (R 1) (fun j => A2 m c (ix2 j (gj t l))) (fun j => h2 _) _ (fun k => blk2 m c t _ l) l
  · rw [outsAt0_C m c t (by omega) (by omega) k (by omega)]
    dsimp only
    rw [out_C_3]
    exact pair (cut m c 1536 (by decide) t 0 r 1024 (by simp only [gi]; omega) (by simp only [gi]; omega)) (cut m c 1536 (by decide) t 1 r 1024 (by simp only [gi]; omega) (by simp only [gi]; omega))
      (R 0) (R 1) (fun j => A2 m c (ix2 j (gj t l))) (fun j => h2 _) _ (fun k => blk2 m c t _ l) l
  · rw [outsAt0_D m c t (by omega) (by omega) (by omega) k]
    dsimp only
    rw [out_D_3]
    exact pair (cut m c 2048 (by decide) t 0 r 1536 (by simp only [gi]; omega) (by simp only [gi]; omega)) (cut m c 2048 (by decide) t 1 r 1536 (by simp only [gi]; omega) (by simp only [gi]; omega))
      (R 0) (R 1) (fun j => A2 m c (ix2 j (gj t l))) (fun j => h2 _) _ (fun k => blk2 m c t _ l) l

variable (m c)

theorem pt4 (t : Fin cfg0.N) (r : Fin 512) (l : Fin 128) : (outsAt0 m c t.val t.isLt).2 (ix2 r l) = lse (row (A0 m c) (A1 m c) (hd (gj t l)) (gi t r)) := by
  refine Eq.trans ?_ (pick (fun h => lse (row (A0 m c) (A1 m c) h (gi t r))) t l)
  have hk : t.val % 4 = 0 ∨ t.val % 4 = 1 ∨ t.val % 4 = 2 ∨ t.val % 4 = 3 := by omega
  have hr := r.isLt
  rcases hk with k | k | k | k
  · rw [outsAt0_A m c t k (by omega) (by omega) (by omega)]
    dsimp only
    rw [out_A_4]
    exact pair_lse (cut m c 512 (by decide) t 0 r 0 (by simp only [gi]; omega) (by simp only [gi]; omega)) (cut m c 512 (by decide) t 1 r 0 (by simp only [gi]; omega) (by simp only [gi]; omega)) l
  · rw [outsAt0_B m c t (by omega) k (by omega) (by omega)]
    dsimp only
    rw [out_B_4]
    exact pair_lse (cut m c 1024 (by decide) t 0 r 512 (by simp only [gi]; omega) (by simp only [gi]; omega)) (cut m c 1024 (by decide) t 1 r 512 (by simp only [gi]; omega) (by simp only [gi]; omega)) l
  · rw [outsAt0_C m c t (by omega) (by omega) k (by omega)]
    dsimp only
    rw [out_C_4]
    exact pair_lse (cut m c 1536 (by decide) t 0 r 1024 (by simp only [gi]; omega) (by simp only [gi]; omega)) (cut m c 1536 (by decide) t 1 r 1024 (by simp only [gi]; omega) (by simp only [gi]; omega)) l
  · rw [outsAt0_D m c t (by omega) (by omega) (by omega) k]
    dsimp only
    rw [out_D_4]
    exact pair_lse (cut m c 2048 (by decide) t 0 r 1536 (by simp only [gi]; omega) (by simp only [gi]; omega)) (cut m c 2048 (by decide) t 1 r 1536 (by simp only [gi]; omega) (by simp only [gi]; omega)) l

variable {m c}
include h0 h1 h2 in
theorem end3 : (dats m 0 c).arrAt 3 cfg0.N = fun y : S2048x1024.Idx => G (A0 m c) (A1 m c) (A2 m c) (y 0) (y 1) := by
  refine (dats m 0 c).arrAt_eq_of_covers 3 _ (by decide +kernel) fun t hf y => ?_
  blk_simp
  rw [after0_3]
  idx_vars y
  have e0 : ((cfg0.win 3).blk t).view.emb (ix2 y0 y1) 0 = gi t y0 := Fin.ext (by blk_simp [idx_val t])
  have e1 : ((cfg0.win 3).blk t).view.emb (ix2 y0 y1) 1 = gj t y1 := Fin.ext (by blk_simp [idx_val t])
  rw [e0, e1]
  exact pt3 h0 h1 h2 t y0 y1

variable (m c)
theorem end4 : (dats m 0 c).arrAt 4 cfg0.N = fun y : S2048x1024.Idx => lse (row (A0 m c) (A1 m c) (hd (y 1)) (y 0)) := by
  refine (dats m 0 c).arrAt_eq_of_covers 4 _ (by decide +kernel) fun t hf y => ?_
  blk_simp
  rw [after0_4]
  idx_vars y
  have e0 : ((cfg0.win 4).blk t).view.emb (ix2 y0 y1) 0 = gi t y0 := Fin.ext (by blk_simp [idx_val t])
  have e1 : ((cfg0.win 4).blk t).view.emb (ix2 y0 y1) 1 = gj t y1 := Fin.ext (by blk_simp [idx_val t])
  rw [e0, e1]
  exact pt4 m c t y0 y1

theorem frame_p : Cert.quiescent_Kernel34 := fun m ρ _ => Cert.Kernel34.Gen.frame m ρ
theorem frame_pi : Cert.quiescent_Kernel34Ideal := fun m ρ _ => Cert.Kernel34Ideal.Gen.frame m ρ
theorem frame_pi_pre : Cert.quiescent_Kernel34Ideal_pre_finite34 := fun m ρ _ => Cert.Kernel34Ideal.Gen.frame m ρ
theorem frame_ri : Cert.quiescent_Reference34Ideal := fun m ρ _ =>
  (θ_run Cert.Reference34Ideal.defs _ _).mono (fun r h => ⟨fun c => (h c).2.2, sem_eq_zero_of_no_sems (by decide) r.2⟩)
    (Cert.Reference34Ideal.Value.run (F := Ideal) m ρ)
theorem frame_ri_pre : Cert.quiescent_Reference34Ideal_pre_finite34 := fun m ρ _ =>
  (θ_run Cert.Reference34Ideal.defs _ _).mono (fun r h => ⟨fun c => (h c).2.2, sem_eq_zero_of_no_sems (by decide) r.2⟩)
    (Cert.Reference34Ideal.Value.run (F := Ideal) m ρ)
theorem preserves : Cert.preserves_Kernel34_Kernel34Ideal := IdealRules.named_const.statement Cert.Kernel34Ideal.κ "mask" .f32 0xF149F2CA#32 ⊥ rfl

/-- The test `|x| < ∞` passed at an index says that the value there is real. -/
theorem re_of_test {x : EReal} (h : FloatOps.cmpf (F := Ideal) (φ := .f32) .olt (FloatOps.absf (F := Ideal) (φ := .f32) x) (Ideal.ofBits .f32 0x7F800000#32) = 1#1) : Re x := by
  refine Re.of_abs ?_
  rw [pinf] at h
  by_contra hn
  simp [FloatOps.cmpf, FloatOps.absf, Ideal.cmp, hn] at h

theorem algebraic : Cert.algebraic_Kernel34Ideal_Reference34Ideal_pre_finite34 := by
  intro m g m' g' hpre hag
  refine ⟨fun c => (dats m 0 c).arrAt 3 cfg0.N, fun c => (dats m 0 c).arrAt 4 cfg0.N, Value.run_blocks m g,
    (θ_run Cert.Reference34Ideal.defs _ _).mono (fun r h c => ?_) (Cert.Reference34Ideal.Value.run (F := Ideal) m' g')⟩
  obtain ⟨a0, a1, a2⟩ := hag c
  obtain ⟨p0, p1, p2⟩ := hpre c
  obtain ⟨e36, e39, k⟩ := h c
  refine ⟨e36.trans ?_, e39.trans ?_, k⟩
  · rw [Cert.Reference34Ideal.Read.val_main_v36_eq, a0, a1, a2]
    refine Eq.trans (funext fun y => ?_) (end3 (m := m) (c := c) (fun i => re_of_test (congrFun p0 i)) (fun i => re_of_test (congrFun p1 i)) (fun i => re_of_test (congrFun p2 i))).symm
    idx_vars y
    exact Cert.MlaRef.at36 _ _ _ y0 y1
  · refine (Cert.Reference34Ideal.Read.val_main_v39_eq _ _).trans ?_
    rw [a0, a1]
    refine Eq.trans (funext fun y => ?_) (end4 m c).symm
    idx_vars y
    exact Cert.MlaRef.at39 _ _ y0 y1

end Cert.MlaFwd
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Pre_finite
public import proofs.«01_k».proof.Proof.MemClaims
public import proofs.«01_k».proof.Proof.Gen.Pre_finite34
public import proofs.«01_k».proof.Proof.UpH
public import proofs.«01_k».proof.Proof.ProjH
public import proofs.«01_k».proof.Proof.OutA
public import proofs.«01_k».proof.Proof.DownA
public import proofs.«01_k».proof.Proof.DownW
public import proofs.«01_k».proof.Proof.UpGW
public import proofs.«01_k».proof.Proof.MoA
public import proofs.«01_k».proof.Proof.MoW
public import proofs.«01_k».proof.Proof.MqW
public import proofs.«01_k».proof.Proof.OutW
public import proofs.«01_k».proof.Proof.XbcW
public import proofs.«01_k».proof.Proof.MqH
public import proofs.«01_k».proof.Proof.UpG
public import proofs.«01_k».proof.Proof.OutF
public import proofs.«01_k».proof.Proof.MoF
public import proofs.«01_k».proof.Proof.DownF
public import proofs.«01_k».proof.Proof.ProjF
public import proofs.«01_k».proof.Proof.Mq
public import proofs.«01_k».proof.Proof.UqW
public import proofs.«01_k».proof.Proof.KnW
public import proofs.«01_k».proof.Proof.VW
public import proofs.«01_k».proof.Proof.CqW
public import proofs.«01_k».proof.Proof.CkvW
public import proofs.«01_k».proof.Proof.SmallW
public import proofs.«01_k».proof.Proof.MkW
public import proofs.«01_k».proof.Proof.MkvA
public import proofs.«01_k».proof.Proof.UqA
public import proofs.«01_k».proof.Proof.UkvA
public import proofs.«01_k».proof.Proof.Mk
public import proofs.«01_k».proof.Proof.VFwd
public import proofs.«01_k».proof.Proof.MemF
public import proofs.«01_k».proof.Proof.DownL
public import proofs.«01_k».proof.Proof.MlaFwd

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Pre_finite.Gen.facts,
  Cert.Pre_finite34.Gen.facts,
  MemClaims.frame_p, MemClaims.frame_pi, MemClaims.frame_pi_pre, MemClaims.frame_ri, MemClaims.frame_ri_pre,
  UpH.frame_p, UpH.frame_pi, UpH.frame_ri,
  ProjH.frame_p, ProjH.frame_pi, ProjH.frame_ri,
  OutA.frame_p, OutA.frame_pi, OutA.frame_ri,
  DownA.frame_p, DownA.frame_pi, DownA.frame_ri,
  DownW.frame_p, DownW.frame_pi, DownW.frame_ri,
  UpGW.frame_p, UpGW.frame_pi, UpGW.frame_ri,
  MoA.frame_p, MoA.frame_pi, MoA.frame_ri,
  MoW.frame_p, MoW.frame_pi, MoW.frame_ri,
  MqW.frame_p, MqW.frame_pi, MqW.frame_ri,
  OutW.frame_p, OutW.frame_pi, OutW.frame_ri,
  XbcW.frame_p, XbcW.frame_pi, XbcW.frame_ri,
  MqH.frame_p, MqH.frame_pi, MqH.frame_ri,
  UpG.frame_p, UpG.frame_pi, UpG.frame_ri,
  OutF.frame_p, OutF.frame_pi, OutF.frame_ri,
  MoF.frame_p, MoF.frame_pi, MoF.frame_ri,
  DownF.frame_p, DownF.frame_pi, DownF.frame_ri,
  ProjF.frame_p, ProjF.frame_pi, ProjF.frame_ri,
  Mq.frame_p, Mq.frame_pi, Mq.frame_ri,
  UqW.frame_p, UqW.frame_pi, UqW.frame_ri,
  KnW.frame_p, KnW.frame_pi, KnW.frame_ri,
  VW.frame_p, VW.frame_pi, VW.frame_ri,
  CqW.frame_p, CqW.frame_pi, CqW.frame_ri,
  CkvW.frame_p, CkvW.frame_pi, CkvW.frame_ri,
  SmallW.frame_p, SmallW.frame_pi, SmallW.frame_ri,
  MkW.frame_p, MkW.frame_pi, MkW.frame_ri,
  MkvA.frame_p, MkvA.frame_pi, MkvA.frame_ri,
  UqA.frame_p, UqA.frame_pi, UqA.frame_ri,
  UkvA.frame_p, UkvA.frame_pi, UkvA.frame_ri,
  Mk.frame_p, Mk.frame_pi, Mk.frame_ri,
  VFwd.frame_p, VFwd.frame_pi, VFwd.frame_ri,
  MemF.frame_p, MemF.frame_pi, MemF.frame_ri,
  DownL.frame_p, DownL.frame_pi, DownL.frame_ri,
  MlaFwd.frame_p, MlaFwd.frame_pi, MlaFwd.frame_pi_pre, MlaFwd.frame_ri, MlaFwd.frame_ri_pre,
  MemClaims.preserves, MemClaims.algebraic,
  UpH.preserves, UpH.algebraic,
  ProjH.preserves, ProjH.algebraic,
  OutA.preserves, OutA.algebraic,
  DownA.preserves, DownA.algebraic,
  DownW.preserves, DownW.algebraic,
  UpGW.preserves, UpGW.algebraic,
  MoA.preserves, MoA.algebraic,
  MoW.preserves, MoW.algebraic,
  MqW.preserves, MqW.algebraic,
  OutW.preserves, OutW.algebraic,
  XbcW.preserves, XbcW.algebraic,
  MqH.preserves, MqH.algebraic,
  UpG.preserves, UpG.algebraic,
  OutF.preserves, OutF.algebraic,
  MoF.preserves, MoF.algebraic,
  DownF.preserves, DownF.algebraic,
  ProjF.preserves, ProjF.algebraic,
  Mq.preserves, Mq.algebraic,
  UqW.preserves, UqW.algebraic,
  KnW.preserves, KnW.algebraic,
  VW.preserves, VW.algebraic,
  CqW.preserves, CqW.algebraic,
  CkvW.preserves, CkvW.algebraic,
  SmallW.preserves, SmallW.algebraic,
  MkW.preserves, MkW.algebraic,
  MkvA.preserves, MkvA.algebraic,
  UqA.preserves, UqA.algebraic,
  UkvA.preserves, UkvA.algebraic,
  Mk.preserves, Mk.algebraic,
  VFwd.preserves, VFwd.algebraic,
  MemF.preserves, MemF.algebraic,
  DownL.preserves, DownL.algebraic,
  MlaFwd.preserves, MlaFwd.algebraic⟩

end Cert.Proof

end
